-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_inputs_finite [hPre_inputs_finite : Cert.Pre_inputs_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_inputs_finite [hPre_inputs_finite : Cert.Pre_inputs_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_inputs_finite_sample [hPre_inputs_finite_sample : Cert.Pre_inputs_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_inputs_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_inputs_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_inputs_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_inputs_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_inputs_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_inputs_finite_sample [hPre_inputs_finite_sample : Cert.Pre_inputs_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_inputs_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_inputs_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_inputs_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_inputs_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_inputs_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_lower_bound_finite [hPre_lower_bound_finite : Cert.Pre_lower_bound_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_lower_bound_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_lower_bound_finite [hPre_lower_bound_finite : Cert.Pre_lower_bound_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_lower_bound_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_inputs_finite [hKernel2Ideal : Cert.Kernel2Ideal.Facts] [hPre_inputs_finite : Cert.Pre_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_inputs_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_inputs_finite [hReference2Ideal : Cert.Reference2Ideal.Facts] [hPre_inputs_finite : Cert.Pre_inputs_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_inputs_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_inputs_finite_sample [hKernel5Ideal : Cert.Kernel5Ideal.Facts] [hPre_inputs_finite_sample : Cert.Pre_inputs_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_inputs_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_inputs_finite_sample [hReference5Ideal : Cert.Reference5Ideal.Facts] [hPre_inputs_finite_sample : Cert.Pre_inputs_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_inputs_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_lower_bound_finite [hKernel4Ideal : Cert.Kernel4Ideal.Facts] [hPre_lower_bound_finite : Cert.Pre_lower_bound_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_lower_bound_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_lower_bound_finite [hReference4Ideal : Cert.Reference4Ideal.Facts] [hPre_lower_bound_finite : Cert.Pre_lower_bound_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_lower_bound_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel2_Kernel2Ideal : Prop :=
  True

def algebraic_Kernel2Ideal_Reference2Ideal_pre_inputs_finite [hKernel2Ideal : Cert.Kernel2Ideal.Facts] [hReference2Ideal : Cert.Reference2Ideal.Facts] [hPre_inputs_finite : Cert.Pre_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_inputs_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel5_Kernel5Ideal : Prop :=
  True

def algebraic_Kernel5Ideal_Reference5Ideal_pre_inputs_finite_sample [hKernel5Ideal : Cert.Kernel5Ideal.Facts] [hReference5Ideal : Cert.Reference5Ideal.Facts] [hPre_inputs_finite_sample : Cert.Pre_inputs_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_inputs_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel4_Kernel4Ideal : Prop :=
  True

def algebraic_Kernel4Ideal_Reference4Ideal_pre_lower_bound_finite [hKernel4Ideal : Cert.Kernel4Ideal.Facts] [hReference4Ideal : Cert.Reference4Ideal.Facts] [hPre_lower_bound_finite : Cert.Pre_lower_bound_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_lower_bound_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v55_6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v13) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel : Cert.Kernel.Facts) (hKernelIdeal : Cert.KernelIdeal.Facts) (hReferenceIdeal : Cert.ReferenceIdeal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_inputs_finite : Cert.Pre_inputs_finite.Facts) (hPre_inputs_finite_sample : Cert.Pre_inputs_finite_sample.Facts) (hPre_lower_bound_finite : Cert.Pre_lower_bound_finite.Facts),
    quiescent_Kernel2 (hKernel2 := hKernel2)
    ∧ quiescent_Kernel2Ideal (hKernel2Ideal := hKernel2Ideal)
    ∧ quiescent_Kernel2Ideal_pre_inputs_finite (hKernel2Ideal := hKernel2Ideal) (hPre_inputs_finite := hPre_inputs_finite)
    ∧ quiescent_Reference2Ideal (hReference2Ideal := hReference2Ideal)
    ∧ quiescent_Reference2Ideal_pre_inputs_finite (hReference2Ideal := hReference2Ideal) (hPre_inputs_finite := hPre_inputs_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Kernel5Ideal_pre_inputs_finite_sample (hKernel5Ideal := hKernel5Ideal) (hPre_inputs_finite_sample := hPre_inputs_finite_sample)
    ∧ quiescent_Reference5Ideal (hReference5Ideal := hReference5Ideal)
    ∧ quiescent_Reference5Ideal_pre_inputs_finite_sample (hReference5Ideal := hReference5Ideal) (hPre_inputs_finite_sample := hPre_inputs_finite_sample)
    ∧ quiescent_Kernel4 (hKernel4 := hKernel4)
    ∧ quiescent_Kernel4Ideal (hKernel4Ideal := hKernel4Ideal)
    ∧ quiescent_Kernel4Ideal_pre_lower_bound_finite (hKernel4Ideal := hKernel4Ideal) (hPre_lower_bound_finite := hPre_lower_bound_finite)
    ∧ quiescent_Reference4Ideal (hReference4Ideal := hReference4Ideal)
    ∧ quiescent_Reference4Ideal_pre_lower_bound_finite (hReference4Ideal := hReference4Ideal) (hPre_lower_bound_finite := hPre_lower_bound_finite)
    ∧ quiescent_Kernel (hKernel := hKernel)
    ∧ quiescent_KernelIdeal (hKernelIdeal := hKernelIdeal)
    ∧ quiescent_ReferenceIdeal (hReferenceIdeal := hReferenceIdeal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel2_Kernel2Ideal
    ∧ algebraic_Kernel2Ideal_Reference2Ideal_pre_inputs_finite (hKernel2Ideal := hKernel2Ideal) (hReference2Ideal := hReference2Ideal) (hPre_inputs_finite := hPre_inputs_finite)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal_pre_inputs_finite_sample (hKernel5Ideal := hKernel5Ideal) (hReference5Ideal := hReference5Ideal) (hPre_inputs_finite_sample := hPre_inputs_finite_sample)
    ∧ preserves_Kernel4_Kernel4Ideal
    ∧ algebraic_Kernel4Ideal_Reference4Ideal_pre_lower_bound_finite (hKernel4Ideal := hKernel4Ideal) (hReference4Ideal := hReference4Ideal) (hPre_lower_bound_finite := hPre_lower_bound_finite)
    ∧ preserves_Kernel_KernelIdeal
    ∧ algebraic_KernelIdeal_ReferenceIdeal (hKernelIdeal := hKernelIdeal) (hReferenceIdeal := hReferenceIdeal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_inputs_finite.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x5632 : Shape := ⟨3, ![1, 1024, 5632]⟩
abbrev S1x64 : Shape := ⟨2, ![1, 64]⟩
abbrev S_ : Shape := ⟨0, ![]⟩

class Facts : Prop where
  bcast_S_S4x4096x1024 : S_.BroadcastsInDim S4x4096x1024 (![] : Fin 0 → Fin S4x4096x1024.rank)
  bcast_S_S4x1x1024 : S_.BroadcastsInDim S4x1x1024 (![] : Fin 0 → Fin S4x1x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn {F : FTy → Type} [FloatOps F] (main_arg0 : FVec F S4x4096x1024 .f32) (main_arg1 : FVec F S4x1x1024 .f32) (main_arg2 : FVec F S4x1x1024 .f32) (main_arg3 : FVec F S1x1024 .f32) (main_arg4 : FVec F S1x1024x5632 .f32) (main_arg5 : FVec F S1x64 .f32) (main_arg6 : FVec F S1x64 .f32) : IVec S4x4096x1024 1 × IVec S4x1x1024 1 × IVec S4x1x1024 1 × IVec S1x1024 1 × IVec S1x1024x5632 1 :=
  let main_v0 : FVec F S4x4096x1024 .f32 := subf main_arg0 main_arg0
  let main_cst : FVec F S_ .f32 := constant S_ .f32 0x00000000#32
  let main_v1 : FVec F S4x4096x1024 .f32 := broadcastInDim S4x4096x1024 ![] bcast_S_S4x4096x1024 main_cst
  let main_v2 : IVec S4x4096x1024 1 := cmpf .oeq main_v0 main_v1
  let main_v3 : FVec F S4x1x1024 .f32 := subf main_arg1 main_arg1
  let main_cst_0 : FVec F S_ .f32 := constant S_ .f32 0x00000000#32
  let main_v4 : FVec F S4x1x1024 .f32 := broadcastInDim S4x1x1024 ![] bcast_S_S4x1x1024 main_cst_0
  let main_v5 : IVec S4x1x1024 1 := cmpf .oeq main_v3 main_v4
  let main_v6 : FVec F S4x1x1024 .f32 := subf main_arg2 main_arg2
  let main_cst_1 : FVec F S_ .f32 := constant S_ .f32 0x00000000#32
  let main_v7 : FVec F S4x1x1024 .f32 := broadcastInDim S4x1x1024 ![] bcast_S_S4x1x1024 main_cst_1
  let main_v8 : IVec S4x1x1024 1 := cmpf .oeq main_v6 main_v7
  let main_v9 : FVec F S1x1024 .f32 := subf main_arg3 main_arg3
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S1x1024x5632 .f32 := subf main_arg4 main_arg4
  let main_cst_3 : FVec F S_ .f32 := constant S_ .f32 0x00000000#32
  let main_v13 : FVec F S1x1024x5632 .f32 := broadcastInDim S1x1024x5632 ![] bcast_S_S1x1024x5632 main_cst_3
  let main_v14 : IVec S1x1024x5632 1 := cmpf .oeq main_v12 main_v13
  (main_v2, main_v5, main_v8, main_v11, main_v14)
-- ==== Pre_inputs_finite_sample.lean ====
abbrev S128x1x1024 : Shape := ⟨3, ![128, 1, 1024]⟩
abbrev S1x128x1024 : Shape := ⟨3, ![1, 128, 1024]⟩
abbrev S1x1024 : Shape := ⟨2, ![1, 1024]⟩
abbrev S1x1024x5632 : Shape := ⟨3, ![1, 1024, 5632]⟩
abbrev S1x64 : Shape := ⟨2, ![1, 64]⟩
abbrev S_ : Shape := ⟨0, ![]⟩

class Facts : Prop where
  bcast_S_S128x1x1024 : S_.BroadcastsInDim S128x1x1024 (![] : Fin 0 → Fin S128x1x1024.rank)
  bcast_S_S1x128x1024 : S_.BroadcastsInDim S1x128x1024 (![] : Fin 0 → Fin S1x128x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn {F : FTy → Type} [FloatOps F] (main_arg0 : FVec F S128x1x1024 .f32) (main_arg1 : FVec F S1x128x1024 .f32) (main_arg2 : FVec F S1x128x1024 .f32) (main_arg3 : FVec F S1x1024 .f32) (main_arg4 : FVec F S1x1024x5632 .f32) (main_arg5 : FVec F S1x64 .f32) (main_arg6 : FVec F S1x64 .f32) : IVec S128x1x1024 1 × IVec S1x128x1024 1 × IVec S1x128x1024 1 × IVec S1x1024 1 × IVec S1x1024x5632 1 :=
  let main_v0 : FVec F S128x1x1024 .f32 := subf main_arg0 main_arg0
  let main_cst : FVec F S_ .f32 := constant S_ .f32 0x00000000#32
  let main_v1 : FVec F S128x1x1024 .f32 := broadcastInDim S128x1x1024 ![] bcast_S_S128x1x1024 main_cst
  let main_v2 : IVec S128x1x1024 1 := cmpf .oeq main_v0 main_v1
  let main_v3 : FVec F S1x128x1024 .f32 := subf main_arg1 main_arg1
  let main_cst_0 : FVec F S_ .f32 := constant S_ .f32 0x00000000#32
  let main_v4 : FVec F S1x128x1024 .f32 := broadcastInDim S1x128x1024 ![] bcast_S_S1x128x1024 main_cst_0
  let main_v5 : IVec S1x128x1024 1 := cmpf .oeq main_v3 main_v4
  let main_v6 : FVec F S1x128x1024 .f32 := subf main_arg2 main_arg2
  let main_cst_1 : FVec F S_ .f32 := constant S_ .f32 0x00000000#32
  let main_v7 : FVec F S1x128x1024 .f32 := broadcastInDim S1x128x1024 ![] bcast_S_S1x128x1024 main_cst_1
  let main_v8 : IVec S1x128x1024 1 := cmpf .oeq main_v6 main_v7
  let main_v9 : FVec F S1x1024 .f32 := subf main_arg3 main_arg3
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S1x1024x5632 .f32 := subf main_arg4 main_arg4
  let main_cst_3 : FVec F S_ .f32 := constant S_ .f32 0x00000000#32
  let main_v13 : FVec F S1x1024x5632 .f32 := broadcastInDim S1x1024x5632 ![] bcast_S_S1x1024x5632 main_cst_3
  let main_v14 : IVec S1x1024x5632 1 := cmpf .oeq main_v12 main_v13
  (main_v2, main_v5, main_v8, main_v11, main_v14)
-- ==== Pre_lower_bound_finite.lean ====
abbrev S128x5632 : Shape := ⟨2, ![128, 5632]⟩
abbrev S2x512 : Shape := ⟨2, ![2, 512]⟩
abbrev S128x4x128x128 : Shape := ⟨4, ![128, 4, 128, 128]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S128x5632 .f32) (main_arg1 : FVec F S2x512 .f32) (main_arg2 : FVec F S128x4x128x128 .f32) : IVec S2x512 1 :=
  let main_v0 : FVec F S2x512 .f32 := subf main_arg1 main_arg1
  let main_cst : FVec F S_ .f32 := constant S_ .f32 0x00000000#32
  let main_v1 : FVec F S2x512 .f32 := broadcastInDim S2x512 ![] bcast_S_S2x512 main_cst
  let main_v2 : IVec S2x512 1 := cmpf .oeq main_v0 main_v1
  main_v2
-- ==== Kernel2.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x5632 : Shape := ⟨3, ![1, 1024, 5632]⟩
abbrev S1x64 : Shape := ⟨2, ![1, 64]⟩
abbrev S16384x1024 : Shape := ⟨2, ![16384, 1024]⟩
abbrev S1024x5632 : Shape := ⟨2, ![1024, 5632]⟩
abbrev S1024x1024 : Shape := ⟨2, ![1024, 1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x512 : Shape := ⟨2, ![2, 512]⟩
abbrev S2x1x512 : Shape := ⟨3, ![2, 1, 512]⟩
abbrev S512x512 : Shape := ⟨2, ![512, 512]⟩
abbrev S_ : Shape := ⟨0, ![]⟩
abbrev S1024 : Shape := ⟨1, ![1024]⟩
abbrev S16384x5632 : Shape := ⟨2, ![16384, 5632]⟩
abbrev S1x1x1024 : Shape := ⟨3, ![1, 1, 1024]⟩
abbrev S1024x512 : Shape := ⟨2, ![1024, 512]⟩
abbrev S1x1x512 : Shape := ⟨3, ![1, 1, 512]⟩
abbrev S1024x1 : Shape := ⟨2, ![1024, 1]⟩

abbrev nBuf : Space → Nat
  | .hbm => 44
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x5632, .f32⟩
  | .hbm, ⟨5, _⟩ => ⟨S1x64, .f32⟩
  | .hbm, ⟨6, _⟩ => ⟨S1x64, .f32⟩
  | .hbm, ⟨7, _⟩ => ⟨S16384x1024, .f32⟩
  | .hbm, ⟨8, _⟩ => ⟨S1024x5632, .f32⟩
  | .hbm, ⟨9, _⟩ => ⟨S1024x5632, .bf16⟩
  | .hbm, ⟨10, _⟩ => ⟨S1024x5632, .f32⟩
  | .hbm, ⟨11, _⟩ => ⟨S1024x5632, .f32⟩
  | .hbm, ⟨12, _⟩ => ⟨S1024x5632, .bf16⟩
  | .hbm, ⟨13, _⟩ => ⟨S1024x1024, .bf16⟩
  | .hbm, ⟨14, _⟩ => ⟨S64, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S64, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S1x512, .f32⟩
  | .hbm, ⟨24, _⟩ => ⟨S2x512, .f32⟩
  | .hbm, ⟨25, _⟩ => ⟨S2x1x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S1024, .f32⟩
  | .hbm, ⟨42, _⟩ => ⟨S1x1024, .f32⟩
  | .hbm, ⟨43, _⟩ => ⟨S16384x5632, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x1x512, .f32⟩
  | .local _ .vmem, ⟨12, _⟩ => ⟨S1x1x512, .f32⟩
  | .local _ .vmem, ⟨13, _⟩ => ⟨S512x512, .bf16⟩
  | .local _ .vmem, ⟨14, _⟩ => ⟨S1024x512, .f32⟩
  | .local _ .vmem, ⟨15, _⟩ => ⟨S1024x512, .f32⟩
  | .local _ .vmem, ⟨16, _⟩ => ⟨S1024x1024, .bf16⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x5632 : Shape := ⟨3, ![1, 1024, 5632]⟩
abbrev S1x64 : Shape := ⟨2, ![1, 64]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x512 : Shape := ⟨3, ![4, 4096, 512]⟩
abbrev S4x4096x8x64 : Shape := ⟨4, ![4, 4096, 8, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x4608 : Shape := ⟨3, ![4, 4096, 4608]⟩
abbrev S16384x5632 : Shape := ⟨2, ![16384, 5632]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x5632, .f32⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1024x5632, .f32⟩
  | .hbm, ⟨32, _⟩ => ⟨S4x4096x5632, .f32⟩
  | .hbm, ⟨33, _⟩ => ⟨S4x4096x512, .f32⟩
  | .hbm, ⟨34, _⟩ => ⟨S4x4096x8x64, .f32⟩
  | .hbm, ⟨35, _⟩ => ⟨S64, .f32⟩
  | .hbm, ⟨36, _⟩ => ⟨S4x4096x8x64, .f32⟩
  | .hbm, ⟨37, _⟩ => ⟨S_, .f32⟩
  | .hbm, ⟨38, _⟩ => ⟨S4x4096x8, .f32⟩
  | .hbm, ⟨39, _⟩ => ⟨S4x4096x8x1, .f32⟩
  | .hbm, ⟨40, _⟩ => ⟨S_, .f32⟩
  | .hbm, ⟨41, _⟩ => ⟨S4x4096x8x1, .f32⟩
  | .hbm, ⟨42, _⟩ => ⟨S4x4096x8x1, .f32⟩
  | .hbm, ⟨43, _⟩ => ⟨S_, .f32⟩
  | .hbm, ⟨44, _⟩ => ⟨S4x4096x8x1, .f32⟩
  | .hbm, ⟨45, _⟩ => ⟨S4x4096x8x1, .f32⟩
  | .hbm, ⟨46, _⟩ => ⟨S4x4096x8x1, .f32⟩
  | .hbm, ⟨47, _⟩ => ⟨S4x4096x8x64, .f32⟩
  | .hbm, ⟨48, _⟩ => ⟨S4x4096x8x64, .f32⟩
  | .hbm, ⟨49, _⟩ => ⟨S1x1x1x64, .f32⟩
  | .hbm, ⟨50, _⟩ => ⟨S4x4096x8x64, .f32⟩
  | .hbm, ⟨51, _⟩ => ⟨S4x4096x8x64, .f32⟩
  | .hbm, ⟨52, _⟩ => ⟨S4x4096x512, .f32⟩
  | .hbm, ⟨53, _⟩ => ⟨S4x4096x8x64, .f32⟩
  | .hbm, ⟨54, _⟩ => ⟨S64, .f32⟩
  | .hbm, ⟨55, _⟩ => ⟨S4x4096x8x64, .f32⟩
  | .hbm, ⟨56, _⟩ => ⟨S_, .f32⟩
  | .hbm, ⟨57, _⟩ => ⟨S4x4096x8, .f32⟩
  | .hbm, ⟨58, _⟩ => ⟨S4x4096x8x1, .f32⟩
  | .hbm, ⟨59, _⟩ => ⟨S_, .f32⟩
  | .hbm, ⟨60, _⟩ => ⟨S4x4096x8x1, .f32⟩
  | .hbm, ⟨61, _⟩ => ⟨S4x4096x8x1, .f32⟩
  | .hbm, ⟨62, _⟩ => ⟨S_, .f32⟩
  | .hbm, ⟨63, _⟩ => ⟨S4x4096x8x1, .f32⟩
  | .hbm, ⟨64, _⟩ => ⟨S4x4096x8x1, .f32⟩
  | .hbm, ⟨65, _⟩ => ⟨S4x4096x8x1, .f32⟩
  | .hbm, ⟨66, _⟩ => ⟨S4x4096x8x64, .f32⟩
  | .hbm, ⟨67, _⟩ => ⟨S4x4096x8x64, .f32⟩
  | .hbm, ⟨68, _⟩ => ⟨S1x1x1x64, .f32⟩
  | .hbm, ⟨69, _⟩ => ⟨S4x4096x8x64, .f32⟩
  | .hbm, ⟨70, _⟩ => ⟨S4x4096x8x64, .f32⟩
  | .hbm, ⟨71, _⟩ => ⟨S4x4096x512, .f32⟩
  | .hbm, ⟨72, _⟩ => ⟨S4x4096x512, .f32⟩
  | .hbm, ⟨73, _⟩ => ⟨S4x4096x4608, .f32⟩
  | .hbm, ⟨74, _⟩ => ⟨S4x4096x5632, .f32⟩
  | .hbm, ⟨75, _⟩ => ⟨S16384x5632, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel3.lean ====
abbrev S16384x512 : Shape := ⟨2, ![16384, 512]⟩
abbrev S16384x5632 : Shape := ⟨2, ![16384, 5632]⟩
abbrev S4x4096x1024 : Shape := ⟨3, ![4, 4096, 1024]⟩
abbrev S4x1x1024 : Shape := ⟨3, ![4, 1, 1024]⟩
abbrev S1x128 : Shape := ⟨2, ![1, 128]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S128 : Shape := ⟨1, ![128]⟩
abbrev S16384x1024 : Shape := ⟨2, ![16384, 1024]⟩
abbrev S512x512 : Shape := ⟨2, ![512, 512]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩

abbrev nBuf : Space → Nat
  | .hbm => 19
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x5632, .f32⟩
  | .hbm, ⟨3, _⟩ => ⟨S4x4096x1024, .f32⟩
  | .hbm, ⟨4, _⟩ => ⟨S4x1x1024, .f32⟩
  | .hbm, ⟨5, _⟩ => ⟨S1x128, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S128, .f32⟩
  | .hbm, ⟨16, _⟩ => ⟨S1x128, .f32⟩
  | .hbm, ⟨17, _⟩ => ⟨S16384x1024, .f32⟩
  | .hbm, ⟨18, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x128, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x512 : Shape := ⟨2, ![16384, 512]⟩
abbrev S16384x5632 : Shape := ⟨2, ![16384, 5632]⟩
abbrev S4x4096x1024 : Shape := ⟨3, ![4, 4096, 1024]⟩
abbrev S4x1x1024 : Shape := ⟨3, ![4, 1, 1024]⟩
abbrev S1x128 : Shape := ⟨2, ![1, 128]⟩
abbrev S1x512x1024 : Shape := ⟨3, ![1, 512, 1024]⟩
abbrev S1x1024x1024 : Shape := ⟨3, ![1, 1024, 1024]⟩
abbrev S4x4096x5632 : Shape := ⟨3, ![4, 4096, 5632]⟩
abbrev S4x4096x512 : Shape := ⟨3, ![4, 4096, 512]⟩
abbrev S4x4096x4x128 : Shape := ⟨4, ![4, 4096, 4, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x5632, .f32⟩
  | .hbm, ⟨3, _⟩ => ⟨S4x4096x1024, .f32⟩
  | .hbm, ⟨4, _⟩ => ⟨S4x1x1024, .f32⟩
  | .hbm, ⟨5, _⟩ => ⟨S1x128, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S4x4096x5632, .f32⟩
  | .hbm, ⟨10, _⟩ => ⟨S4x4096x512, .f32⟩
  | .hbm, ⟨11, _⟩ => ⟨S4x4096x1024, .f32⟩
  | .hbm, ⟨12, _⟩ => ⟨S4x4096x1024, .f32⟩
  | .hbm, ⟨13, _⟩ => ⟨S4x4096x512, .f32⟩
  | .hbm, ⟨14, _⟩ => ⟨S4x4096x4x128, .f32⟩
  | .hbm, ⟨15, _⟩ => ⟨S128, .f32⟩
  | .hbm, ⟨16, _⟩ => ⟨S4x4096x4x128, .f32⟩
  | .hbm, ⟨17, _⟩ => ⟨S_, .f32⟩
  | .hbm, ⟨18, _⟩ => ⟨S4x4096x4, .f32⟩
  | .hbm, ⟨19, _⟩ => ⟨S4x4096x4x1, .f32⟩
  | .hbm, ⟨20, _⟩ => ⟨S_, .f32⟩
  | .hbm, ⟨21, _⟩ => ⟨S4x4096x4x1, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x1, .f32⟩
  | .hbm, ⟨27, _⟩ => ⟨S4x4096x4x128, .f32⟩
  | .hbm, ⟨28, _⟩ => ⟨S4x4096x4x128, .f32⟩
  | .hbm, ⟨29, _⟩ => ⟨S1x1x1x128, .f32⟩
  | .hbm, ⟨30, _⟩ => ⟨S4x4096x4x128, .f32⟩
  | .hbm, ⟨31, _⟩ => ⟨S4x4096x4x128, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S_, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S512x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096x1024, .f32⟩
  | .hbm, ⟨61, _⟩ => ⟨S4x4096x1024, .f32⟩
  | .hbm, ⟨62, _⟩ => ⟨S512x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S1024x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Kernel5.lean ====
abbrev S128x1x1024 : Shape := ⟨3, ![128, 1, 1024]⟩
abbrev S1x128x1024 : Shape := ⟨3, ![1, 128, 1024]⟩
abbrev S1x1024 : Shape := ⟨2, ![1, 1024]⟩
abbrev S1x1024x5632 : Shape := ⟨3, ![1, 1024, 5632]⟩
abbrev S1x64 : Shape := ⟨2, ![1, 64]⟩
abbrev S128x1024 : Shape := ⟨2, ![128, 1024]⟩
abbrev S1024x5632 : Shape := ⟨2, ![1024, 5632]⟩
abbrev S1024x1024 : Shape := ⟨2, ![1024, 1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x512 : Shape := ⟨2, ![2, 512]⟩
abbrev S2x1x512 : Shape := ⟨3, ![2, 1, 512]⟩
abbrev S512x512 : Shape := ⟨2, ![512, 512]⟩
abbrev S_ : Shape := ⟨0, ![]⟩
abbrev S1024 : Shape := ⟨1, ![1024]⟩
abbrev S128x5632 : Shape := ⟨2, ![128, 5632]⟩
abbrev S1024x512 : Shape := ⟨2, ![1024, 512]⟩
abbrev S1x1x512 : Shape := ⟨3, ![1, 1, 512]⟩
abbrev S128x512 : Shape := ⟨2, ![128, 512]⟩
abbrev S128 : Shape := ⟨1, ![128]⟩
abbrev S128x1 : Shape := ⟨2, ![128, 1]⟩

abbrev nBuf : Space → Nat
  | .hbm => 44
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S1x128x1024, .f32⟩
  | .hbm, ⟨2, _⟩ => ⟨S1x128x1024, .f32⟩
  | .hbm, ⟨3, _⟩ => ⟨S1x1024, .f32⟩
  | .hbm, ⟨4, _⟩ => ⟨S1x1024x5632, .f32⟩
  | .hbm, ⟨5, _⟩ => ⟨S1x64, .f32⟩
  | .hbm, ⟨6, _⟩ => ⟨S1x64, .f32⟩
  | .hbm, ⟨7, _⟩ => ⟨S128x1024, .f32⟩
  | .hbm, ⟨8, _⟩ => ⟨S1024x5632, .f32⟩
  | .hbm, ⟨9, _⟩ => ⟨S1024x5632, .bf16⟩
  | .hbm, ⟨10, _⟩ => ⟨S1024x5632, .f32⟩
  | .hbm, ⟨11, _⟩ => ⟨S1024x5632, .f32⟩
  | .hbm, ⟨12, _⟩ => ⟨S1024x5632, .bf16⟩
  | .hbm, ⟨13, _⟩ => ⟨S1024x1024, .bf16⟩
  | .hbm, ⟨14, _⟩ => ⟨S64, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S64, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S1x512, .f32⟩
  | .hbm, ⟨24, _⟩ => ⟨S2x512, .f32⟩
  | .hbm, ⟨25, _⟩ => ⟨S2x1x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S1024, .f32⟩
  | .hbm, ⟨42, _⟩ => ⟨S1x1024, .f32⟩
  | .hbm, ⟨43, _⟩ => ⟨S128x5632, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S128x512, .f32⟩
  | .local _ .vmem, ⟨12, _⟩ => ⟨S128x512, .f32⟩
  | .local _ .vmem, ⟨13, _⟩ => ⟨S128x1024, .bf16⟩
  | .local _ .vmem, ⟨14, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S128x1x1024 : Shape := ⟨3, ![128, 1, 1024]⟩
abbrev S1x128x1024 : Shape := ⟨3, ![1, 128, 1024]⟩
abbrev S1x1024 : Shape := ⟨2, ![1, 1024]⟩
abbrev S1x1024x5632 : Shape := ⟨3, ![1, 1024, 5632]⟩
abbrev S1x64 : Shape := ⟨2, ![1, 64]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5632 : Shape := ⟨2, ![1024, 5632]⟩
abbrev S128x1x5632 : Shape := ⟨3, ![128, 1, 5632]⟩
abbrev S128x1x512 : Shape := ⟨3, ![128, 1, 512]⟩
abbrev S128x1x8x64 : Shape := ⟨4, ![128, 1, 8, 64]⟩
abbrev S64 : Shape := ⟨1, ![64]⟩
abbrev S128x1x8 : Shape := ⟨3, ![128, 1, 8]⟩
abbrev S128x1x8x1 : Shape := ⟨4, ![128, 1, 8, 1]⟩
abbrev S1x1x1x64 : Shape := ⟨4, ![1, 1, 1, 64]⟩
abbrev S128x1x4608 : Shape := ⟨3, ![128, 1, 4608]⟩
abbrev S128x5632 : Shape := ⟨2, ![128, 5632]⟩

abbrev nBuf : Space → Nat
  | .hbm => 76
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x1024, .f32⟩
  | .hbm, ⟨2, _⟩ => ⟨S1x128x1024, .f32⟩
  | .hbm, ⟨3, _⟩ => ⟨S1x1024, .f32⟩
  | .hbm, ⟨4, _⟩ => ⟨S1x1024x5632, .f32⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S128x1x1024, .f32⟩
  | .hbm, ⟨25, _⟩ => ⟨S_, .f32⟩
  | .hbm, ⟨26, _⟩ => ⟨S128x1x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S1024x5632, .f32⟩
  | .hbm, ⟨32, _⟩ => ⟨S128x1x5632, .f32⟩
  | .hbm, ⟨33, _⟩ => ⟨S128x1x512, .f32⟩
  | .hbm, ⟨34, _⟩ => ⟨S128x1x8x64, .f32⟩
  | .hbm, ⟨35, _⟩ => ⟨S64, .f32⟩
  | .hbm, ⟨36, _⟩ => ⟨S128x1x8x64, .f32⟩
  | .hbm, ⟨37, _⟩ => ⟨S_, .f32⟩
  | .hbm, ⟨38, _⟩ => ⟨S128x1x8, .f32⟩
  | .hbm, ⟨39, _⟩ => ⟨S128x1x8x1, .f32⟩
  | .hbm, ⟨40, _⟩ => ⟨S_, .f32⟩
  | .hbm, ⟨41, _⟩ => ⟨S128x1x8x1, .f32⟩
  | .hbm, ⟨42, _⟩ => ⟨S128x1x8x1, .f32⟩
  | .hbm, ⟨43, _⟩ => ⟨S_, .f32⟩
  | .hbm, ⟨44, _⟩ => ⟨S128x1x8x1, .f32⟩
  | .hbm, ⟨45, _⟩ => ⟨S128x1x8x1, .f32⟩
  | .hbm, ⟨46, _⟩ => ⟨S128x1x8x1, .f32⟩
  | .hbm, ⟨47, _⟩ => ⟨S128x1x8x64, .f32⟩
  | .hbm, ⟨48, _⟩ => ⟨S128x1x8x64, .f32⟩
  | .hbm, ⟨49, _⟩ => ⟨S1x1x1x64, .f32⟩
  | .hbm, ⟨50, _⟩ => ⟨S128x1x8x64, .f32⟩
  | .hbm, ⟨51, _⟩ => ⟨S128x1x8x64, .f32⟩
  | .hbm, ⟨52, _⟩ => ⟨S128x1x512, .f32⟩
  | .hbm, ⟨53, _⟩ => ⟨S128x1x8x64, .f32⟩
  | .hbm, ⟨54, _⟩ => ⟨S64, .f32⟩
  | .hbm, ⟨55, _⟩ => ⟨S128x1x8x64, .f32⟩
  | .hbm, ⟨56, _⟩ => ⟨S_, .f32⟩
  | .hbm, ⟨57, _⟩ => ⟨S128x1x8, .f32⟩
  | .hbm, ⟨58, _⟩ => ⟨S128x1x8x1, .f32⟩
  | .hbm, ⟨59, _⟩ => ⟨S_, .f32⟩
  | .hbm, ⟨60, _⟩ => ⟨S128x1x8x1, .f32⟩
  | .hbm, ⟨61, _⟩ => ⟨S128x1x8x1, .f32⟩
  | .hbm, ⟨62, _⟩ => ⟨S_, .f32⟩
  | .hbm, ⟨63, _⟩ => ⟨S128x1x8x1, .f32⟩
  | .hbm, ⟨64, _⟩ => ⟨S128x1x8x1, .f32⟩
  | .hbm, ⟨65, _⟩ => ⟨S128x1x8x1, .f32⟩
  | .hbm, ⟨66, _⟩ => ⟨S128x1x8x64, .f32⟩
  | .hbm, ⟨67, _⟩ => ⟨S128x1x8x64, .f32⟩
  | .hbm, ⟨68, _⟩ => ⟨S1x1x1x64, .f32⟩
  | .hbm, ⟨69, _⟩ => ⟨S128x1x8x64, .f32⟩
  | .hbm, ⟨70, _⟩ => ⟨S128x1x8x64, .f32⟩
  | .hbm, ⟨71, _⟩ => ⟨S128x1x512, .f32⟩
  | .hbm, ⟨72, _⟩ => ⟨S128x1x512, .f32⟩
  | .hbm, ⟨73, _⟩ => ⟨S128x1x4608, .f32⟩
  | .hbm, ⟨74, _⟩ => ⟨S128x1x5632, .f32⟩
  | .hbm, ⟨75, _⟩ => ⟨S128x5632, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S128x5632 : Shape := ⟨2, ![128, 5632]⟩
abbrev S2x512 : Shape := ⟨2, ![2, 512]⟩
abbrev S128x4x128x128 : Shape := ⟨4, ![128, 4, 128, 128]⟩
abbrev S128x1x5632 : Shape := ⟨3, ![128, 1, 5632]⟩
abbrev S128x1x512 : Shape := ⟨3, ![128, 1, 512]⟩
abbrev S1x1x512 : Shape := ⟨3, ![1, 1, 512]⟩
abbrev S1x4x128x128 : Shape := ⟨4, ![1, 4, 128, 128]⟩
abbrev S8x128 : Shape := ⟨2, ![8, 128]⟩
abbrev S128x128 : Shape := ⟨2, ![128, 128]⟩
abbrev S1x1x128 : Shape := ⟨3, ![1, 1, 128]⟩
abbrev S1x128 : Shape := ⟨2, ![1, 128]⟩
abbrev S2x128 : Shape := ⟨2, ![2, 128]⟩
abbrev S128 : Shape := ⟨1, ![128]⟩
abbrev S128x8 : Shape := ⟨2, ![128, 8]⟩
abbrev S1x1x128x128 : Shape := ⟨4, ![1, 1, 128, 128]⟩
abbrev S128x1 : Shape := ⟨2, ![128, 1]⟩
abbrev S1 : Shape := ⟨1, ![1]⟩
abbrev S1x1 : Shape := ⟨2, ![1, 1]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S128x5632, .f32⟩
  | .hbm, ⟨1, _⟩ => ⟨S2x512, .f32⟩
  | .hbm, ⟨2, _⟩ => ⟨S128x4x128x128, .f32⟩
  | .hbm, ⟨3, _⟩ => ⟨S128x1x5632, .f32⟩
  | .hbm, ⟨4, _⟩ => ⟨S128x1x512, .f32⟩
  | .hbm, ⟨5, _⟩ => ⟨S128x4x128x128, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S2x512, .f32⟩
  | .local _ .vmem, ⟨7, _⟩ => ⟨S1x4x128x128, .f32⟩
  | .local _ .vmem, ⟨8, _⟩ => ⟨S1x4x128x128, .f32⟩
  | .local _ .vmem, ⟨9, _⟩ => ⟨S1x1x512, .f32⟩
  | .local _ .vmem, ⟨10, _⟩ => ⟨S1x1x512, .f32⟩
  | .local _ .vmem, ⟨11, _⟩ => ⟨S1x4x128x128, .f32⟩
  | .local _ .vmem, ⟨12, _⟩ => ⟨S1x4x128x128, .f32⟩
  | _, _ => ⟨S128x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S128x5632 : Shape := ⟨2, ![128, 5632]⟩
abbrev S2x512 : Shape := ⟨2, ![2, 512]⟩
abbrev S128x4x128x128 : Shape := ⟨4, ![128, 4, 128, 128]⟩
abbrev S_ : Shape := ⟨0, ![]⟩
abbrev S512 : Shape := ⟨1, ![512]⟩
abbrev S1x512 : Shape := ⟨2, ![1, 512]⟩
abbrev S128x1x5632 : Shape := ⟨3, ![128, 1, 5632]⟩
abbrev S128x1x512 : Shape := ⟨3, ![128, 1, 512]⟩
abbrev S1x1x512 : Shape := ⟨3, ![1, 1, 512]⟩
abbrev S128x1x4x128 : Shape := ⟨4, ![128, 1, 4, 128]⟩
abbrev S1x1 : Shape := ⟨2, ![1, 1]⟩
abbrev S128x1x1x4x128 : Shape := ⟨5, ![128, 1, 1, 4, 128]⟩
abbrev S1x128x1x4x128 : Shape := ⟨5, ![1, 128, 1, 4, 128]⟩
abbrev S128x4x1x1 : Shape := ⟨4, ![128, 4, 1, 1]⟩
abbrev S128x4x128x1 : Shape := ⟨4, ![128, 4, 128, 1]⟩
abbrev S128x4x128 : Shape := ⟨3, ![128, 4, 128]⟩

abbrev nBuf : Space → Nat
  | .hbm => 169
  | .vmem => 0
  | .smem => 0
  | _ => 0

abbrev hbmTy0_0 (i : Nat) : BufTy := match i % 128 with
  | 0 => ⟨S128x5632, .f32⟩
  | 1 => ⟨S2x512, .f32⟩
  | 2 => ⟨S128x4x128x128, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S128x1x5632, .f32⟩
  | 23 => ⟨S128x1x512, .f32⟩
  | 24 => ⟨S128x1x512, .f32⟩
  | 25 => ⟨S128x1x512, .f32⟩
  | 26 => ⟨S_, .f32⟩
  | 27 => ⟨S512, .f32⟩
  | 28 => ⟨S512, .f32⟩
  | 29 => ⟨S128x1x512, .f32⟩
  | 30 => ⟨S128x1x512, .f32⟩
  | 31 => ⟨S_, .f32⟩
  | 32 => ⟨S128x1x512, .f32⟩
  | 33 => ⟨S128x1x512, .f32⟩
  | 34 => ⟨S_, .f32⟩
  | 35 => ⟨S128x1x512, .f32⟩
  | 36 => ⟨S128x1x512, .f32⟩
  | 37 => ⟨S1x1x512, .f32⟩
  | 38 => ⟨S128x1x512, .f32⟩
  | 39 => ⟨S128x1x512, .f32⟩
  | 40 => ⟨S1x1x512, .f32⟩
  | 41 => ⟨S128x1x512, .f32⟩
  | 42 => ⟨S128x1x512, .f32⟩
  | 43 => ⟨S128x1x512, .f32⟩
  | 44 => ⟨S128x1x512, .f32⟩
  | 45 => ⟨S_, .f32⟩
  | 46 => ⟨S128x1x512, .f32⟩
  | 47 => ⟨S128x1x512, .f32⟩
  | 48 => ⟨S_, .f32⟩
  | 49 => ⟨S128x1x512, .f32⟩
  | 50 => ⟨S128x1x512, .f32⟩
  | 51 => ⟨S128x1x512, .f32⟩
  | 52 => ⟨S128x1x4x128, .f32⟩
  | 53 => ⟨S_, .f32⟩
  | 54 => ⟨S128x1x512, .f32⟩
  | 55 => ⟨S128x1x512, .f32⟩
  | 56 => ⟨S128x1x4x128, .f32⟩
  | 57 => ⟨S128x1x4x128, .f32⟩
  | 58 => ⟨S128x1x512, .f32⟩
  | 59 => ⟨S128x1x4x128, .f32⟩
  | 60 => ⟨S_, .i1⟩
  | 61 => ⟨S1x1, .i1⟩
  | 62 => ⟨S1x1, .i32⟩
  | 63 => ⟨S_, .i32⟩
  | 64 => ⟨S1x1, .i32⟩
  | 65 => ⟨S1x1, .i32⟩
  | 66 => ⟨S1x1, .i32⟩
  | 67 => ⟨S1x1, .i1⟩
  | 68 => ⟨S_, .i1⟩
  | 69 => ⟨S1x1, .i1⟩
  | 70 => ⟨S1x1, .i1⟩
  | 71 => ⟨S_, .i32⟩
  | 72 => ⟨S_, .f32⟩
  | 73 => ⟨S128x1x4x128, .f32⟩
  | 74 => ⟨S128x1x1x4x128, .f32⟩
  | 75 => ⟨S1x128x1x4x128, .f32⟩
  | 76 => ⟨S_, .i32⟩
  | 77 => ⟨S_, .f32⟩
  | 78 => ⟨S128x1x4x128, .f32⟩
  | 79 => ⟨S128x1x1x4x128, .f32⟩
  | 80 => ⟨S1x128x1x4x128, .f32⟩
  | 81 => ⟨S_, .i32⟩
  | 82 => ⟨S_, .f32⟩
  | 83 => ⟨S128x1x4x128, .f32⟩
  | 84 => ⟨S128x1x1x4x128, .f32⟩
  | 85 => ⟨S1x128x1x4x128, .f32⟩
  | 86 => ⟨S_, .i32⟩
  | 87 => ⟨S_, .f32⟩
  | 88 => ⟨S128x1x4x128, .f32⟩
  | 89 => ⟨S128x1x1x4x128, .f32⟩
  | 90 => ⟨S1x128x1x4x128, .f32⟩
  | 91 => ⟨S_, .f32⟩
  | 92 => ⟨S1x128x1x4x128, .f32⟩
  | 93 => ⟨S_, .i32⟩
  | 94 => ⟨S1x128x1x4x128, .f32⟩
  | 95 => ⟨S1x128x1x4x128, .f32⟩
  | 96 => ⟨S1x128x1x4x128, .f32⟩
  | 97 => ⟨S1x128x1x4x128, .f32⟩
  | 98 => ⟨S1x1, .i1⟩
  | 99 => ⟨S_, .i32⟩
  | 100 => ⟨S128x4x128x128, .f32⟩
  | 101 => ⟨S1x128x1x4x128, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1x128x1x4x128, .f32⟩
  | 109 => ⟨S128x1x4x128, .f32⟩
  | 110 => ⟨S_, .i32⟩
  | 111 => ⟨S_, .i32⟩
  | 112 => ⟨S_, .i32⟩
  | 113 => ⟨S_, .i32⟩
  | 114 => ⟨S1x128x1x4x128, .f32⟩
  | 115 => ⟨S128x1x4x128, .f32⟩
  | 116 => ⟨S_, .i32⟩
  | 117 => ⟨S_, .i32⟩
  | 118 => ⟨S_, .i32⟩
  | 119 => ⟨S_, .i32⟩
  | 120 => ⟨S1x128x1x4x128, .f32⟩
  | 121 => ⟨S128x1x4x128, .f32⟩
  | 122 => ⟨S_, .i32⟩
  | 123 => ⟨S_, .i32⟩
  | 124 => ⟨S_, .i32⟩
  | 125 => ⟨S_, .i32⟩
  | 126 => ⟨S1x128x1x4x128, .f32⟩
  | 127 => ⟨S128x1x4x128, .f32⟩
  | _ => ⟨S128x5632, .f32⟩

abbrev hbmTy0_1 (i : Nat) : BufTy := match i % 128 with
  | 0 => ⟨S_, .f32⟩
  | 1 => ⟨S_, .f32⟩
  | 2 => ⟨S128x1x4x128, .f32⟩
  | 3 => ⟨S128x1x4x128, .f32⟩
  | 4 => ⟨S128x1x4x128, .f32⟩
  | 5 => ⟨S128x1x4x128, .f32⟩
  | 6 => ⟨S128x1x4x128, .f32⟩
  | 7 => ⟨S128x1x4x128, .f32⟩
  | 8 => ⟨S128x4x1x1, .f32⟩
  | 9 => ⟨S_, .f32⟩
  | 10 => ⟨S_, .f32⟩
  | 11 => ⟨S128x4x1x1, .i1⟩
  | 12 => ⟨S128x4x1x1, .f32⟩
  | 13 => ⟨S128x4x1x1, .f32⟩
  | 14 => ⟨S128x4x128x1, .f32⟩
  | 15 => ⟨S128x1x4x128, .f32⟩
  | 16 => ⟨S128x4x128x1, .f32⟩
  | 17 => ⟨S128x1x4x128, .f32⟩
  | 18 => ⟨S128x1x4x128, .f32⟩
  | 19 => ⟨S128x4x128, .f32⟩
  | 20 => ⟨S128x4x128, .f32⟩
  | 21 => ⟨S128x4x128x1, .f32⟩
  | 22 => ⟨S128x4x128x128, .f32⟩
  | 23 => ⟨S128x4x128x128, .f32⟩
  | 24 => ⟨S128x1x4x128, .f32⟩
  | 25 => ⟨S128x1x4x128, .f32⟩
  | 26 => ⟨S128x1x4x128, .f32⟩
  | 27 => ⟨S128x1x4x128, .f32⟩
  | 28 => ⟨S128x4x128x128, .f32⟩
  | 29 => ⟨S128x4x128x128, .f32⟩
  | 30 => ⟨S1x128x1x4x128, .f32⟩
  | 31 => ⟨S_, .i32⟩
  | 32 => ⟨S_, .i32⟩
  | 33 => ⟨S_, .i32⟩
  | 34 => ⟨S_, .i32⟩
  | 35 => ⟨S1x128x1x4x128, .f32⟩
  | 36 => ⟨S_, .i32⟩
  | 37 => ⟨S_, .i32⟩
  | 38 => ⟨S128x1x1x4x128, .f32⟩
  | 39 => ⟨S128x1x4x128, .f32⟩
  | 40 => ⟨S128x1x512, .f32⟩
  | _ => ⟨S128x5632, .f32⟩

abbrev hbmTy (i : Nat) : BufTy := match i / 128 with
  | 0 => hbmTy0_0 i
  | 1 => hbmTy0_1 i
  | _ => ⟨S128x5632, .f32⟩

abbrev bufTy : (tb : Table) → Fin (tcTables nBuf tb) → BufTy
  | .hbm, ⟨i, _⟩ => hbmTy i
  | _, _ => ⟨S128x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v41 : Ref sig .tc := ⟨.hbm, 70, rfl⟩
abbrev main_c_6 : Ref sig .tc := ⟨.hbm, 71, rfl⟩
abbrev main_call3_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_call4_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_8 : Ref sig .tc := ⟨.hbm, 81, rfl⟩
abbrev main_call5_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_call6_v0 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_c_11 : Ref sig .tc := ⟨.hbm, 93, rfl⟩
abbrev main_v55_0 : Ref sig .tc := ⟨.hbm, 94, rfl⟩
abbrev main_v55_1 : Ref sig .tc := ⟨.hbm, 95, rfl⟩
abbrev main_v55_2 : Ref sig .tc := ⟨.hbm, 96, rfl⟩
abbrev main_v55_3 : Ref sig .tc := ⟨.hbm, 97, rfl⟩
abbrev main_v55_4 : Ref sig .tc := ⟨.hbm, 98, rfl⟩
abbrev main_v55_5 : Ref sig .tc := ⟨.hbm, 99, rfl⟩
abbrev main_v55_6 : Ref sig .tc := ⟨.hbm, 100, rfl⟩
abbrev main_v55_7 : Ref sig .tc := ⟨.hbm, 101, rfl⟩
abbrev main_while0c_c_19 : Ref sig .tc := ⟨.hbm, 102, rfl⟩
abbrev main_while0c_v59 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_call7_v0 : Ref sig .tc := ⟨.hbm, 108, rfl⟩
abbrev main_while0b_v59 : Ref sig .tc := ⟨.hbm, 109, rfl⟩
abbrev main_while0b_call8_c : Ref sig .tc := ⟨.hbm, 110, rfl⟩
abbrev main_while0b_call8_c_0 : Ref sig .tc := ⟨.hbm, 111, rfl⟩
abbrev main_while0b_call8_c_1 : Ref sig .tc := ⟨.hbm, 112, rfl⟩
abbrev main_while0b_call8_c_2 : Ref sig .tc := ⟨.hbm, 113, rfl⟩
abbrev main_while0b_call8_v0 : Ref sig .tc := ⟨.hbm, 114, rfl⟩
abbrev main_while0b_v60 : Ref sig .tc := ⟨.hbm, 115, rfl⟩
abbrev main_while0b_call9_c : Ref sig .tc := ⟨.hbm, 116, rfl⟩
abbrev main_while0b_call9_c_0 : Ref sig .tc := ⟨.hbm, 117, rfl⟩
abbrev main_while0b_call9_c_1 : Ref sig .tc := ⟨.hbm, 118, rfl⟩
abbrev main_while0b_call9_c_2 : Ref sig .tc := ⟨.hbm, 119, rfl⟩
abbrev main_while0b_call9_v0 : Ref sig .tc := ⟨.hbm, 120, rfl⟩
abbrev main_while0b_v61 : Ref sig .tc := ⟨.hbm, 121, rfl⟩
abbrev main_while0b_call10_c : Ref sig .tc := ⟨.hbm, 122, rfl⟩
abbrev main_while0b_call10_c_0 : Ref sig .tc := ⟨.hbm, 123, rfl⟩
abbrev main_while0b_call10_c_1 : Ref sig .tc := ⟨.hbm, 124, rfl⟩
abbrev main_while0b_call10_c_2 : Ref sig .tc := ⟨.hbm, 125, rfl⟩
abbrev main_while0b_call10_v0 : Ref sig .tc := ⟨.hbm, 126, rfl⟩
abbrev main_while0b_v62 : Ref sig .tc := ⟨.hbm, 127, rfl⟩
abbrev main_while0b_call11_call0_cst : Ref sig .tc := ⟨.hbm, 128, rfl⟩
abbrev main_while0b_call11_call0_v0 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_cst_19 : Ref sig .tc := ⟨.hbm, 137, rfl⟩
abbrev main_while0b_call12_v0 : Ref sig .tc := ⟨.hbm, 138, rfl⟩
abbrev main_while0b_call12_v1 : Ref sig .tc := ⟨.hbm, 139, rfl⟩
abbrev main_while0b_call12_v2 : Ref sig .tc := ⟨.hbm, 140, rfl⟩
abbrev main_while0b_v70 : Ref sig .tc := ⟨.hbm, 141, rfl⟩
abbrev main_while0b_v71 : Ref sig .tc := ⟨.hbm, 142, rfl⟩
abbrev main_while0b_v72 : Ref sig .tc := ⟨.hbm, 143, rfl⟩
abbrev main_while0b_v73 : Ref sig .tc := ⟨.hbm, 144, rfl⟩
abbrev main_while0b_v74 : Ref sig .tc := ⟨.hbm, 145, rfl⟩
abbrev main_while0b_v75 : Ref sig .tc := ⟨.hbm, 146, rfl⟩
abbrev main_while0b_v76 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_v80 : Ref sig .tc := ⟨.hbm, 151, rfl⟩
abbrev main_while0b_v81 : Ref sig .tc := ⟨.hbm, 152, rfl⟩
abbrev main_while0b_v82 : Ref sig .tc := ⟨.hbm, 153, rfl⟩
abbrev main_while0b_v83 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_call13_v0 : Ref sig .tc := ⟨.hbm, 158, rfl⟩
abbrev main_while0b_call13_c : Ref sig .tc := ⟨.hbm, 159, rfl⟩
abbrev main_while0b_call13_c_0 : Ref sig .tc := ⟨.hbm, 160, rfl⟩
abbrev main_while0b_call13_c_1 : Ref sig .tc := ⟨.hbm, 161, rfl⟩
abbrev main_while0b_call13_c_2 : Ref sig .tc := ⟨.hbm, 162, rfl⟩
abbrev main_while0b_v87 : Ref sig .tc := ⟨.hbm, 163, rfl⟩
abbrev main_while0b_c_20 : Ref sig .tc := ⟨.hbm, 164, rfl⟩
abbrev main_while0b_v88 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩

abbrev nD : Nat := 1
abbrev τ : Topo := Topo.v7x

variable {F : FTy → Type} [FloatOps F]

abbrev main_while0_count : Scf.Loop 32 := ⟨0#32, 1#32, 1#32⟩
-- ==== Kernel.lean ====
abbrev S16384x5632 : Shape := ⟨2, ![16384, 5632]⟩
abbrev S2x512 : Shape := ⟨2, ![2, 512]⟩
abbrev S16384x512 : Shape := ⟨2, ![16384, 512]⟩
abbrev S4x4x128x128 : Shape := ⟨4, ![4, 4, 128, 128]⟩
abbrev S1024x512 : Shape := ⟨2, ![1024, 512]⟩
abbrev S1x4x128x128 : Shape := ⟨4, ![1, 4, 128, 128]⟩
abbrev S4x128x128 : Shape := ⟨3, ![4, 128, 128]⟩
abbrev S32x32 : Shape := ⟨2, ![32, 32]⟩
abbrev S32x512 : Shape := ⟨2, ![32, 512]⟩
abbrev S512 : Shape := ⟨1, ![512]⟩
abbrev S1x512 : Shape := ⟨2, ![1, 512]⟩
abbrev S1x128x128 : Shape := ⟨3, ![1, 128, 128]⟩
abbrev S128x128 : Shape := ⟨2, ![128, 128]⟩
abbrev S32x128 : Shape := ⟨2, ![32, 128]⟩
abbrev S1x128 : Shape := ⟨2, ![1, 128]⟩
abbrev S128x32 : Shape := ⟨2, ![128, 32]⟩
abbrev S1x1x128x128 : Shape := ⟨4, ![1, 1, 128, 128]⟩

abbrev nBuf : Space → Nat
  | .hbm => 4
  | .vmem => 12
  | .smem => 0
  | _ => 0

abbrev bufTy : (tb : Table) → Fin (tcTables nBuf tb) → BufTy
  | .hbm, ⟨0, _⟩ => ⟨S16384x5632, .f32⟩
  | .hbm, ⟨1, _⟩ => ⟨S2x512, .f32⟩
  | .hbm, ⟨2, _⟩ => ⟨S16384x512, .f32⟩
  | .hbm, ⟨3, _⟩ => ⟨S4x4x128x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S2x512, .f32⟩
  | .local _ .vmem, ⟨7, _⟩ => ⟨S1024x512, .f32⟩
  | .local _ .vmem, ⟨8, _⟩ => ⟨S1024x512, .f32⟩
  | .local _ .vmem, ⟨9, _⟩ => ⟨S1x4x128x128, .f32⟩
  | .local _ .vmem, ⟨10, _⟩ => ⟨S1x4x128x128, .f32⟩
  | .local _ .vmem, ⟨11, _⟩ => ⟨S4x128x128, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_2 : BitVec 32 := 0#32
  let c32_i32 : BitVec 32 := 32#32
  let v9 : BitVec 32 := Scalar.addi c0_i32_2 c32_i32
  let c1_i32 : BitVec 32 := 1#32
  ⟨c0_i32_2, v9, c1_i32⟩
def k0_mult1 (k0_t1 : Fin k0_t1_loop.trips) : BitVec 32 :=
  let c0_i32_2 : BitVec 32 := 0#32
  let c1_i32 : BitVec 32 := 1#32
  let arg9 : BitVec 32 := Scf.iv c0_i32_2 c1_i32 k0_t1
  let c32_i32_5 : BitVec 32 := 32#32
  let v13 : BitVec 32 := Scalar.muli arg9 c32_i32_5
  v13
def k0_off1 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let c32_i32_5 : BitVec 32 := 32#32
  let v13 : BitVec 32 := Scalar.muli arg9 c32_i32_5
  let v14 : BitVec 32 := v13
  let v15 : Index := Scalar.indexCast v14
  let c0_6 : Index := 0#32
  ![v15.toNat, 0]
def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16384x5632 : Shape := ⟨2, ![16384, 5632]⟩
abbrev S2x512 : Shape := ⟨2, ![2, 512]⟩
abbrev S_ : Shape := ⟨0, ![]⟩
abbrev S512 : Shape := ⟨1, ![512]⟩
abbrev S1x512 : Shape := ⟨2, ![1, 512]⟩
abbrev S4x4096x5632 : Shape := ⟨3, ![4, 4096, 5632]⟩
abbrev S4x4096x512 : Shape := ⟨3, ![4, 4096, 512]⟩
abbrev S1x1x512 : Shape := ⟨3, ![1, 1, 512]⟩
abbrev S4x4x128x128 : Shape := ⟨4, ![4, 4, 128, 128]⟩
abbrev S4x4096x4x128 : Shape := ⟨4, ![4, 4096, 4, 128]⟩
abbrev S32x32 : Shape := ⟨2, ![32, 32]⟩
abbrev S4x128x32x4x128 : Shape := ⟨5, ![4, 128, 32, 4, 128]⟩
abbrev S128x4x32x4x128 : Shape := ⟨5, ![128, 4, 32, 4, 128]⟩
abbrev S1x4x32x4x128 : Shape := ⟨5, ![1, 4, 32, 4, 128]⟩
abbrev S4x32x4x128 : Shape := ⟨4, ![4, 32, 4, 128]⟩
abbrev S4x4x32x32 : Shape := ⟨4, ![4, 4, 32, 32]⟩
abbrev S4x4x128x32 : Shape := ⟨4, ![4, 4, 128, 32]⟩
abbrev S4x1x4x128 : Shape := ⟨4, ![4, 1, 4, 128]⟩
abbrev S4x4x128 : Shape := ⟨3, ![4, 4, 128]⟩
abbrev S4x4x128x1 : Shape := ⟨4, ![4, 4, 128, 1]⟩
abbrev S16384x512 : Shape := ⟨2, ![16384, 512]⟩

abbrev nBuf : Space → Nat
  | .hbm => 172
  | .vmem => 0
  | .smem => 0
  | _ => 0

abbrev hbmTy0_0 (i : Nat) : BufTy := match i % 128 with
  | 0 => ⟨S16384x5632, .f32⟩
  | 1 => ⟨S2x512, .f32⟩
  | 2 => ⟨S_, .f32⟩
  | 3 => ⟨S512, .f32⟩
  | 4 => ⟨S_, .f32⟩
  | 5 => ⟨S512, .f32⟩
  | 6 => ⟨S512, .f32⟩
  | 7 => ⟨S1x512, .f32⟩
  | 8 => ⟨S2x512, .f32⟩
  | 9 => ⟨S2x512, .f32⟩
  | 10 => ⟨S2x512, .f32⟩
  | 11 => ⟨S_, .f32⟩
  | 12 => ⟨S512, .f32⟩
  | 13 => ⟨S1x512, .f32⟩
  | 14 => ⟨S2x512, .f32⟩
  | 15 => ⟨S2x512, .f32⟩
  | 16 => ⟨S_, .f32⟩
  | 17 => ⟨S_, .f32⟩
  | 18 => ⟨S2x512, .f32⟩
  | 19 => ⟨S1x512, .f32⟩
  | 20 => ⟨S512, .f32⟩
  | 21 => ⟨S4x4096x5632, .f32⟩
  | 22 => ⟨S4x4096x512, .f32⟩
  | 23 => ⟨S4x4096x512, .f32⟩
  | 24 => ⟨S4x4096x512, .f32⟩
  | 25 => ⟨S_, .f32⟩
  | 26 => ⟨S512, .f32⟩
  | 27 => ⟨S512, .f32⟩
  | 28 => ⟨S4x4096x512, .f32⟩
  | 29 => ⟨S4x4096x512, .f32⟩
  | 30 => ⟨S_, .f32⟩
  | 31 => ⟨S4x4096x512, .f32⟩
  | 32 => ⟨S4x4096x512, .f32⟩
  | 33 => ⟨S_, .f32⟩
  | 34 => ⟨S4x4096x512, .f32⟩
  | 35 => ⟨S4x4096x512, .f32⟩
  | 36 => ⟨S1x1x512, .f32⟩
  | 37 => ⟨S4x4096x512, .f32⟩
  | 38 => ⟨S4x4096x512, .f32⟩
  | 39 => ⟨S1x1x512, .f32⟩
  | 40 => ⟨S4x4096x512, .f32⟩
  | 41 => ⟨S4x4096x512, .f32⟩
  | 42 => ⟨S_, .f32⟩
  | 43 => ⟨S4x4x128x128, .f32⟩
  | 44 => ⟨S4x4096x512, .f32⟩
  | 45 => ⟨S4x4096x512, .f32⟩
  | 46 => ⟨S_, .f32⟩
  | 47 => ⟨S4x4096x512, .f32⟩
  | 48 => ⟨S4x4096x512, .f32⟩
  | 49 => ⟨S_, .f32⟩
  | 50 => ⟨S4x4096x512, .f32⟩
  | 51 => ⟨S4x4096x512, .f32⟩
  | 52 => ⟨S4x4096x512, .f32⟩
  | 53 => ⟨S4x4096x4x128, .f32⟩
  | 54 => ⟨S_, .f32⟩
  | 55 => ⟨S4x4096x512, .f32⟩
  | 56 => ⟨S4x4096x512, .f32⟩
  | 57 => ⟨S4x4096x4x128, .f32⟩
  | 58 => ⟨S4x4096x4x128, .f32⟩
  | 59 => ⟨S4x4096x512, .f32⟩
  | 60 => ⟨S4x4096x4x128, .f32⟩
  | 61 => ⟨S_, .i1⟩
  | 62 => ⟨S32x32, .i1⟩
  | 63 => ⟨S32x32, .i32⟩
  | 64 => ⟨S_, .i32⟩
  | 65 => ⟨S32x32, .i32⟩
  | 66 => ⟨S32x32, .i32⟩
  | 67 => ⟨S32x32, .i32⟩
  | 68 => ⟨S32x32, .i1⟩
  | 69 => ⟨S_, .i1⟩
  | 70 => ⟨S32x32, .i1⟩
  | 71 => ⟨S32x32, .i1⟩
  | 72 => ⟨S_, .i32⟩
  | 73 => ⟨S_, .f32⟩
  | 74 => ⟨S4x4096x4x128, .f32⟩
  | 75 => ⟨S4x128x32x4x128, .f32⟩
  | 76 => ⟨S128x4x32x4x128, .f32⟩
  | 77 => ⟨S_, .i32⟩
  | 78 => ⟨S_, .f32⟩
  | 79 => ⟨S4x4096x4x128, .f32⟩
  | 80 => ⟨S4x128x32x4x128, .f32⟩
  | 81 => ⟨S128x4x32x4x128, .f32⟩
  | 82 => ⟨S_, .i32⟩
  | 83 => ⟨S_, .f32⟩
  | 84 => ⟨S4x4096x4x128, .f32⟩
  | 85 => ⟨S4x128x32x4x128, .f32⟩
  | 86 => ⟨S128x4x32x4x128, .f32⟩
  | 87 => ⟨S_, .i32⟩
  | 88 => ⟨S_, .f32⟩
  | 89 => ⟨S4x4096x4x128, .f32⟩
  | 90 => ⟨S4x128x32x4x128, .f32⟩
  | 91 => ⟨S128x4x32x4x128, .f32⟩
  | 92 => ⟨S_, .f32⟩
  | 93 => ⟨S128x4x32x4x128, .f32⟩
  | 94 => ⟨S_, .i32⟩
  | 95 => ⟨S128x4x32x4x128, .f32⟩
  | 96 => ⟨S128x4x32x4x128, .f32⟩
  | 97 => ⟨S128x4x32x4x128, .f32⟩
  | 98 => ⟨S128x4x32x4x128, .f32⟩
  | 99 => ⟨S32x32, .i1⟩
  | 100 => ⟨S_, .i32⟩
  | 101 => ⟨S4x4x128x128, .f32⟩
  | 102 => ⟨S128x4x32x4x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x4x32x4x128, .f32⟩
  | 110 => ⟨S4x32x4x128, .f32⟩
  | 111 => ⟨S_, .i32⟩
  | 112 => ⟨S_, .i32⟩
  | 113 => ⟨S_, .i32⟩
  | 114 => ⟨S_, .i32⟩
  | 115 => ⟨S1x4x32x4x128, .f32⟩
  | 116 => ⟨S4x32x4x128, .f32⟩
  | 117 => ⟨S_, .i32⟩
  | 118 => ⟨S_, .i32⟩
  | 119 => ⟨S_, .i32⟩
  | 120 => ⟨S_, .i32⟩
  | 121 => ⟨S1x4x32x4x128, .f32⟩
  | 122 => ⟨S4x32x4x128, .f32⟩
  | 123 => ⟨S_, .i32⟩
  | 124 => ⟨S_, .i32⟩
  | 125 => ⟨S_, .i32⟩
  | 126 => ⟨S_, .i32⟩
  | 127 => ⟨S1x4x32x4x128, .f32⟩
  | _ => ⟨S16384x5632, .f32⟩

abbrev hbmTy0_1 (i : Nat) : BufTy := match i % 128 with
  | 0 => ⟨S4x32x4x128, .f32⟩
  | 1 => ⟨S_, .f32⟩
  | 2 => ⟨S_, .f32⟩
  | 3 => ⟨S4x32x4x128, .f32⟩
  | 4 => ⟨S4x32x4x128, .f32⟩
  | 5 => ⟨S4x32x4x128, .f32⟩
  | 6 => ⟨S4x32x4x128, .f32⟩
  | 7 => ⟨S4x32x4x128, .f32⟩
  | 8 => ⟨S4x32x4x128, .f32⟩
  | 9 => ⟨S4x4x32x32, .f32⟩
  | 10 => ⟨S_, .f32⟩
  | 11 => ⟨S_, .f32⟩
  | 12 => ⟨S4x4x32x32, .i1⟩
  | 13 => ⟨S4x4x32x32, .f32⟩
  | 14 => ⟨S4x4x32x32, .f32⟩
  | 15 => ⟨S4x4x128x32, .f32⟩
  | 16 => ⟨S4x32x4x128, .f32⟩
  | 17 => ⟨S4x4x128x32, .f32⟩
  | 18 => ⟨S4x32x4x128, .f32⟩
  | 19 => ⟨S4x32x4x128, .f32⟩
  | 20 => ⟨S4x1x4x128, .f32⟩
  | 21 => ⟨S4x4x128, .f32⟩
  | 22 => ⟨S4x4x128, .f32⟩
  | 23 => ⟨S4x4x128x1, .f32⟩
  | 24 => ⟨S4x4x128x128, .f32⟩
  | 25 => ⟨S4x4x128x128, .f32⟩
  | 26 => ⟨S4x1x4x128, .f32⟩
  | 27 => ⟨S4x32x4x128, .f32⟩
  | 28 => ⟨S4x32x4x128, .f32⟩
  | 29 => ⟨S4x32x4x128, .f32⟩
  | 30 => ⟨S4x32x4x128, .f32⟩
  | 31 => ⟨S4x4x128x128, .f32⟩
  | 32 => ⟨S4x4x128x128, .f32⟩
  | 33 => ⟨S1x4x32x4x128, .f32⟩
  | 34 => ⟨S_, .i32⟩
  | 35 => ⟨S_, .i32⟩
  | 36 => ⟨S_, .i32⟩
  | 37 => ⟨S_, .i32⟩
  | 38 => ⟨S128x4x32x4x128, .f32⟩
  | 39 => ⟨S_, .i32⟩
  | 40 => ⟨S_, .i32⟩
  | 41 => ⟨S4x128x32x4x128, .f32⟩
  | 42 => ⟨S4x4096x4x128, .f32⟩
  | 43 => ⟨S16384x512, .f32⟩
  | _ => ⟨S16384x5632, .f32⟩

abbrev hbmTy (i : Nat) : BufTy := match i / 128 with
  | 0 => hbmTy0_0 i
  | 1 => hbmTy0_1 i
  | _ => ⟨S16384x5632, .f32⟩

abbrev bufTy : (tb : Table) → Fin (tcTables nBuf tb) → BufTy
  | .hbm, ⟨i, _⟩ => hbmTy i
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c : Ref sig .tc := ⟨.hbm, 61, rfl⟩
abbrev main_v41 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v42 : Ref sig .tc := ⟨.hbm, 71, rfl⟩
abbrev main_c_7 : Ref sig .tc := ⟨.hbm, 72, rfl⟩
abbrev main_call3_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_8 : Ref sig .tc := ⟨.hbm, 77, rfl⟩
abbrev main_call4_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_call5_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_call6_v0 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_11 : Ref sig .tc := ⟨.hbm, 92, rfl⟩
abbrev main_v55 : Ref sig .tc := ⟨.hbm, 93, rfl⟩
abbrev main_c_12 : Ref sig .tc := ⟨.hbm, 94, rfl⟩
abbrev main_v56_0 : Ref sig .tc := ⟨.hbm, 95, rfl⟩
abbrev main_v56_1 : Ref sig .tc := ⟨.hbm, 96, rfl⟩
abbrev main_v56_2 : Ref sig .tc := ⟨.hbm, 97, rfl⟩
abbrev main_v56_3 : Ref sig .tc := ⟨.hbm, 98, rfl⟩
abbrev main_v56_4 : Ref sig .tc := ⟨.hbm, 99, rfl⟩
abbrev main_v56_5 : Ref sig .tc := ⟨.hbm, 100, rfl⟩
abbrev main_v56_6 : Ref sig .tc := ⟨.hbm, 101, rfl⟩
abbrev main_v56_7 : Ref sig .tc := ⟨.hbm, 102, rfl⟩
abbrev main_while0c_c_20 : Ref sig .tc := ⟨.hbm, 103, rfl⟩
abbrev main_while0c_v60 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_call7_v0 : Ref sig .tc := ⟨.hbm, 109, rfl⟩
abbrev main_while0b_v60 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_c_2 : Ref sig .tc := ⟨.hbm, 114, rfl⟩
abbrev main_while0b_call8_v0 : Ref sig .tc := ⟨.hbm, 115, rfl⟩
abbrev main_while0b_v61 : Ref sig .tc := ⟨.hbm, 116, rfl⟩
abbrev main_while0b_call9_c : Ref sig .tc := ⟨.hbm, 117, rfl⟩
abbrev main_while0b_call9_c_0 : Ref sig .tc := ⟨.hbm, 118, rfl⟩
abbrev main_while0b_call9_c_1 : Ref sig .tc := ⟨.hbm, 119, rfl⟩
abbrev main_while0b_call9_c_2 : Ref sig .tc := ⟨.hbm, 120, rfl⟩
abbrev main_while0b_call9_v0 : Ref sig .tc := ⟨.hbm, 121, rfl⟩
abbrev main_while0b_v62 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_c_2 : Ref sig .tc := ⟨.hbm, 126, rfl⟩
abbrev main_while0b_call10_v0 : Ref sig .tc := ⟨.hbm, 127, rfl⟩
abbrev main_while0b_v63 : Ref sig .tc := ⟨.hbm, 128, rfl⟩
abbrev main_while0b_call11_call0_cst : Ref sig .tc := ⟨.hbm, 129, rfl⟩
abbrev main_while0b_call11_call0_v0 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_cst_20 : Ref sig .tc := ⟨.hbm, 138, rfl⟩
abbrev main_while0b_call12_v0 : Ref sig .tc := ⟨.hbm, 139, rfl⟩
abbrev main_while0b_call12_v1 : Ref sig .tc := ⟨.hbm, 140, rfl⟩
abbrev main_while0b_call12_v2 : Ref sig .tc := ⟨.hbm, 141, rfl⟩
abbrev main_while0b_v71 : Ref sig .tc := ⟨.hbm, 142, rfl⟩
abbrev main_while0b_v72 : Ref sig .tc := ⟨.hbm, 143, rfl⟩
abbrev main_while0b_v73 : Ref sig .tc := ⟨.hbm, 144, rfl⟩
abbrev main_while0b_v74 : Ref sig .tc := ⟨.hbm, 145, rfl⟩
abbrev main_while0b_v75 : Ref sig .tc := ⟨.hbm, 146, rfl⟩
abbrev main_while0b_v76 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_v80 : Ref sig .tc := ⟨.hbm, 151, rfl⟩
abbrev main_while0b_v81 : Ref sig .tc := ⟨.hbm, 152, rfl⟩
abbrev main_while0b_v82 : Ref sig .tc := ⟨.hbm, 153, rfl⟩
abbrev main_while0b_v83 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_call13_v0 : Ref sig .tc := ⟨.hbm, 161, rfl⟩
abbrev main_while0b_call13_c : Ref sig .tc := ⟨.hbm, 162, rfl⟩
abbrev main_while0b_call13_c_0 : Ref sig .tc := ⟨.hbm, 163, rfl⟩
abbrev main_while0b_call13_c_1 : Ref sig .tc := ⟨.hbm, 164, rfl⟩
abbrev main_while0b_call13_c_2 : Ref sig .tc := ⟨.hbm, 165, rfl⟩
abbrev main_while0b_v90 : Ref sig .tc := ⟨.hbm, 166, rfl⟩
abbrev main_while0b_c_21 : Ref sig .tc := ⟨.hbm, 167, rfl⟩
abbrev main_while0b_v91 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩

abbrev nD : Nat := 1
abbrev τ : Topo := Topo.v7x

variable {F : FTy → Type} [FloatOps F]

abbrev main_while0_count : Scf.Loop 32 := ⟨0#32, 128#32, 1#32⟩
-- ==== Kernel6.lean ====
abbrev S128x512 : Shape := ⟨2, ![128, 512]⟩
abbrev S128x1x512 : Shape := ⟨3, ![128, 1, 512]⟩
abbrev S128x5632 : Shape := ⟨2, ![128, 5632]⟩
abbrev S128x1x1024 : Shape := ⟨3, ![128, 1, 1024]⟩
abbrev S1x128x1024 : Shape := ⟨3, ![1, 128, 1024]⟩
abbrev S1x128 : Shape := ⟨2, ![1, 128]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S128 : Shape := ⟨1, ![128]⟩
abbrev S128x1024 : Shape := ⟨2, ![128, 1024]⟩
abbrev S128x128 : Shape := ⟨2, ![128, 128]⟩
abbrev S128x1 : Shape := ⟨2, ![128, 1]⟩

abbrev nBuf : Space → Nat
  | .hbm => 20
  | .vmem => 14
  | .smem => 0
  | _ => 0

abbrev bufTy : (tb : Table) → Fin (tcTables nBuf tb) → BufTy
  | .hbm, ⟨0, _⟩ => ⟨S128x512, .f32⟩
  | .hbm, ⟨1, _⟩ => ⟨S128x1x512, .f32⟩
  | .hbm, ⟨2, _⟩ => ⟨S128x5632, .f32⟩
  | .hbm, ⟨3, _⟩ => ⟨S128x1x1024, .f32⟩
  | .hbm, ⟨4, _⟩ => ⟨S1x128x1024, .f32⟩
  | .hbm, ⟨5, _⟩ => ⟨S1x128, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S128, .f32⟩
  | .hbm, ⟨16, _⟩ => ⟨S1x128, .f32⟩
  | .hbm, ⟨17, _⟩ => ⟨S128x512, .f32⟩
  | .hbm, ⟨18, _⟩ => ⟨S128x1024, .f32⟩
  | .hbm, ⟨19, _⟩ => ⟨S128x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x1024, .f32⟩
  | .local _ .vmem, ⟨8, _⟩ => ⟨S1x128x1024, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference6Ideal.lean ====
abbrev S128x512 : Shape := ⟨2, ![128, 512]⟩
abbrev S128x1x512 : Shape := ⟨3, ![128, 1, 512]⟩
abbrev S128x5632 : Shape := ⟨2, ![128, 5632]⟩
abbrev S128x1x1024 : Shape := ⟨3, ![128, 1, 1024]⟩
abbrev S1x128x1024 : Shape := ⟨3, ![1, 128, 1024]⟩
abbrev S1x128 : Shape := ⟨2, ![1, 128]⟩
abbrev S1x512x1024 : Shape := ⟨3, ![1, 512, 1024]⟩
abbrev S1x1024x1024 : Shape := ⟨3, ![1, 1024, 1024]⟩
abbrev S128x1x5632 : Shape := ⟨3, ![128, 1, 5632]⟩
abbrev S128x1x4x128 : Shape := ⟨4, ![128, 1, 4, 128]⟩
abbrev S128 : Shape := ⟨1, ![128]⟩
abbrev S_ : Shape := ⟨0, ![]⟩
abbrev S128x1x4 : Shape := ⟨3, ![128, 1, 4]⟩
abbrev S128x1x4x1 : Shape := ⟨4, ![128, 1, 4, 1]⟩
abbrev S1x1x1x128 : Shape := ⟨4, ![1, 1, 1, 128]⟩
abbrev S512x1024 : Shape := ⟨2, ![512, 1024]⟩
abbrev S1024x1024 : Shape := ⟨2, ![1024, 1024]⟩
abbrev S128x1024 : Shape := ⟨2, ![128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x1x512, .f32⟩
  | .hbm, ⟨2, _⟩ => ⟨S128x5632, .f32⟩
  | .hbm, ⟨3, _⟩ => ⟨S128x1x1024, .f32⟩
  | .hbm, ⟨4, _⟩ => ⟨S1x128x1024, .f32⟩
  | .hbm, ⟨5, _⟩ => ⟨S1x128, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S128x1x5632, .f32⟩
  | .hbm, ⟨10, _⟩ => ⟨S128x1x512, .f32⟩
  | .hbm, ⟨11, _⟩ => ⟨S128x1x1024, .f32⟩
  | .hbm, ⟨12, _⟩ => ⟨S128x1x1024, .f32⟩
  | .hbm, ⟨13, _⟩ => ⟨S128x1x512, .f32⟩
  | .hbm, ⟨14, _⟩ => ⟨S128x1x4x128, .f32⟩
  | .hbm, ⟨15, _⟩ => ⟨S128, .f32⟩
  | .hbm, ⟨16, _⟩ => ⟨S128x1x4x128, .f32⟩
  | .hbm, ⟨17, _⟩ => ⟨S_, .f32⟩
  | .hbm, ⟨18, _⟩ => ⟨S128x1x4, .f32⟩
  | .hbm, ⟨19, _⟩ => ⟨S128x1x4x1, .f32⟩
  | .hbm, ⟨20, _⟩ => ⟨S_, .f32⟩
  | .hbm, ⟨21, _⟩ => ⟨S128x1x4x1, .f32⟩
  | .hbm, ⟨22, _⟩ => ⟨S128x1x4x1, .f32⟩
  | .hbm, ⟨23, _⟩ => ⟨S_, .f32⟩
  | .hbm, ⟨24, _⟩ => ⟨S128x1x4x1, .f32⟩
  | .hbm, ⟨25, _⟩ => ⟨S128x1x4x1, .f32⟩
  | .hbm, ⟨26, _⟩ => ⟨S128x1x4x1, .f32⟩
  | .hbm, ⟨27, _⟩ => ⟨S128x1x4x128, .f32⟩
  | .hbm, ⟨28, _⟩ => ⟨S128x1x4x128, .f32⟩
  | .hbm, ⟨29, _⟩ => ⟨S1x1x1x128, .f32⟩
  | .hbm, ⟨30, _⟩ => ⟨S128x1x4x128, .f32⟩
  | .hbm, ⟨31, _⟩ => ⟨S128x1x4x128, .f32⟩
  | .hbm, ⟨32, _⟩ => ⟨S128x1x512, .f32⟩
  | .hbm, ⟨33, _⟩ => ⟨S128x1x512, .f32⟩
  | .hbm, ⟨34, _⟩ => ⟨S128x1x512, .f32⟩
  | .hbm, ⟨35, _⟩ => ⟨S_, .f32⟩
  | .hbm, ⟨36, _⟩ => ⟨S128x1x512, .f32⟩
  | .hbm, ⟨37, _⟩ => ⟨S128x1x512, .f32⟩
  | .hbm, ⟨38, _⟩ => ⟨S_, .f32⟩
  | .hbm, ⟨39, _⟩ => ⟨S128x1x512, .f32⟩
  | .hbm, ⟨40, _⟩ => ⟨S128x1x512, .f32⟩
  | .hbm, ⟨41, _⟩ => ⟨S128x1x512, .f32⟩
  | .hbm, ⟨42, _⟩ => ⟨S128x1x512, .f32⟩
  | .hbm, ⟨43, _⟩ => ⟨S128x1x1024, .f32⟩
  | .hbm, ⟨44, _⟩ => ⟨S128x1x1024, .f32⟩
  | .hbm, ⟨45, _⟩ => ⟨S_, .f32⟩
  | .hbm, ⟨46, _⟩ => ⟨S128x1x1024, .f32⟩
  | .hbm, ⟨47, _⟩ => ⟨S128x1x1024, .f32⟩
  | .hbm, ⟨48, _⟩ => ⟨S_, .f32⟩
  | .hbm, ⟨49, _⟩ => ⟨S128x1x1024, .f32⟩
  | .hbm, ⟨50, _⟩ => ⟨S128x1x1024, .f32⟩
  | .hbm, ⟨51, _⟩ => ⟨S512x1024, .f32⟩
  | .hbm, ⟨52, _⟩ => ⟨S128x1x1024, .f32⟩
  | .hbm, ⟨53, _⟩ => ⟨S128x1x1024, .f32⟩
  | .hbm, ⟨54, _⟩ => ⟨S128x1x1024, .f32⟩
  | .hbm, ⟨55, _⟩ => ⟨S128x1x1024, .f32⟩
  | .hbm, ⟨56, _⟩ => ⟨S_, .f32⟩
  | .hbm, ⟨57, _⟩ => ⟨S128x1x1024, .f32⟩
  | .hbm, ⟨58, _⟩ => ⟨S128x1x1024, .f32⟩
  | .hbm, ⟨59, _⟩ => ⟨S_, .f32⟩
  | .hbm, ⟨60, _⟩ => ⟨S128x1x1024, .f32⟩
  | .hbm, ⟨61, _⟩ => ⟨S128x1x1024, .f32⟩
  | .hbm, ⟨62, _⟩ => ⟨S512x1024, .f32⟩
  | .hbm, ⟨63, _⟩ => ⟨S128x1x1024, .f32⟩
  | .hbm, ⟨64, _⟩ => ⟨S128x1x1024, .f32⟩
  | .hbm, ⟨65, _⟩ => ⟨S128x1x1024, .f32⟩
  | .hbm, ⟨66, _⟩ => ⟨S128x1x1024, .f32⟩
  | .hbm, ⟨67, _⟩ => ⟨S1024x1024, .f32⟩
  | .hbm, ⟨68, _⟩ => ⟨S128x1x1024, .f32⟩
  | .hbm, ⟨69, _⟩ => ⟨S128x1x1024, .f32⟩
  | .hbm, ⟨70, _⟩ => ⟨S128x1x1024, .f32⟩
  | .hbm, ⟨71, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Kernel7.lean ====
abbrev S4x1024 : Shape := ⟨2, ![4, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S136x1024 : Shape := ⟨2, ![136, 1024]⟩
abbrev S1024x6144 : Shape := ⟨2, ![1024, 6144]⟩
abbrev S6144 : Shape := ⟨1, ![6144]⟩
abbrev S136x6144 : Shape := ⟨2, ![136, 6144]⟩
abbrev S1024x768 : Shape := ⟨2, ![1024, 768]⟩
abbrev S1x768 : Shape := ⟨2, ![1, 768]⟩
abbrev S136x768 : Shape := ⟨2, ![136, 768]⟩
abbrev S4x6144 : Shape := ⟨2, ![4, 6144]⟩
abbrev S128x6144 : Shape := ⟨2, ![128, 6144]⟩

abbrev nBuf : Space → Nat
  | .hbm => 13
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S1024x6144, .f32⟩
  | .hbm, ⟨8, _⟩ => ⟨S6144, .f32⟩
  | .hbm, ⟨9, _⟩ => ⟨S1x6144, .f32⟩
  | .hbm, ⟨10, _⟩ => ⟨S136x6144, .f32⟩
  | .hbm, ⟨11, _⟩ => ⟨S4x6144, .f32⟩
  | .hbm, ⟨12, _⟩ => ⟨S128x6144, .f32⟩
  | .local _ .vmem, ⟨0, _⟩ => ⟨S136x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S136x768, .f32⟩
  | .local _ .vmem, ⟨6, _⟩ => ⟨S136x768, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x1024 : Shape := ⟨2, ![4, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S4x6144 : Shape := ⟨2, ![4, 6144]⟩
abbrev S6144 : Shape := ⟨1, ![6144]⟩
abbrev S128x6144 : Shape := ⟨2, ![128, 6144]⟩

abbrev nBuf : Space → Nat
  | .hbm => 34
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024x6144, .f32⟩
  | .hbm, ⟨14, _⟩ => ⟨S4x6144, .f32⟩
  | .hbm, ⟨15, _⟩ => ⟨S6144, .f32⟩
  | .hbm, ⟨16, _⟩ => ⟨S1x6144, .f32⟩
  | .hbm, ⟨17, _⟩ => ⟨S4x6144, .f32⟩
  | .hbm, ⟨18, _⟩ => ⟨S4x6144, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1024x6144, .f32⟩
  | .hbm, ⟨29, _⟩ => ⟨S128x6144, .f32⟩
  | .hbm, ⟨30, _⟩ => ⟨S6144, .f32⟩
  | .hbm, ⟨31, _⟩ => ⟨S1x6144, .f32⟩
  | .hbm, ⟨32, _⟩ => ⟨S128x6144, .f32⟩
  | .hbm, ⟨33, _⟩ => ⟨S128x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Proof.InRef.lean ====
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo

/-- One entry of the modulated norm: group `b`, row `t` of the group, column `d`. -/
def modAt (x0 : Vec Ideal S4x4096x1024 .f32) (x1 x2 : Vec Ideal S4x1x1024 .f32) (x3 : Vec Ideal S1x1024 .f32) (b : Fin 4) (t : Fin 4096) (d : Fin 1024) : EReal :=
  x0 (ix3 b t d) * Ideal.rsqrt (Ideal.div (∑ e : Fin 1024, x0 (ix3 b t e) * x0 (ix3 b t e)) (Ideal.ofBits FTy.f32 0x44800000#32) + Ideal.ofBits FTy.f32 0x358637BD#32)
    * x3 (ix2 0 d) * (1 + x1 (ix3 b 0 d)) + x2 (ix3 b 0 d)

/-- A row of the projection with its queries and its keys normalised head by head: column `j`. -/
def normed (z : Fin 5632 → EReal) (gq gk : Fin 64 → EReal) (j : Fin 5632) : EReal :=
  if (j : ℕ) < 512 then
    z j * Ideal.rsqrt (Ideal.div (∑ e : Fin 64, z ⟨(j : ℕ) / 64 * 64 + e, by omega⟩ * z ⟨(j : ℕ) / 64 * 64 + e, by omega⟩) (Ideal.ofBits FTy.f32 0x42800000#32) + Ideal.ofBits FTy.f32 0x358637BD#32) * gq ⟨(j : ℕ) % 64, by omega⟩
  else if (j : ℕ) < 1024 then
    z j * Ideal.rsqrt (Ideal.div (∑ e : Fin 64, z ⟨(j : ℕ) / 64 * 64 + e, by omega⟩ * z ⟨(j : ℕ) / 64 * 64 + e, by omega⟩) (Ideal.ofBits FTy.f32 0x42800000#32) + Ideal.ofBits FTy.f32 0x358637BD#32) * gk ⟨(j : ℕ) % 64, by omega⟩
  else z j

/-- The modulated norm as the reference computes it. -/
def modArr (x0 : Vec Ideal S4x4096x1024 .f32) (x1 x2 : Vec Ideal S4x1x1024 .f32) (x3 : Vec Ideal S1x1024 .f32) : Vec Ideal S4x4096x1024 .f32 :=
  addf (F := Ideal) (mulf (F := Ideal) (mulf (F := Ideal) (mulf (F := Ideal) x0 (broadcastInDim S4x4096x1024 ![0, 1, 2] bcast_S4x4096x1_S4x4096x1024_0_1_2 (Host.rsqrt (F := Ideal) (addf (F := Ideal) (Host.divf (F := Ideal) (broadcastInDim S4x4096x1 ![0, 1] bcast_S4x4096_S4x4096x1_0_1 (Host.reduceAdd (F := Ideal) (mulf (F := Ideal) x0 x0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 (shapeCast S1024 x3 shapeCasts_S1x1024_S1024)))) (broadcastInDim S4x4096x1024 ![0, 1, 2] bcast_S4x1x1024_S4x4096x1024_0_1_2 (addf (F := Ideal) (broadcastInDim S4x1x1024 ![] bcast_S_S4x1x1024 (constant (F := Ideal) S_ .f32 0x3F800000#32)) x1))) (broadcastInDim S4x4096x1024 ![0, 1, 2] bcast_S4x1x1024_S4x4096x1024_0_1_2 x2)

/-- The projection of an array as the reference computes it. -/
def projArr (h : Vec Ideal S4x4096x1024 .f32) (x4 : Vec Ideal S1x1024x5632 .f32) : Vec Ideal S4x4096x5632 .f32 :=
  Host.dotGeneral (F := Ideal) (φ₁ := .f32) (φ₂ := .f32) dot_S4x4096x1024_S1024x5632_S4x4096x5632_2_0_01_1_n_n none h (shapeCast S1024x5632 x4 shapeCasts_S1x1024x5632_S1024x5632)

/-- The norm of the queries and the keys of a projection as the reference computes it. -/
def headsArr (z : Vec Ideal S4x4096x5632 .f32) (x5 x6 : Vec Ideal S1x64 .f32) : Vec Ideal S16384x5632 .f32 :=
  shapeCast S16384x5632 ((concatenate S4x4096x5632 2 [⟨S4x4096x512, ((shapeCast S4x4096x512 (mulf (F := Ideal) (mulf (F := Ideal) (shapeCast S4x4096x8x64 (extractStridedSlice S4x4096x512 ![0, 0, 0] z slices_S4x4096x5632_S4x4096x512_0_0_0) shapeCasts_S4x4096x512_S4x4096x8x64) (broadcastInDim S4x4096x8x64 ![0, 1, 2, 3] bcast_S4x4096x8x1_S4x4096x8x64_0_1_2_3 (Host.rsqrt (F := Ideal) (addf (F := Ideal) (Host.divf (F := Ideal) (broadcastInDim S4x4096x8x1 ![0, 1, 2] bcast_S4x4096x8_S4x4096x8x1_0_1_2 (Host.reduceAdd (F := Ideal) (mulf (F := Ideal) (shapeCast S4x4096x8x64 (extractStridedSlice S4x4096x512 ![0, 0, 0] z slices_S4x4096x5632_S4x4096x512_0_0_0) shapeCasts_S4x4096x512_S4x4096x8x64) (shapeCast S4x4096x8x64 (extractStridedSlice S4x4096x512 ![0, 0, 0] z slices_S4x4096x5632_S4x4096x512_0_0_0) shapeCasts_S4x4096x512_S4x4096x8x64)) (constant (F := Ideal) S_ .f32 0x00000000#32) reducesTo_S4x4096x8x64_S4x4096x8_d3 h_S_)) (broadcastInDim S4x4096x8x1 ![] bcast_S_S4x4096x8x1 (constant (F := Ideal) S_ .f32 0x42800000#32))) (broadcastInDim S4x4096x8x1 ![] bcast_S_S4x4096x8x1 (constant (F := Ideal) S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast S64 x5 shapeCasts_S1x64_S64)))) shapeCasts_S4x4096x8x64_S4x4096x512))⟩, ⟨S4x4096x512, ((shapeCast S4x4096x512 (mulf (F := Ideal) (mulf (F := Ideal) (shapeCast S4x4096x8x64 (extractStridedSlice S4x4096x512 ![0, 0, 512] z slices_S4x4096x5632_S4x4096x512_0_0_512) shapeCasts_S4x4096x512_S4x4096x8x64) (broadcastInDim S4x4096x8x64 ![0, 1, 2, 3] bcast_S4x4096x8x1_S4x4096x8x64_0_1_2_3 (Host.rsqrt (F := Ideal) (addf (F := Ideal) (Host.divf (F := Ideal) (broadcastInDim S4x4096x8x1 ![0, 1, 2] bcast_S4x4096x8_S4x4096x8x1_0_1_2 (Host.reduceAdd (F := Ideal) (mulf (F := Ideal) (shapeCast S4x4096x8x64 (extractStridedSlice S4x4096x512 ![0, 0, 512] z slices_S4x4096x5632_S4x4096x512_0_0_512) shapeCasts_S4x4096x512_S4x4096x8x64) (shapeCast S4x4096x8x64 (extractStridedSlice S4x4096x512 ![0, 0, 512] z slices_S4x4096x5632_S4x4096x512_0_0_512) shapeCasts_S4x4096x512_S4x4096x8x64)) (constant (F := Ideal) S_ .f32 0x00000000#32) reducesTo_S4x4096x8x64_S4x4096x8_d3 h_S_)) (broadcastInDim S4x4096x8x1 ![] bcast_S_S4x4096x8x1 (constant (F := Ideal) S_ .f32 0x42800000#32))) (broadcastInDim S4x4096x8x1 ![] bcast_S_S4x4096x8x1 (constant (F := Ideal) S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast S64 x6 shapeCasts_S1x64_S64)))) shapeCasts_S4x4096x8x64_S4x4096x512))⟩, ⟨S4x4096x4608, ((extractStridedSlice S4x4096x4608 ![0, 0, 1024] z slices_S4x4096x5632_S4x4096x4608_0_0_1024))⟩] concatenates_S4x4096x512_S4x4096x512_S4x4096x4608_S4x4096x5632_d2)) shapeCasts_S4x4096x5632_S16384x5632

theorem modArr_apply (x0 : Vec Ideal S4x4096x1024 .f32) (x1 x2 : Vec Ideal S4x1x1024 .f32) (x3 : Vec Ideal S1x1024 .f32) (b : Fin 4) (t : Fin 4096) (d : Fin 1024) :
    modArr x0 x1 x2 x3 (ix3 b t d) = modAt x0 x1 x2 x3 b t d := by
  unfold modArr
  pointwise
  unfold modAt
  rfl

theorem projArr_apply (h : Vec Ideal S4x4096x1024 .f32) (x4 : Vec Ideal S1x1024x5632 .f32) (b : Fin 4) (t : Fin 4096) (j : Fin 5632) :
    projArr h x4 (ix3 b t j) = ∑ d : Fin 1024, h (ix3 b t d) * x4 (ix3 0 d j) := by
  unfold projArr
  pointwise

theorem headsArr_apply (z : Vec Ideal S4x4096x5632 .f32) (x5 x6 : Vec Ideal S1x64 .f32) (n : Fin 16384) (j : Fin 5632) :
    headsArr z x5 x6 (ix2 n j) = normed (fun k => z (ix3 ⟨(n : ℕ) / 4096, by omega⟩ ⟨(n : ℕ) % 4096, by omega⟩ k)) (fun e => x5 (ix2 0 e)) (fun e => x6 (ix2 0 e)) j := by
  unfold headsArr
  pointwise
  obtain ⟨j, hj⟩ := j
  unfold normed
  simp only
  by_cases h1 : j < 512
  · have e : j / 64 * 64 + j % 64 = j := by omega
    simp only [dif_pos h1, if_pos h1, e]
  · by_cases h2 : j < 1024
    · have h3 : j - 512 < 512 := by omega
      have e : 512 + ((j - 512) / 64 * 64 + (j - 512) % 64) = j := by omega
      have e' : (j - 512) % 64 = j % 64 := by omega
      have e'' : ∀ x : Fin 64, 512 + ((j - 512) / 64 * 64 + (x : ℕ)) = j / 64 * 64 + x := fun x => by omega
      have e3 : 512 + ((j - 512) / 64 * 64 + j % 64) = j := by omega
      simp only [dif_neg h1, if_neg h1, dif_pos h3, if_pos h2, e', e'', e3]
    · have h3 : ¬ j - 512 < 512 := by omega
      have e : 1024 + (j - 512 - 512) = j := by omega
      simp only [dif_neg h1, if_neg h1, dif_neg h3, if_neg h2, e]

/-- One entry of the projection before the norms: row `n`, column `j`. -/
def projAt (x0 : Vec Ideal S4x4096x1024 .f32) (x1 x2 : Vec Ideal S4x1x1024 .f32) (x3 : Vec Ideal S1x1024 .f32) (x4 : Vec Ideal S1x1024x5632 .f32) (n : Fin 16384) (j : Fin 5632) : EReal :=
  ∑ d : Fin 1024, modAt x0 x1 x2 x3 ⟨(n : ℕ) / 4096, by omega⟩ ⟨(n : ℕ) % 4096, by omega⟩ d * x4 (ix3 0 d j)

/-- What the reference computes, as one term of its arguments. -/
def projected (x0 : Vec Ideal S4x4096x1024 .f32) (x1 x2 : Vec Ideal S4x1x1024 .f32) (x3 : Vec Ideal S1x1024 .f32) (x4 : Vec Ideal S1x1024x5632 .f32) (x5 x6 : Vec Ideal S1x64 .f32) : Vec Ideal S16384x5632 .f32 :=
  headsArr (projArr (modArr x0 x1 x2 x3) x4) x5 x6

/-- One entry of it: row `n`, column `j`. -/
theorem projected_apply (x0 : Vec Ideal S4x4096x1024 .f32) (x1 x2 : Vec Ideal S4x1x1024 .f32) (x3 : Vec Ideal S1x1024 .f32) (x4 : Vec Ideal S1x1024x5632 .f32) (x5 x6 : Vec Ideal S1x64 .f32) (n : Fin 16384) (j : Fin 5632) :
    projected x0 x1 x2 x3 x4 x5 x6 (ix2 n j)
      = normed (projAt x0 x1 x2 x3 x4 n) (fun e => x5 (ix2 0 e)) (fun e => x6 (ix2 0 e)) j := by
  unfold projected
  rw [headsArr_apply]
  simp only [projArr_apply, modArr_apply]
  rfl

/-- The reference's result is that term. -/
theorem result (m : (ℓ : Loc nD τ sig) → Buf (Elt Ideal) ℓ) (c : Dev nD) :
    res_main_v58 m c = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference2Ideal.Value

end
-- ==== Proof.In.lean ====
module

public import proofs.«01_k».proof.Defs
public import proofs.«01_k».proof.Proof.Gen.Kernel2Ideal.Value
public import proofs.«01_k».proof.Proof.InRef
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Reference2Ideal.Value (modAt normed projAt projected projected_apply)

/-- The constants of the head norm. -/
theorem lit64 : Ideal.ofBits FTy.f32 1115684864#32 = ((64 : ℝ) : EReal) := by
  simp [Ideal.ofBits, Ideal.ieee, -EReal.coe_mul]; norm_num
theorem lit64inv : Ideal.ofBits FTy.f32 1015021568#32 = ((1 / 64 : ℝ) : EReal) := by
  simp [Ideal.ofBits, Ideal.ieee, -EReal.coe_mul]; norm_num
theorem lit1024 : Ideal.ofBits FTy.f32 0x44800000#32 = ((1024 : ℝ) : EReal) := by
  simp [Ideal.ofBits, Ideal.ieee, -EReal.coe_mul]; norm_num
theorem litEps : ∃ e : ℝ, 0 < e ∧ Ideal.ofBits FTy.f32 0x358637BD#32 = (e : EReal) := by
  refine ⟨8796093 / 8796093022208, by norm_num, ?_⟩
  simp [Ideal.ofBits, Ideal.ieee, -EReal.coe_mul]; norm_num

/-- A real number, neither of the infinities. -/
def Real' (x : EReal) : Prop := ∃ r : ℝ, x = (r : EReal)

theorem real_add {x y : EReal} (hx : Real' x) (hy : Real' y) : Real' (x + y) := by
  obtain ⟨a, rfl⟩ := hx; obtain ⟨b, rfl⟩ := hy; exact ⟨a + b, (EReal.coe_add a b).symm⟩
theorem real_mul {x y : EReal} (hx : Real' x) (hy : Real' y) : Real' (x * y) := by
  obtain ⟨a, rfl⟩ := hx; obtain ⟨b, rfl⟩ := hy; exact ⟨a * b, (EReal.coe_mul a b).symm⟩
theorem coe_sum {n : ℕ} (g : Fin n → ℝ) : ((∑ i, g i : ℝ) : EReal) = ∑ i, (g i : EReal) :=
  map_sum (⟨⟨fun r => (r : EReal), rfl⟩, EReal.coe_add⟩ : ℝ →+ EReal) g Finset.univ
theorem real_sum {n : ℕ} {f : Fin n → EReal} (h : ∀ i, Real' (f i)) : Real' (∑ i, f i) := by
  choose g hg using h
  exact ⟨∑ i, g i, by rw [coe_sum]; exact Finset.sum_congr rfl fun i _ => hg i⟩
theorem real_one : Real' 1 := ⟨1, rfl⟩
theorem real_sub_self {x : EReal} (h : Real' x) : x - x = 0 := by
  obtain ⟨a, rfl⟩ := h; rw [← EReal.coe_sub, sub_self]; rfl
theorem real_of_sub_self {x : EReal} (h : x - x = 0) : Real' x := by
  induction x using EReal.rec with
  | bot => simp at h
  | top => simp at h
  | coe r => exact ⟨r, rfl⟩

/-- The factor of a root mean square norm of real numbers is a real number. -/
theorem real_rsqrt {n : ℕ} {f : Fin n → EReal} (h : ∀ i, Real' (f i)) :
    Real' (Ideal.rsqrt (Ideal.div (∑ i, f i * f i) (Ideal.ofBits FTy.f32 0x44800000#32) + Ideal.ofBits FTy.f32 0x358637BD#32)) := by
  choose g hg using h
  obtain ⟨e, he, heq⟩ := litEps
  have hs : ∑ i, f i * f i = ((∑ i, g i * g i : ℝ) : EReal) := by
    rw [coe_sum]; exact Finset.sum_congr rfl fun i _ => by rw [hg i, EReal.coe_mul]
  rw [hs, heq, lit1024, Ideal.div_coe (by norm_num), ← EReal.coe_mul, ← EReal.coe_add]
  have hp : 0 < (∑ i, g i * g i) * (1 / 1024) + e :=
    add_pos_of_nonneg_of_pos (mul_nonneg (Finset.sum_nonneg fun i _ => mul_self_nonneg (g i)) (by norm_num)) he
  generalize (∑ i, g i * g i) * (1 / 1024) + e = v at hp
  have hr : Ideal.rsqrt (v : EReal) = if v < 0 then ⊥ else if v = 0 then ⊤ else (((Real.sqrt v)⁻¹ : ℝ) : EReal) := rfl
  exact ⟨(Real.sqrt v)⁻¹, by rw [hr, if_neg (not_lt.mpr hp.le), if_neg hp.ne']⟩

/-- A row of the block diagonal sums the head's columns. -/
theorem sum_head (f : Fin 512 → EReal) (j : Fin 512) :
    ∑ i : Fin 512, f i * (if (i : ℕ) / 64 = (j : ℕ) / 64 then 1 else 0) = ∑ e : Fin 64, f ⟨(j : ℕ) / 64 * 64 + e, by omega⟩ := by
  symm
  refine Finset.sum_of_injOn (fun e : Fin 64 => (⟨(j : ℕ) / 64 * 64 + e, by omega⟩ : Fin 512)) ?_ ?_ ?_ ?_
  · intro a _ b _ h
    have := congrArg Fin.val h
    exact Fin.ext (by simpa using this)
  · intro a _; exact Finset.mem_coe.mpr (Finset.mem_univ _)
  · intro i _ hi
    have : ¬ (i : ℕ) / 64 = (j : ℕ) / 64 := fun h => hi ⟨⟨(i : ℕ) % 64, by omega⟩, Finset.mem_coe.mpr (Finset.mem_univ _), Fin.ext (by simp only; omega)⟩
    rw [if_neg this, mul_zero]
  · intro e _
    have : ((j : ℕ) / 64 * 64 + (e : ℕ)) / 64 = (j : ℕ) / 64 := by omega
    simp only [this, if_true, mul_one]

/-- The blocks that point `t` reads and writes. -/
theorem idx : ∀ t : Fin cfg0.N,
    (win0_0.index t 0 = (t : ℕ) / 11 ∧ win0_0.index t 1 = 0)
    ∧ (win0_1.index t 0 = (t : ℕ) / 11 / 4 ∧ win0_1.index t 1 = 0 ∧ win0_1.index t 2 = 0)
    ∧ (win0_2.index t 0 = (t : ℕ) / 11 / 4 ∧ win0_2.index t 1 = 0 ∧ win0_2.index t 2 = 0)
    ∧ (win0_3.index t 0 = 0 ∧ win0_3.index t 1 = 0)
    ∧ (win0_4.index t 0 = 0 ∧ win0_4.index t 1 = (t : ℕ) % 11)
    ∧ (win0_5.index t 0 = 0 ∧ win0_5.index t 1 = min ((t : ℕ) % 11) 1)
    ∧ (win0_6.index t 0 = min ((t : ℕ) % 11) 1 ∧ win0_6.index t 1 = 0 ∧ win0_6.index t 2 = 0)
    ∧ (win0_7.index t 0 = 0 ∧ win0_7.index t 1 = 0)
    ∧ (win0_8.index t 0 = (t : ℕ) / 11 ∧ win0_8.index t 1 = (t : ℕ) % 11) :=
  (by decide +kernel : ∀ t : Fin grid0.N, _)

/-- The payloads, entry by entry. -/
theorem pay1_apply (v9 : Vec Ideal S1024x1024 .f32) (v11 : Vec Ideal S1x1024 .f32) (v13 v15 : Vec Ideal S1x1x1024 .f32) (y d : Fin 1024) :
    k0_pay1 (F := Ideal) v9 v11 v13 v15 (ix2 y d)
      = v9 (ix2 y d) * Ideal.rsqrt (Ideal.div (∑ e : Fin 1024, v9 (ix2 y e) * v9 (ix2 y e)) (Ideal.ofBits FTy.f32 0x44800000#32) + Ideal.ofBits FTy.f32 0x358637BD#32)
        * v11 (ix2 0 d) * (1 + v13 (ix3 0 0 d)) + v15 (ix3 0 0 d) := by
  unfold k0_pay1
  pointwise
  try rfl
theorem pay3_apply (v9 : Vec Ideal S1024x1024 .f32) (v11 : Vec Ideal S1x1024 .f32) (v13 v15 : Vec Ideal S1x1x1024 .f32) (y d : Fin 1024) :
    k0_pay3 (F := Ideal) v9 v11 v13 v15 (ix2 y d) = k0_pay1 (F := Ideal) v9 v11 v13 v15 (ix2 y d) := by
  unfold k0_pay3 k0_pay2
  generalize k0_pay1 (F := Ideal) v9 v11 v13 v15 = q
  pointwise
theorem pay4_apply (v9 : Vec Ideal S1024x1024 .f32) (v11 : Vec Ideal S1x1024 .f32) (v13 v15 : Vec Ideal S1x1x1024 .f32) (y d : Fin 1024) :
    k0_pay4 (F := Ideal) v9 v11 v13 v15 (ix2 y d) = k0_pay1 (F := Ideal) v9 v11 v13 v15 (ix2 y d) - k0_pay1 (F := Ideal) v9 v11 v13 v15 (ix2 y d) := by
  unfold k0_pay4 k0_pay2
  generalize k0_pay1 (F := Ideal) v9 v11 v13 v15 = q
  pointwise
theorem pay6_apply (v9 : Vec Ideal S1024x1024 .bf16) (v10 : Vec Ideal S1024x512 .bf16) (y : Fin 1024) (j : Fin 512) :
    k0_pay6 (F := Ideal) v9 v10 (ix2 y j) = ∑ d : Fin 1024, v9 (ix2 y d) * v10 (ix2 d j) := by
  unfold k0_pay6
  pointwise

/-- The three products of the split operands. -/
def three (v9 : Vec Ideal S1024x1024 .bf16) (v10 v13 : Vec Ideal S1024x512 .bf16) (v16 : Vec Ideal S1024x1024 .bf16) (y : Fin 1024) (j : Fin 512) : EReal :=
  (∑ d : Fin 1024, v9 (ix2 y d) * v10 (ix2 d j)) + ((∑ d : Fin 1024, v9 (ix2 y d) * v13 (ix2 d j)) + ∑ d : Fin 1024, v16 (ix2 y d) * v10 (ix2 d j))

theorem pay5_apply (v9 : Vec Ideal S1024x1024 .bf16) (v10 v13 : Vec Ideal S1024x512 .bf16) (v16 : Vec Ideal S1024x1024 .bf16) (v25 v28 : Vec Ideal S512x512 .bf16) (v38 : Vec Ideal S1x1x512 .f32) (y : Fin 1024) (j : Fin 512) :
    k0_pay5 (F := Ideal) v9 v10 v13 v16 v25 v28 v38 (ix2 y j)
      = three v9 v10 v13 v16 y j * Ideal.rsqrt (((∑ i : Fin 512, three v9 v10 v13 v16 y i * three v9 v10 v13 v16 y i * v25 (ix2 i j))
          + ∑ i : Fin 512, (three v9 v10 v13 v16 y i * three v9 v10 v13 v16 y i - three v9 v10 v13 v16 y i * three v9 v10 v13 v16 y i) * v28 (ix2 i j)) * Ideal.ofBits FTy.f32 0x3C800000#32 + Ideal.ofBits FTy.f32 0x358637BD#32)
        * v38 (ix3 0 0 j) := by
  unfold k0_pay5
  pointwise
  try rfl

/-- The row of the arrays that row `y` of point `t`'s block is. -/
def row (t : Fin cfg0.N) (y : Fin 1024) : Fin 16384 := ⟨1024 * ((t : ℕ) / 11) + y, by have := t.isLt; have : cfg0.N = 176 := rfl; omega⟩

section reads
variable (c : Dev nD) (t : Fin cfg0.N) (y : Fin 1024)

theorem V_v0 : V m c main_v0 = shapeCast S16384x1024 (m ((c : Thread nD τ).loc main_arg0)) shapeCasts_S4x4096x1024_S16384x1024 := by
  entry_read
  rfl
theorem V_v2 : V m c main_v2 = truncf (F := Ideal) .bf16 (shapeCast S1024x5632 (m ((c : Thread nD τ).loc main_arg4)) shapeCasts_S1x1024x5632_S1024x5632) bitsLt_bf16_f32 := by
  rfl
theorem V_v6 : V m c main_v6 = extractStridedSlice S1024x1024 ![0, 0] (truncf (F := Ideal) .bf16 (subf (F := Ideal) (shapeCast S1024x5632 (m ((c : Thread nD τ).loc main_arg4)) shapeCasts_S1x1024x5632_S1024x5632) (extf (F := Ideal) .f32 (truncf (F := Ideal) .bf16 (shapeCast S1024x5632 (m ((c : Thread nD τ).loc main_arg4)) shapeCasts_S1x1024x5632_S1024x5632) bitsLt_bf16_f32) bitsLt_bf16_f32)) bitsLt_bf16_f32) slices_S1024x5632_S1024x1024_0_0 := by
  rfl
theorem V_v29 : V m c main_v29 = shapeCast S1x1024 (shapeCast S1024 (m ((c : Thread nD τ).loc main_arg3)) shapeCasts_S1x1024_S1024) shapeCasts_S1024_S1x1024 := by
  rfl

/-- The gains of the heads' norms, once per head. -/
def gains (x5 x6 : Vec Ideal S1x64 .f32) : Vec Ideal S2x1x512 .f32 :=
  shapeCast S2x1x512 (concatenate S2x512 0 [⟨S1x512, broadcastInDim S1x512 ![1] bcast_S512_S1x512_1 (shapeCast S512 (broadcastInDim S8x64 ![0, 1] bcast_S1x64_S8x64_0_1 (shapeCast S1x64 (shapeCast S64 x5 shapeCasts_S1x64_S64) shapeCasts_S64_S1x64)) shapeCasts_S8x64_S512)⟩, ⟨S1x512, broadcastInDim S1x512 ![1] bcast_S512_S1x512_1 (shapeCast S512 (broadcastInDim S8x64 ![0, 1] bcast_S1x64_S8x64_0_1 (shapeCast S1x64 (shapeCast S64 x6 shapeCasts_S1x64_S64) shapeCasts_S64_S1x64)) shapeCasts_S8x64_S512)⟩] concatenates_S1x512_S1x512_S2x512_d0) shapeCasts_S2x512_S2x1x512
theorem V_v18 : V m c main_v18 = gains (m ((c : Thread nD τ).loc main_arg5)) (m ((c : Thread nD τ).loc main_arg6)) := by
  rfl

/-- The block diagonal of ones, one block per head. -/
def heads : Vec Ideal S512x512 .bf16 :=
  truncf (F := Ideal) .bf16 (select (cmpi .eq (Host.divsi (iotaInDim S512x512 32 0) (broadcastInDim S512x512 ![] bcast_S_S512x512 (constantI S_ 32 64#32))) (Host.divsi (iotaInDim S512x512 32 1) (broadcastInDim S512x512 ![] bcast_S_S512x512 (constantI S_ 32 64#32)))) (broadcastInDim S512x512 ![] bcast_S_S512x512 (constant (F := Ideal) S_ .f32 0x3F800000#32)) (broadcastInDim S512x512 ![] bcast_S_S512x512 (constant (F := Ideal) S_ .f32 0x00000000#32))) bitsLt_bf16_f32
theorem V_v27 : V m c main_v27 = heads := by
  rfl

theorem host_head : ∀ i : Fin 512, IntOp.divsi ArithUnit.host (BitVec.ofNat 32 (i : ℕ)) 64#32 = BitVec.ofNat 32 ((i : ℕ) / 64) := by decide +kernel
theorem head_bit : ∀ a b : Fin 8, IntOp.cmpi CmpIPredicate.eq (BitVec.ofNat 32 (a : ℕ)) (BitVec.ofNat 32 (b : ℕ)) = if (a : ℕ) = (b : ℕ) then 1#1 else 0#1 := by decide +kernel

theorem heads_apply (i j : Fin 512) : heads (ix2 i j) = (if (i : ℕ) / 64 = (j : ℕ) / 64 then 1 else 0 : EReal) := by
  unfold heads
  pointwise
  rw [host_head i, host_head j, head_bit ⟨(i : ℕ) / 64, by omega⟩ ⟨(j : ℕ) / 64, by omega⟩]
  by_cases h : (i : ℕ) / 64 = (j : ℕ) / 64
  · simp only [h, if_true]; rfl
  · simp only [h, if_false]; rfl

theorem gains_apply (x5 x6 : Vec Ideal S1x64 .f32) (k : Fin 2) (j : Fin 512) :
    gains x5 x6 (ix3 k 0 j) = if (k : ℕ) = 0 then x5 (ix2 0 ⟨(j : ℕ) % 64, by omega⟩) else x6 (ix2 0 ⟨(j : ℕ) % 64, by omega⟩) := by
  unfold gains
  pointwise
  have : ((k : ℕ) < 1) ↔ (k : ℕ) = 0 := by omega
  simp only [this, dite_eq_ite]

/-- The block of a matrix's columns less itself. -/
def lowAt (x4 : Vec Ideal S1x1024x5632 .f32) (d : Fin 1024) (j : Fin 5632) : EReal := x4 (ix3 0 d j) - x4 (ix3 0 d j)
/-- The gain of a column. -/
def gainAt (x5 x6 : Vec Ideal S1x64 .f32) (k : ℕ) (j : Fin 512) : EReal := if k = 0 then x5 (ix2 0 ⟨(j : ℕ) % 64, by omega⟩) else x6 (ix2 0 ⟨(j : ℕ) % 64, by omega⟩)

theorem cast0 (x0 : Vec Ideal S4x4096x1024 .f32) (n : Fin 16384) (d : Fin 1024) :
    shapeCast S16384x1024 x0 shapeCasts_S4x4096x1024_S16384x1024 (ix2 n d) = x0 (ix3 ⟨(n : ℕ) / 4096, by omega⟩ ⟨(n : ℕ) % 4096, by omega⟩ d) := by
  pointwise
theorem cast3 (x3 : Vec Ideal S1x1024 .f32) (d : Fin 1024) :
    shapeCast S1x1024 (shapeCast S1024 x3 shapeCasts_S1x1024_S1024) shapeCasts_S1024_S1x1024 (ix2 0 d) = x3 (ix2 0 d) := by
  pointwise
theorem cast4 (x4 : Vec Ideal S1x1024x5632 .f32) (d : Fin 1024) (j : Fin 5632) :
    truncf (F := Ideal) .bf16 (shapeCast S1024x5632 x4 shapeCasts_S1x1024x5632_S1024x5632) bitsLt_bf16_f32 (ix2 d j) = x4 (ix3 0 d j) := by
  pointwise
theorem low4 (x4 : Vec Ideal S1x1024x5632 .f32) (d : Fin 1024) (j : Fin 1024) :
    extractStridedSlice S1024x1024 ![0, 0] (truncf (F := Ideal) .bf16 (subf (F := Ideal) (shapeCast S1024x5632 x4 shapeCasts_S1x1024x5632_S1024x5632) (extf (F := Ideal) .f32 (truncf (F := Ideal) .bf16 (shapeCast S1024x5632 x4 shapeCasts_S1x1024x5632_S1024x5632) bitsLt_bf16_f32) bitsLt_bf16_f32)) bitsLt_bf16_f32) slices_S1024x5632_S1024x1024_0_0 (ix2 d j)
      = lowAt x4 d ⟨j, by omega⟩ := by
  unfold lowAt
  pointwise

theorem rd0 (d : Fin 1024) : iblk m c 0 t (ix2 y d) = m ((c : Thread nD τ).loc main_arg0) (ix3 ⟨(row t y : ℕ) / 4096, by omega⟩ ⟨(row t y : ℕ) % 4096, by omega⟩ d) := by
  have hi : ((View.whole main_v0).slice (win0_0.rect t)).emb (ix2 y d) = ix2 (row t y) d := by blk_ext [row, idx t]
  refine (congrArg (V m c main_v0) hi).trans ?_
  rw [V_v0]
  exact cast0 _ _ _
theorem rd1 (d : Fin 1024) : iblk m c 1 t (ix3 0 0 d) = m ((c : Thread nD τ).loc main_arg1) (ix3 ⟨(row t y : ℕ) / 4096, by omega⟩ 0 d) := by
  blk_ext! [iblk, V, row, idx t]
theorem rd2 (d : Fin 1024) : iblk m c 2 t (ix3 0 0 d) = m ((c : Thread nD τ).loc main_arg2) (ix3 ⟨(row t y : ℕ) / 4096, by omega⟩ 0 d) := by
  blk_ext! [iblk, V, row, idx t]
theorem rd3 (d : Fin 1024) : iblk m c 3 t (ix2 0 d) = m ((c : Thread nD τ).loc main_arg3) (ix2 0 d) := by
  have hi : ((View.whole main_v29).slice (win0_3.rect t)).emb (ix2 0 d) = ix2 0 d := by blk_ext [idx t]
  refine (congrArg (V m c main_v29) hi).trans ?_
  rw [V_v29]
  exact cast3 _ _
theorem rd4 (d : Fin 1024) (j : Fin 512) : iblk m c 4 t (ix2 d j) = m ((c : Thread nD τ).loc main_arg4) (ix3 0 d ⟨512 * ((t : ℕ) % 11) + j, by omega⟩) := by
  have hi : ((View.whole main_v2).slice (win0_4.rect t)).emb (ix2 d j) = ix2 d ⟨512 * ((t : ℕ) % 11) + j, by omega⟩ := by blk_ext [idx t]
  refine (congrArg (V m c main_v2) hi).trans ?_
  rw [V_v2]
  exact cast4 _ _ _
theorem rd5 (d : Fin 1024) (j : Fin 512) : iblk m c 5 t (ix2 d j) = lowAt (m ((c : Thread nD τ).loc main_arg4)) d ⟨512 * min ((t : ℕ) % 11) 1 + j, by omega⟩ := by
  have hi : ((View.whole main_v6).slice (win0_5.rect t)).emb (ix2 d j) = ix2 d ⟨512 * min ((t : ℕ) % 11) 1 + j, by omega⟩ := by blk_ext [idx t]
  refine (congrArg (V m c main_v6) hi).trans ?_
  rw [V_v6]
  exact low4 _ _ _
theorem rd6 (j : Fin 512) : iblk m c 6 t (ix3 0 0 j) = gainAt (m ((c : Thread nD τ).loc main_arg5)) (m ((c : Thread nD τ).loc main_arg6)) (min ((t : ℕ) % 11) 1) j := by
  have hi : ((View.whole main_v18).slice (win0_6.rect t)).emb (ix3 0 0 j) = ix3 ⟨min ((t : ℕ) % 11) 1, by omega⟩ 0 j := by blk_ext [idx t]
  refine (congrArg (V m c main_v18) hi).trans ?_
  rw [V_v18]
  exact gains_apply _ _ _ _
theorem rd7 (i j : Fin 512) : iblk m c 7 t (ix2 i j) = (if (i : ℕ) / 64 = (j : ℕ) / 64 then 1 else 0 : EReal) := by
  have hi : ((View.whole main_v27).slice (win0_7.rect t)).emb (ix2 i j) = ix2 i j := by blk_ext [idx t]
  refine (congrArg (V m c main_v27) hi).trans ?_
  rw [V_v27]
  exact heads_apply i j
end reads

/-- The modulated norm of row `n`, and its projection. -/
def modRow (c : Dev nD) (n : Fin 16384) (d : Fin 1024) : EReal :=
  modAt (m ((c : Thread nD τ).loc main_arg0)) (m ((c : Thread nD τ).loc main_arg1)) (m ((c : Thread nD τ).loc main_arg2)) (m ((c : Thread nD τ).loc main_arg3)) ⟨(n : ℕ) / 4096, by omega⟩ ⟨(n : ℕ) % 4096, by omega⟩ d
def zRow (c : Dev nD) (n : Fin 16384) (j : Fin 5632) : EReal := projAt (m ((c : Thread nD τ).loc main_arg0)) (m ((c : Thread nD τ).loc main_arg1)) (m ((c : Thread nD τ).loc main_arg2)) (m ((c : Thread nD τ).loc main_arg3)) (m ((c : Thread nD τ).loc main_arg4)) n j

theorem zRow_eq (c : Dev nD) (n : Fin 16384) (j : Fin 5632) :
    zRow m c n j = ∑ d : Fin 1024, modRow m c n d * ((m ((c : Thread nD τ).loc main_arg4)) : Vec Ideal S1x1024x5632 .f32) (ix3 0 d j) := rfl

/-- What the first point of a row block computes. -/
theorem first (c : Dev nD) (t : Fin cfg0.N) (y d : Fin 1024) :
    k0_pay1 (F := Ideal) (iblk m c 0 t) (iblk m c 3 t) (iblk m c 1 t) (iblk m c 2 t) (ix2 y d) = modRow m c (row t y) d := by
  refine (pay1_apply _ _ _ _ y d).trans ?_
  simp only [rd0, rd1 m c t y, rd2 m c t y, rd3]
  rfl

set_option maxHeartbeats 1000000 in
/-- The scratch after the first point of a row block. -/
theorem hidden_first (c : Dev nD) (t : Fin cfg0.N) (h0 : (t : ℕ) % 11 = 0) (y d : Fin 1024) :
    (outsAt0 m c t.val t.isLt).2.1 (ix2 y d) = modRow m c (row t y) d
    ∧ (outsAt0 m c t.val t.isLt).2.2 (ix2 y d) = modRow m c (row t y) d - modRow m c (row t y) d := by
  have h1 : (t : ℕ) % 11 ≤ 1 := by omega
  have h2 : ¬ 2 ≤ (t : ℕ) % 11 := by omega
  rw [outsAt0_A m c t h0 h1 h2]
  frame_out
  rw [pay3_apply, pay4_apply, first]
  exact ⟨rfl, rfl⟩

set_option maxHeartbeats 1000000 in
/-- The scratch after every point: the modulated norm of its row block, and that less itself. -/
theorem hidden (c : Dev nD) : ∀ (n : ℕ) (h : n < cfg0.N) (y d : Fin 1024),
    (outsAt0 m c n h).2.1 (ix2 y d) = modRow m c (row ⟨n, h⟩ y) d
    ∧ (outsAt0 m c n h).2.2 (ix2 y d) = modRow m c (row ⟨n, h⟩ y) d - modRow m c (row ⟨n, h⟩ y) d := by
  intro n
  induction n with
  | zero => exact fun h y d => hidden_first m c ⟨0, h⟩ rfl y d
  | succ n ih =>
    intro h y d
    by_cases h0 : (n + 1) % 11 = 0
    · exact hidden_first m c ⟨n + 1, h⟩ h0 y d
    · have ih' := ih (by omega) y d
      have hr : row ⟨n, by omega⟩ y = row ⟨n + 1, h⟩ y := Fin.ext (by simp only [row]; omega)
      rw [hr] at ih'
      by_cases h1 : (n + 1) % 11 ≤ 1
      · have h2 : ¬ 2 ≤ (n + 1) % 11 := by omega
        rw [outsAt0_B m c ⟨n + 1, h⟩ h0 h1 h2]
        exact ih'
      · have h2 : 2 ≤ (n + 1) % 11 := by omega
        rw [outsAt0_C m c ⟨n + 1, h⟩ h0 h1 h2]
        exact ih'

/-- The normed block of a row whose split halves are the numbers and zeros. -/
theorem block5 (v9 : Vec Ideal S1024x1024 .bf16) (v10 v13 : Vec Ideal S1024x512 .bf16) (v16 : Vec Ideal S1024x1024 .bf16) (v25 v28 : Vec Ideal S512x512 .bf16) (v38 : Vec Ideal S1x1x512 .f32)
    (y : Fin 1024) (h : Fin 1024 → EReal) (w : Fin 1024 → Fin 512 → EReal) (g : Fin 512 → EReal)
    (hh : ∀ d, Real' (h d)) (hw : ∀ d j, Real' (w d j))
    (h9 : ∀ d, v9 (ix2 y d) = h d) (h16 : ∀ d, v16 (ix2 y d) = h d - h d)
    (h10 : ∀ d j, v10 (ix2 d j) = w d j) (h13 : ∀ d j, v13 (ix2 d j) = w d j - w d j)
    (h25 : ∀ i j : Fin 512, v25 (ix2 i j) = (if (i : ℕ) / 64 = (j : ℕ) / 64 then 1 else 0 : EReal))
    (h28 : ∀ i j : Fin 512, v28 (ix2 i j) = (if (i : ℕ) / 64 = (j : ℕ) / 64 then 1 else 0 : EReal))
    (h38 : ∀ j, v38 (ix3 0 0 j) = g j) (j : Fin 512) :
    k0_pay5 (F := Ideal) v9 v10 v13 v16 v25 v28 v38 (ix2 y j)
      = (∑ d, h d * w d j) * Ideal.rsqrt (Ideal.div (∑ e : Fin 64, (∑ d, h d * w d ⟨(j : ℕ) / 64 * 64 + e, by omega⟩) * (∑ d, h d * w d ⟨(j : ℕ) / 64 * 64 + e, by omega⟩)) (Ideal.ofBits FTy.f32 0x42800000#32) + Ideal.ofBits FTy.f32 0x358637BD#32) * g j := by
  have hz : ∀ i, three v9 v10 v13 v16 y i = ∑ d, h d * w d i := by
    intro i
    unfold three
    simp only [h9, h16, h10, h13, real_sub_self (hh _), real_sub_self (hw _ _), mul_zero, zero_mul, Finset.sum_const_zero, add_zero]
  have hr : ∀ i, Real' (∑ d, h d * w d i) := fun i => real_sum fun d => real_mul (hh d) (hw d i)
  rw [pay5_apply]
  simp only [hz, h25, h28, h38, real_sub_self (real_mul (hr _) (hr _)), zero_mul, Finset.sum_const_zero, add_zero]
  rw [sum_head (fun i => (∑ d, h d * w d i) * (∑ d, h d * w d i)) j, lit64, lit64inv, Ideal.div_coe (by norm_num)]

/-- The first two blocks of columns are the queries' and the keys'. -/
theorem normed_block (z : Fin 5632 → EReal) (x5 x6 : Vec Ideal S1x64 .f32) (k : ℕ) (hk : k ≤ 1) (j : Fin 512) :
    z ⟨512 * k + j, by omega⟩ * Ideal.rsqrt (Ideal.div (∑ e : Fin 64, z ⟨512 * k + ((j : ℕ) / 64 * 64 + (e : ℕ)), by omega⟩ * z ⟨512 * k + ((j : ℕ) / 64 * 64 + (e : ℕ)), by omega⟩) (Ideal.ofBits FTy.f32 0x42800000#32) + Ideal.ofBits FTy.f32 0x358637BD#32) * gainAt x5 x6 k j
      = normed z (fun e => x5 (ix2 0 e)) (fun e => x6 (ix2 0 e)) ⟨512 * k + j, by omega⟩ := by
  have e1 : ∀ x : ℕ, 512 * k + ((j : ℕ) / 64 * 64 + x) = (512 * k + (j : ℕ)) / 64 * 64 + x := fun x => by omega
  have e2 : (512 * k + (j : ℕ)) % 64 = (j : ℕ) % 64 := by omega
  unfold normed gainAt
  by_cases h : k = 0
  · have h1 : 512 * k + (j : ℕ) < 512 := by omega
    simp only [if_pos h, if_pos h1, e1, e2]
  · have h1 : ¬ 512 * k + (j : ℕ) < 512 := by omega
    have h2 : 512 * k + (j : ℕ) < 1024 := by omega
    simp only [if_neg h, if_neg h1, if_pos h2, e1, e2]

set_option maxHeartbeats 1000000 in
/-- What a point leaves in the result's block. -/
theorem out_apply (c : Dev nD) (t : Fin cfg0.N) (y : Fin 1024) (j : Fin 512)
    (hh : ∀ n d, Real' (modRow m c n d)) (hw : ∀ d j, Real' (((m ((c : Thread nD τ).loc main_arg4)) : Vec Ideal S1x1024x5632 .f32) (ix3 0 d j))) :
    (outsAt0 m c t.val t.isLt).1 (ix2 y j)
      = normed (zRow m c (row t y)) (fun e => ((m ((c : Thread nD τ).loc main_arg5)) : Vec Ideal S1x64 .f32) (ix2 0 e)) (fun e => ((m ((c : Thread nD τ).loc main_arg6)) : Vec Ideal S1x64 .f32) (ix2 0 e)) ⟨512 * ((t : ℕ) % 11) + j, by omega⟩ := by
  have hN : cfg0.N = 176 := rfl
  have key : (t : ℕ) % 11 ≤ 1 → ∀ (v9 v16 : Vec Ideal S1024x1024 .bf16), (∀ d, v9 (ix2 y d) = modRow m c (row t y) d) → (∀ d, v16 (ix2 y d) = modRow m c (row t y) d - modRow m c (row t y) d) →
      k0_pay5 (F := Ideal) v9 (iblk m c 4 t) (iblk m c 5 t) v16 (iblk m c 7 t) (iblk m c 7 t) (iblk m c 6 t) (ix2 y j)
        = normed (zRow m c (row t y)) (fun e => ((m ((c : Thread nD τ).loc main_arg5)) : Vec Ideal S1x64 .f32) (ix2 0 e)) (fun e => ((m ((c : Thread nD τ).loc main_arg6)) : Vec Ideal S1x64 .f32) (ix2 0 e)) ⟨512 * ((t : ℕ) % 11) + j, by omega⟩ := by
    intro h1 v9 v16 h9 h16
    have hm : min ((t : ℕ) % 11) 1 = (t : ℕ) % 11 := min_eq_left h1
    refine (block5 v9 (iblk m c 4 t) (iblk m c 5 t) v16 (iblk m c 7 t) (iblk m c 7 t) (iblk m c 6 t) y (modRow m c (row t y)) (fun d i => ((m ((c : Thread nD τ).loc main_arg4)) : Vec Ideal S1x1024x5632 .f32) (ix3 0 d ⟨512 * ((t : ℕ) % 11) + i, by omega⟩)) (gainAt (m ((c : Thread nD τ).loc main_arg5)) (m ((c : Thread nD τ).loc main_arg6)) ((t : ℕ) % 11))
      (fun d => hh _ d) (fun d i => hw d _) h9 h16 (rd4 m c t) ?_ (rd7 m c t) (rd7 m c t) ?_ j).trans ?_
    · intro d i
      refine (rd5 m c t d i).trans ?_
      unfold lowAt
      simp only [hm]
    · intro i
      refine (rd6 m c t i).trans ?_
      rw [hm]
    · simp only [← zRow_eq]
      exact normed_block (zRow m c (row t y)) _ _ ((t : ℕ) % 11) h1 j
  by_cases h0 : (t : ℕ) % 11 = 0
  · have h1 : (t : ℕ) % 11 ≤ 1 := by omega
    have h2 : ¬ 2 ≤ (t : ℕ) % 11 := by omega
    have hs := hidden_first m c t h0 y
    rw [outsAt0_A m c t h0 h1 h2]
    frame_out
    exact key h1 _ _ (fun d => by rw [pay3_apply, first]) (fun d => by rw [pay4_apply, first])
  · have hlt : (t : ℕ) - 1 < cfg0.N := by omega
    have hs := hidden m c ((t : ℕ) - 1) hlt y
    have hr : row ⟨(t : ℕ) - 1, hlt⟩ y = row t y := Fin.ext (by simp only [row]; omega)
    rw [hr] at hs
    by_cases h1 : (t : ℕ) % 11 ≤ 1
    · have h2 : ¬ 2 ≤ (t : ℕ) % 11 := by omega
      rw [outsAt0_B m c t h0 h1 h2]
      frame_out
      exact key h1 _ _ (fun d => (congrFun (read_unread_whole _ _ _) _).trans (hs d).1) (fun d => (congrFun (read_unread_whole _ _ _) _).trans (hs d).2)
    · have h2 : 2 ≤ (t : ℕ) % 11 := by omega
      rw [outsAt0_C m c t h0 h1 h2]
      frame_out
      refine (pay6_apply _ _ _ _).trans ?_
      have h3 : ¬ 512 * ((t : ℕ) % 11) + (j : ℕ) < 512 := by omega
      have h4 : ¬ 512 * ((t : ℕ) % 11) + (j : ℕ) < 1024 := by omega
      unfold normed
      simp only [if_neg h3, if_neg h4]
      rw [zRow_eq]
      refine Finset.sum_congr rfl fun d _ => ?_
      rw [rd4]
      exact congrArg (· * _) ((congrFun (read_unread_whole _ _ _) _).trans (hs d).1)

/-- The modulated norm of finite arguments is finite. -/
theorem real_mod (x0 : Vec Ideal S4x4096x1024 .f32) (x1 x2 : Vec Ideal S4x1x1024 .f32) (x3 : Vec Ideal S1x1024 .f32)
    (h0 : ∀ i, Real' (x0 i)) (h1 : ∀ i, Real' (x1 i)) (h2 : ∀ i, Real' (x2 i)) (h3 : ∀ i, Real' (x3 i)) (b : Fin 4) (t : Fin 4096) (d : Fin 1024) :
    Real' (modAt x0 x1 x2 x3 b t d) := by
  unfold modAt
  exact real_add (real_mul (real_mul (real_mul (h0 _) (real_rsqrt fun e => h0 (ix3 b t e))) (h3 _)) (real_add real_one (h1 _))) (h2 _)

set_option maxHeartbeats 1000000 in
/-- The array that the kernel leaves is any array with the projection's entries. -/
theorem final8_of (c : Dev nD) (G : Vec Ideal S16384x5632 .f32)
    (hG : ∀ (n : Fin 16384) (j : Fin 5632), G (ix2 n j) = normed (zRow m c n) (fun e => ((m ((c : Thread nD τ).loc main_arg5)) : Vec Ideal S1x64 .f32) (ix2 0 e)) (fun e => ((m ((c : Thread nD τ).loc main_arg6)) : Vec Ideal S1x64 .f32) (ix2 0 e)) j)
    (hh : ∀ n d, Real' (modRow m c n d)) (hw : ∀ d j, Real' (((m ((c : Thread nD τ).loc main_arg4)) : Vec Ideal S1x1024x5632 .f32) (ix3 0 d j))) :
    (dats m 0 c).arrAt 8 cfg0.N = G := by
  refine (dats m 0 c).arrAt_eq_of_covers 8 _ (by decide +kernel) fun t hf y => ?_
  blk_simp
  rw [after0_8]
  idx_vars y
  have hi : ((View.whole main_v30).slice (win0_8.rect t)).emb (ix2 y0 y1) = ix2 (row t y0) ⟨512 * ((t : ℕ) % 11) + y1, by omega⟩ := by
    blk_ext [row, idx t]
  rw [hi, hG]
  exact out_apply m c t y0 y1 hh hw

/-- The array that the kernel leaves is the projection, for finite arguments. -/
theorem result8 (c : Dev nD)
    (h0 : ∀ i, Real' (((m ((c : Thread nD τ).loc main_arg0)) : Vec Ideal S4x4096x1024 .f32) i)) (h1 : ∀ i, Real' (((m ((c : Thread nD τ).loc main_arg1)) : Vec Ideal S4x1x1024 .f32) i)) (h2 : ∀ i, Real' (((m ((c : Thread nD τ).loc main_arg2)) : Vec Ideal S4x1x1024 .f32) i))
    (h3 : ∀ i, Real' (((m ((c : Thread nD τ).loc main_arg3)) : Vec Ideal S1x1024 .f32) i)) (h4 : ∀ i, Real' (((m ((c : Thread nD τ).loc main_arg4)) : Vec Ideal S1x1024x5632 .f32) i)) :
    (dats m 0 c).arrAt 8 cfg0.N = projected (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  final8_of m c _ (fun n j => projected_apply _ _ _ _ _ _ _ n j) (fun n d => real_mod _ _ _ _ h0 h1 h2 h3 _ _ _) (fun d j => h4 _)

end Cert.Kernel2Ideal.Value

end
-- ==== Proof.InClaim.lean ====
module

public import proofs.«01_k».proof.Proof.In
public import proofs.«01_k».proof.Proof.Gen.Pre_inputs_finite

@[expose] public section

set_option maxRecDepth 16384

noncomputable section

namespace Cert.InClaim

open Idealize.ShloMosaic Idealize.ShloMosaic.TcCoe Idealize.SL.Sem
open Cert.Kernel2Ideal.Value (Real' real_of_sub_self result8)

/-- An array that less itself is zero everywhere holds real numbers. -/
theorem real_of_finite {s : Shape} (a z : FVec Ideal s .f32) (hz : ∀ i : s.Idx, z i = Ideal.ofBits FTy.f32 0x00000000#32)
    (he : cmpf (F := Ideal) .oeq (subf (F := Ideal) a a) z = fun _ => 1#1) (i : s.Idx) : Real' (a i) := by
  have hi : Ideal.cmp .oeq ((a i : EReal) - (a i : EReal)) (z i) = 1#1 := congrFun he i
  rw [hz i, Ideal.ofBits_zero_f32] at hi
  unfold Ideal.cmp at hi
  by_cases h : (a i : EReal) - a i = 0
  · exact real_of_sub_self h
  · have hj : BitVec.ofBool (decide (a i - a i = 0)) = 1#1 := hi
    rw [decide_eq_false h] at hj
    exact absurd hj (by decide)

/-- The kernel's projection and the reference's are the same array, for finite arguments. -/
theorem algebraic : Cert.algebraic_Kernel2Ideal_Reference2Ideal_pre_inputs_finite := by
  intro m g m' g' hp he
  refine ⟨fun c => (Cert.Kernel2Ideal.Gen.dats m 0 c).arrAt 8 Cert.Kernel2Ideal.cfg0.N, Cert.Kernel2Ideal.Value.run_blocks m g, ?_⟩
  refine (θ_run _ _ _).mono (fun r h c => ?_) (Cert.Reference2Ideal.Value.run m' g')
  obtain ⟨h0, h1, h2, h3, h4, h5, h6⟩ := he c
  obtain ⟨hv, hrest⟩ := h c
  refine ⟨hv.trans ?_, hrest⟩
  obtain ⟨p0, p1, p2, p3, p4⟩ := hp c
  beta_reduce
  rw [result8 m c (real_of_finite _ _ (fun _ => rfl) p0) (real_of_finite _ _ (fun _ => rfl) p1) (real_of_finite _ _ (fun _ => rfl) p2) (real_of_finite _ _ (fun _ => rfl) p3) (real_of_finite _ _ (fun _ => rfl) p4), ← h0, ← h1, ← h2, ← h3, ← h4, ← h5, ← h6]
  rfl

end Cert.InClaim

end
-- ==== Proof.MergeRef.lean ====
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Reference3Ideal.Value

open Cert.Reference3Ideal Cert.Reference3Ideal.Gen Idealize.ShloMosaic Idealize.ShloMosaic.TcCoe Idealize.SL.Sem Idealize.ShloMosaic.StableHlo

/-- A row `f` of 512 numbers, normalised by the root mean square of each of its four groups of 128 and scaled by `g`. -/
def headNorm (f : Fin 512 → EReal) (g : Fin 128 → EReal) (i : Fin 512) : EReal :=
  f i * Ideal.rsqrt (Ideal.div (∑ d : Fin 128, f ⟨(i : ℕ) / 128 * 128 + d, by omega⟩ * f ⟨(i : ℕ) / 128 * 128 + d, by omega⟩)
    (Ideal.ofBits FTy.f32 1124073472#32) + Ideal.ofBits FTy.f32 897988541#32) * g ⟨(i : ℕ) % 128, by omega⟩

/-- The same row put together from its four groups, each normalised by itself. -/
theorem headNorm_ladder (f : Fin 512 → EReal) (g : Fin 128 → EReal) (i : Fin 512) :
    (if h : (i : ℕ) < 128 then f i * Ideal.rsqrt (Ideal.div (∑ d : Fin 128, f ⟨(d : ℕ), by omega⟩ * f ⟨(d : ℕ), by omega⟩) (Ideal.ofBits FTy.f32 1124073472#32) + Ideal.ofBits FTy.f32 897988541#32) * g ⟨(i : ℕ), h⟩
      else if h' : (i : ℕ) - 128 < 128 then f ⟨128 + ((i : ℕ) - 128), by omega⟩ * Ideal.rsqrt (Ideal.div (∑ d : Fin 128, f ⟨128 + (d : ℕ), by omega⟩ * f ⟨128 + (d : ℕ), by omega⟩) (Ideal.ofBits FTy.f32 1124073472#32) + Ideal.ofBits FTy.f32 897988541#32) * g ⟨(i : ℕ) - 128, h'⟩
      else if h'' : (i : ℕ) - 128 - 128 < 128 then f ⟨256 + ((i : ℕ) - 128 - 128), by omega⟩ * Ideal.rsqrt (Ideal.div (∑ d : Fin 128, f ⟨256 + (d : ℕ), by omega⟩ * f ⟨256 + (d : ℕ), by omega⟩) (Ideal.ofBits FTy.f32 1124073472#32) + Ideal.ofBits FTy.f32 897988541#32) * g ⟨(i : ℕ) - 128 - 128, h''⟩
      else f ⟨384 + ((i : ℕ) - 128 - 128 - 128), by omega⟩ * Ideal.rsqrt (Ideal.div (∑ d : Fin 128, f ⟨384 + (d : ℕ), by omega⟩ * f ⟨384 + (d : ℕ), by omega⟩) (Ideal.ofBits FTy.f32 1124073472#32) + Ideal.ofBits FTy.f32 897988541#32) * g ⟨(i : ℕ) - 128 - 128 - 128, by omega⟩) = headNorm f g i := by
  obtain ⟨i, hi⟩ := i
  unfold headNorm
  simp only
  split_ifs with h1 h2 h3
  · have e : i / 128 * 128 = 0 := by omega
    have e' : i % 128 = i := by omega
    simp only [e, e', Nat.zero_add]
  · have e : i / 128 * 128 = 128 := by omega
    have e' : i % 128 = i - 128 := by omega
    have e'' : 128 + (i - 128) = i := by omega
    simp only [e, e', e'']
  · have e : i / 128 * 128 = 256 := by omega
    have e' : i % 128 = i - 128 - 128 := by omega
    have e'' : 256 + (i - 128 - 128) = i := by omega
    simp only [e, e', e'']
  · have e : i / 128 * 128 = 384 := by omega
    have e' : i % 128 = i - 128 - 128 - 128 := by omega
    have e'' : 384 + (i - 128 - 128 - 128) = i := by omega
    simp only [e, e', e'']

/-- One column `k` of the two gated branches of row `n`, before the last product. -/
def branches (x0 : Vec Ideal S16384x512 .f32) (x1 : Vec Ideal S16384x512 .f32) (x2 : Vec Ideal S16384x5632 .f32) (x5 : Vec Ideal S1x128 .f32) (x6 : Vec Ideal S1x512x1024 .f32) (x7 : Vec Ideal S1x512x1024 .f32) (n : Fin 16384) (k : Fin 1024) : EReal :=
  Ideal.logistic (x2 (ix2 n ⟨3584 + (k : ℕ), by omega⟩)) * ∑ i : Fin 512, x0 (ix2 n i) * x6 (ix3 0 i k)
    + Ideal.logistic (x2 (ix2 n ⟨4608 + (k : ℕ), by omega⟩)) * ∑ i : Fin 512,
        headNorm (fun z => x1 (ix2 n z)) (fun d => x5 (ix2 0 d)) i
          * (x2 (ix2 n ⟨3072 + (i : ℕ), by omega⟩) * Ideal.logistic (x2 (ix2 n ⟨3072 + (i : ℕ), by omega⟩))) * x7 (ix3 0 i k)

/-- One entry of the merged layer: row `n`, column `j`. -/
def mergedAt (x0 : Vec Ideal S16384x512 .f32) (x1 : Vec Ideal S16384x512 .f32) (x2 : Vec Ideal S16384x5632 .f32) (x3 : Vec Ideal S4x4096x1024 .f32) (x4 : Vec Ideal S4x1x1024 .f32) (x5 : Vec Ideal S1x128 .f32) (x6 : Vec Ideal S1x512x1024 .f32) (x7 : Vec Ideal S1x512x1024 .f32) (x8 : Vec Ideal S1x1024x1024 .f32) (n : Fin 16384) (j : Fin 1024) : EReal :=
  x3 (ix3 ⟨(n : ℕ) / 4096, by omega⟩ ⟨(n : ℕ) % 4096, by omega⟩ j) + x4 (ix3 ⟨(n : ℕ) / 4096, by omega⟩ 0 j)
        * ∑ k : Fin 1024, branches x0 x1 x2 x5 x6 x7 n k * x8 (ix3 0 k j)

/-- What the reference computes, as one term of its arguments. -/
def merged (x0 : Vec Ideal S16384x512 .f32) (x1 : Vec Ideal S16384x512 .f32) (x2 : Vec Ideal S16384x5632 .f32) (x3 : Vec Ideal S4x4096x1024 .f32) (x4 : Vec Ideal S4x1x1024 .f32) (x5 : Vec Ideal S1x128 .f32) (x6 : Vec Ideal S1x512x1024 .f32) (x7 : Vec Ideal S1x512x1024 .f32) (x8 : Vec Ideal S1x1024x1024 .f32) : Vec Ideal S16384x1024 .f32 :=
  shapeCast _ (addf (F := Ideal) x3 (mulf (F := Ideal) (broadcastInDim S4x4096x1024 ![0, 1, 2] bcast_S4x1x1024_S4x4096x1024_0_1_2 x4) (Host.dotGeneral (F := Ideal) (φ₁ := .f32) (φ₂ := .f32) dot_S4x4096x1024_S1024x1024_S4x4096x1024_2_0_01_1_n_n none (addf (F := Ideal) (mulf (F := Ideal) (Host.divf (F := Ideal) (broadcastInDim S4x4096x1024 ![] bcast_S_S4x4096x1024 (constant (F := Ideal) S_ .f32 0x3F800000#32)) (addf (F := Ideal) (broadcastInDim S4x4096x1024 ![] bcast_S_S4x4096x1024 (constant (F := Ideal) S_ .f32 0x3F800000#32)) (Host.exp (F := Ideal) (Host.negf (F := Ideal) (extractStridedSlice S4x4096x1024 ![0, 0, 3584] (shapeCast _ x2 shapeCasts_S16384x5632_S4x4096x5632) slices_S4x4096x5632_S4x4096x1024_0_0_3584))))) (Host.dotGeneral (F := Ideal) (φ₁ := .f32) (φ₂ := .f32) dot_S4x4096x512_S512x1024_S4x4096x1024_2_0_01_1_n_n none (shapeCast _ x0 shapeCasts_S16384x512_S4x4096x512) (shapeCast _ x6 shapeCasts_S1x512x1024_S512x1024))) (mulf (F := Ideal) (Host.divf (F := Ideal) (broadcastInDim S4x4096x1024 ![] bcast_S_S4x4096x1024 (constant (F := Ideal) S_ .f32 0x3F800000#32)) (addf (F := Ideal) (broadcastInDim S4x4096x1024 ![] bcast_S_S4x4096x1024 (constant (F := Ideal) S_ .f32 0x3F800000#32)) (Host.exp (F := Ideal) (Host.negf (F := Ideal) (extractStridedSlice S4x4096x1024 ![0, 0, 4608] (shapeCast _ x2 shapeCasts_S16384x5632_S4x4096x5632) slices_S4x4096x5632_S4x4096x1024_0_0_4608))))) (Host.dotGeneral (F := Ideal) (φ₁ := .f32) (φ₂ := .f32) dot_S4x4096x512_S512x1024_S4x4096x1024_2_0_01_1_n_n none (mulf (F := Ideal) (shapeCast _ (mulf (F := Ideal) (mulf (F := Ideal) (shapeCast _ x1 shapeCasts_S16384x512_S4x4096x4x128) (broadcastInDim S4x4096x4x128 ![0, 1, 2, 3] bcast_S4x4096x4x1_S4x4096x4x128_0_1_2_3 (Host.rsqrt (F := Ideal) (addf (F := Ideal) (Host.divf (F := Ideal) (broadcastInDim S4x4096x4x1 ![0, 1, 2] bcast_S4x4096x4_S4x4096x4x1_0_1_2 (Host.reduceAdd (F := Ideal) (mulf (F := Ideal) (shapeCast _ x1 shapeCasts_S16384x512_S4x4096x4x128) (shapeCast _ x1 shapeCasts_S16384x512_S4x4096x4x128)) (constant (F := Ideal) S_ .f32 0x00000000#32) reducesTo_S4x4096x4x128_S4x4096x4_d3 h_S_)) (broadcastInDim S4x4096x4x1 ![] bcast_S_S4x4096x4x1 (constant (F := Ideal) S_ .f32 0x43000000#32))) (broadcastInDim S4x4096x4x1 ![] bcast_S_S4x4096x4x1 (constant (F := Ideal) S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ x5 shapeCasts_S1x128_S128)))) shapeCasts_S4x4096x4x128_S4x4096x512) (mulf (F := Ideal) (extractStridedSlice S4x4096x512 ![0, 0, 3072] (shapeCast _ x2 shapeCasts_S16384x5632_S4x4096x5632) slices_S4x4096x5632_S4x4096x512_0_0_3072) (Host.divf (F := Ideal) (broadcastInDim S4x4096x512 ![] bcast_S_S4x4096x512 (constant (F := Ideal) S_ .f32 0x3F800000#32)) (addf (F := Ideal) (broadcastInDim S4x4096x512 ![] bcast_S_S4x4096x512 (constant (F := Ideal) S_ .f32 0x3F800000#32)) (Host.exp (F := Ideal) (Host.negf (F := Ideal) (extractStridedSlice S4x4096x512 ![0, 0, 3072] (shapeCast _ x2 shapeCasts_S16384x5632_S4x4096x5632) slices_S4x4096x5632_S4x4096x512_0_0_3072))))))) (shapeCast _ x7 shapeCasts_S1x512x1024_S512x1024)))) (shapeCast _ x8 shapeCasts_S1x1024x1024_S1024x1024)))) shapeCasts_S4x4096x1024_S16384x1024

/-- One entry of it: row `n`, column `j`. -/
theorem merged_apply (x0 : Vec Ideal S16384x512 .f32) (x1 : Vec Ideal S16384x512 .f32) (x2 : Vec Ideal S16384x5632 .f32) (x3 : Vec Ideal S4x4096x1024 .f32) (x4 : Vec Ideal S4x1x1024 .f32) (x5 : Vec Ideal S1x128 .f32) (x6 : Vec Ideal S1x512x1024 .f32) (x7 : Vec Ideal S1x512x1024 .f32) (x8 : Vec Ideal S1x1024x1024 .f32) (n : Fin 16384) (j : Fin 1024) :
    merged x0 x1 x2 x3 x4 x5 x6 x7 x8 (ix2 n j) = mergedAt x0 x1 x2 x3 x4 x5 x6 x7 x8 n j := by
  unfold merged
  pointwise
  unfold mergedAt branches headNorm Ideal.logistic
  rfl

end Cert.Reference3Ideal.Value

end
-- ==== Proof.Merge.lean ====
module

public import proofs.«01_k».proof.Defs
public import proofs.«01_k».proof.Proof.Gen.Kernel3Ideal.Value
public import proofs.«01_k».proof.Proof.MergeRef
public import Idealize.ShloMosaic.Lib.Pointwise
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Reference3Ideal.Value (headNorm_ladder mergedAt merged merged_apply branches headNorm)

/-- The blocks that point `t` reads and writes. -/
theorem idx : ∀ t : Fin cfg0.N,
    (win0_0.index t 0 = (t : ℕ) ∧ win0_0.index t 1 = 0) ∧ (win0_1.index t 0 = (t : ℕ) ∧ win0_1.index t 1 = 0)
    ∧ (win0_2.index t 0 = (t : ℕ) ∧ win0_2.index t 1 = 6) ∧ (win0_3.index t 0 = (t : ℕ) ∧ win0_3.index t 1 = 7)
    ∧ (win0_4.index t 0 = (t : ℕ) ∧ win0_4.index t 1 = 8) ∧ (win0_5.index t 0 = (t : ℕ) ∧ win0_5.index t 1 = 9)
    ∧ (win0_6.index t 0 = (t : ℕ) ∧ win0_6.index t 1 = 10) ∧ (win0_7.index t 0 = (t : ℕ) ∧ win0_7.index t 1 = 0)
    ∧ (win0_8.index t 0 = (t : ℕ) / 8 ∧ win0_8.index t 1 = 0 ∧ win0_8.index t 2 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0)
    ∧ (win0_13.index t 0 = (t : ℕ) ∧ win0_13.index t 1 = 0) :=
  (by decide +kernel : ∀ t : Fin grid0.N, _)

/-- The row of the arrays that row `y` of point `t`'s block is. -/
def row (t : Fin cfg0.N) (y : Fin 512) : Fin 16384 := ⟨512 * (t : ℕ) + y, by have := t.isLt; have : cfg0.N = 32 := rfl; omega⟩

section reads
variable (c : Dev nD) (t : Fin cfg0.N) (y : Fin 512)

theorem rd0 (j : Fin 512) : iblk m c 0 t (ix2 y j) = m ((c : Thread nD τ).loc main_arg0) (ix2 (row t y) j) := by
  blk_ext [iblk, V, row, idx t]
theorem rd1 (j : Fin 512) : iblk m c 1 t (ix2 y j) = m ((c : Thread nD τ).loc main_arg1) (ix2 (row t y) j) := by
  blk_ext [iblk, V, row, idx t]
theorem rd2 (j : Fin 512) : iblk m c 2 t (ix2 y j) = m ((c : Thread nD τ).loc main_arg2) (ix2 (row t y) ⟨3072 + (j : ℕ), by omega⟩) := by
  blk_ext [iblk, V, row, idx t]
theorem rd3 (j : Fin 512) : iblk m c 3 t (ix2 y j) = m ((c : Thread nD τ).loc main_arg2) (ix2 (row t y) ⟨3584 + (j : ℕ), by omega⟩) := by
  blk_ext [iblk, V, row, idx t]
theorem rd4 (j : Fin 512) : iblk m c 4 t (ix2 y j) = m ((c : Thread nD τ).loc main_arg2) (ix2 (row t y) ⟨3584 + (512 + (j : ℕ)), by omega⟩) := by
  blk_ext [iblk, V, row, idx t]
theorem rd5 (j : Fin 512) : iblk m c 5 t (ix2 y j) = m ((c : Thread nD τ).loc main_arg2) (ix2 (row t y) ⟨4608 + (j : ℕ), by omega⟩) := by
  blk_ext [iblk, V, row, idx t]
theorem rd6 (j : Fin 512) : iblk m c 6 t (ix2 y j) = m ((c : Thread nD τ).loc main_arg2) (ix2 (row t y) ⟨4608 + (512 + (j : ℕ)), by omega⟩) := by
  blk_ext [iblk, V, row, idx t]
theorem rd7 (j : Fin 1024) : iblk m c 7 t (ix2 y j) = m ((c : Thread nD τ).loc main_arg3) (ix3 ⟨(row t y : ℕ) / 4096, by omega⟩ ⟨(row t y : ℕ) % 4096, by omega⟩ j) := by
  blk_ext! [iblk, V, row, idx t]
theorem rd8 (j : Fin 1024) : iblk m c 8 t (ix3 0 0 j) = m ((c : Thread nD τ).loc main_arg4) (ix3 ⟨(row t y : ℕ) / 4096, by omega⟩ 0 j) := by
  blk_ext! [iblk, V, row, idx t]
theorem rd9 (j : Fin 128) : iblk m c 9 t (ix2 0 j) = m ((c : Thread nD τ).loc main_arg5) (ix2 0 j) := by
  blk_ext! [iblk, V, idx t]
theorem rd10 (i : Fin 512) (j : Fin 1024) : iblk m c 10 t (ix2 i j) = m ((c : Thread nD τ).loc main_arg6) (ix3 0 i j) := by
  blk_ext! [iblk, V, idx t]
theorem rd11 (i : Fin 512) (j : Fin 1024) : iblk m c 11 t (ix2 i j) = m ((c : Thread nD τ).loc main_arg7) (ix3 0 i j) := by
  blk_ext! [iblk, V, idx t]
theorem rd12 (i : Fin 1024) (j : Fin 1024) : iblk m c 12 t (ix2 i j) = m ((c : Thread nD τ).loc main_arg8) (ix3 0 i j) := by
  blk_ext! [iblk, V, idx t]
end reads

theorem scaled_congr {a b s s' : EReal} (h : s = s') : a + b * s = a + b * s' := by rw [h]
theorem gated_congr {a b c s s' : EReal} (h : s = s') : (a + b * s) * c = (a + b * s') * c := by rw [h]
theorem factor_congr {a b s s' : EReal} (h : s = s') : s * a * b = s' * a * b := by rw [h]

set_option maxHeartbeats 1000000 in
/-- The array that the kernel leaves is any array with the merged layer's entries. -/
theorem final13_of (c : Dev nD) (G : Vec Ideal S16384x1024 .f32) (hG : ∀ (n : Fin 16384) (j : Fin 1024), G (ix2 n j) = mergedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n j) :
    (dats m 0 c).arrAt 13 cfg0.N = G := by
  refine (dats m 0 c).arrAt_eq_of_covers 13 _ (by decide +kernel) fun t hf y => ?_
  blk_simp
  rw [after0_13]
  frame_out
  unfold_payloads
  idx_vars y
  pointwise
  simp only [rd0, rd1, rd2, rd3, rd4, rd5, rd6, rd7 m c t y0, rd8 m c t y0, rd9, rd10, rd11, rd12]
  have hi : ((View.whole main_v9).slice (win0_13.rect t)).emb (ix2 y0 y1) = ix2 (row t y0) y1 := by
    blk_ext [row, idx t]
  rw [hi, hG]; unfold mergedAt; rw [ Fin.sum_univ_two_halves 512 512 rfl]
  have hl := headNorm_ladder (fun z => m ((c : Thread nD τ).loc main_arg1) (ix2 (row t y0) z)) (fun d => m ((c : Thread nD τ).loc main_arg5) (ix2 0 d))
  beta_reduce at hl
  unfold branches
  refine scaled_congr (congrArg₂ (· + ·) (Finset.sum_congr rfl fun k _ => ?_) (Finset.sum_congr rfl fun k _ => ?_))
  all_goals exact gated_congr (Finset.sum_congr rfl fun i _ => factor_congr (hl i))

/-- The array that the kernel leaves is the merged layer. -/
theorem final13 (c : Dev nD) : (dats m 0 c).arrAt 13 cfg0.N =
    merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  final13_of m c _ fun n j => merged_apply _ _ _ _ _ _ _ _ _ n j

end Cert.Kernel3Ideal.Value

end
-- ==== Proof.MergeClaim.lean ====
module

public import proofs.«01_k».proof.Proof.Merge

@[expose] public section

set_option maxRecDepth 16384

noncomputable section

namespace Cert.MergeClaim

open Idealize.ShloMosaic Idealize.ShloMosaic.TcCoe Idealize.SL.Sem
open Cert.Reference3Ideal.Value (merged)

/-- The kernel's merged output and the reference's are the same array. -/
theorem algebraic : Cert.algebraic_Kernel3Ideal_Reference3Ideal := by
  intro m g m' g' _ he
  refine ⟨fun c => (Cert.Kernel3Ideal.Gen.dats m 0 c).arrAt 13 Cert.Kernel3Ideal.cfg0.N, Cert.Kernel3Ideal.Value.run_blocks m g, ?_⟩
  refine (θ_run _ _ _).mono (fun r h c => ?_) (Cert.Reference3Ideal.Value.run m' g')
  obtain ⟨h0, h1, h2, h3, h4, h5, h6, h7, h8⟩ := he c
  obtain ⟨hv, hrest⟩ := h c
  refine ⟨hv.trans ?_, hrest⟩
  beta_reduce
  rw [Cert.Kernel3Ideal.Value.final13 m c, ← h0, ← h1, ← h2, ← h3, ← h4, ← h5, ← h6, ← h7, ← h8]
  rfl

end Cert.MergeClaim

end
-- ==== Proof.InSampleRef.lean ====
module

public import proofs.«01_k».proof.Defs
public import proofs.«01_k».proof.Proof.Gen.Kernel5Ideal.Value
public import proofs.«01_k».proof.Proof.Gen.Reference5Ideal.Run
public import proofs.«01_k».proof.Proof.InRef
public import Idealize.ShloMosaic.Lib.Pointwise
public import Idealize.ShloMosaic.Lib.Pipeline.ValueKit

@[expose] public section

set_option maxRecDepth 16384

noncomputable section

namespace Cert.Reference5Ideal.Value

open Cert.Reference5Ideal Cert.Reference5Ideal.Gen Idealize.ShloMosaic Idealize.ShloMosaic.TcCoe Idealize.SL.Sem Idealize.ShloMosaic.StableHlo
open Cert.Reference2Ideal.Value (normed)

/-- One entry of the modulated norm: row `n`, column `d`. -/
def modAt (x0 : Vec Ideal S128x1x1024 .f32) (x1 x2 : Vec Ideal S1x128x1024 .f32) (x3 : Vec Ideal S1x1024 .f32) (n : Fin 128) (d : Fin 1024) : EReal :=
  x0 (ix3 n 0 d) * Ideal.rsqrt (Ideal.div (∑ e : Fin 1024, x0 (ix3 n 0 e) * x0 (ix3 n 0 e)) (Ideal.ofBits FTy.f32 0x44800000#32) + Ideal.ofBits FTy.f32 0x358637BD#32)
    * x3 (ix2 0 d) * (1 + x1 (ix3 0 n d)) + x2 (ix3 0 n d)

/-- The modulated norm as the reference computes it. -/
def modArr (x0 : Vec Ideal S128x1x1024 .f32) (x1 x2 : Vec Ideal S1x128x1024 .f32) (x3 : Vec Ideal S1x1024 .f32) : Vec Ideal S128x1x1024 .f32 :=
  addf (F := Ideal) (mulf (F := Ideal) (mulf (F := Ideal) (mulf (F := Ideal) x0 (broadcastInDim S128x1x1024 ![0, 1, 2] bcast_S128x1x1_S128x1x1024_0_1_2 (Host.rsqrt (F := Ideal) (addf (F := Ideal) (Host.divf (F := Ideal) (broadcastInDim S128x1x1 ![0, 1] bcast_S128x1_S128x1x1_0_1 (Host.reduceAdd (F := Ideal) (mulf (F := Ideal) x0 x0) (constant (F := Ideal) S_ .f32 0x00000000#32) reducesTo_S128x1x1024_S128x1_d2 h_S_)) (broadcastInDim S128x1x1 ![] bcast_S_S128x1x1 (constant (F := Ideal) S_ .f32 0x44800000#32))) (broadcastInDim S128x1x1 ![] bcast_S_S128x1x1 (constant (F := Ideal) S_ .f32 0x358637BD#32)))))) (broadcastInDim S128x1x1024 ![0, 1, 2] bcast_S1x1x1024_S128x1x1024_0_1_2 (broadcastInDim S1x1x1024 ![2] bcast_S1024_S1x1x1024_2 (shapeCast S1024 x3 shapeCasts_S1x1024_S1024)))) (addf (F := Ideal) (broadcastInDim S128x1x1024 ![] bcast_S_S128x1x1024 (constant (F := Ideal) S_ .f32 0x3F800000#32)) (shapeCast S128x1x1024 x1 shapeCasts_S1x128x1024_S128x1x1024))) (shapeCast S128x1x1024 x2 shapeCasts_S1x128x1024_S128x1x1024)

/-- The projection of an array as the reference computes it. -/
def projArr (h : Vec Ideal S128x1x1024 .f32) (x4 : Vec Ideal S1x1024x5632 .f32) : Vec Ideal S128x1x5632 .f32 :=
  Host.dotGeneral (F := Ideal) (φ₁ := .f32) (φ₂ := .f32) dot_S128x1x1024_S1024x5632_S128x1x5632_2_0_01_1_n_n none h (shapeCast S1024x5632 x4 shapeCasts_S1x1024x5632_S1024x5632)

/-- The norm of the queries and the keys of a projection as the reference computes it. -/
def headsArr (z : Vec Ideal S128x1x5632 .f32) (x5 x6 : Vec Ideal S1x64 .f32) : Vec Ideal S128x5632 .f32 :=
  shapeCast S128x5632 ((concatenate S128x1x5632 2 [⟨S128x1x512, ((shapeCast S128x1x512 (mulf (F := Ideal) (mulf (F := Ideal) (shapeCast S128x1x8x64 (extractStridedSlice S128x1x512 ![0, 0, 0] z slices_S128x1x5632_S128x1x512_0_0_0) shapeCasts_S128x1x512_S128x1x8x64) (broadcastInDim S128x1x8x64 ![0, 1, 2, 3] bcast_S128x1x8x1_S128x1x8x64_0_1_2_3 (Host.rsqrt (F := Ideal) (addf (F := Ideal) (Host.divf (F := Ideal) (broadcastInDim S128x1x8x1 ![0, 1, 2] bcast_S128x1x8_S128x1x8x1_0_1_2 (Host.reduceAdd (F := Ideal) (mulf (F := Ideal) (shapeCast S128x1x8x64 (extractStridedSlice S128x1x512 ![0, 0, 0] z slices_S128x1x5632_S128x1x512_0_0_0) shapeCasts_S128x1x512_S128x1x8x64) (shapeCast S128x1x8x64 (extractStridedSlice S128x1x512 ![0, 0, 0] z slices_S128x1x5632_S128x1x512_0_0_0) shapeCasts_S128x1x512_S128x1x8x64)) (constant (F := Ideal) S_ .f32 0x00000000#32) reducesTo_S128x1x8x64_S128x1x8_d3 h_S_)) (broadcastInDim S128x1x8x1 ![] bcast_S_S128x1x8x1 (constant (F := Ideal) S_ .f32 0x42800000#32))) (broadcastInDim S128x1x8x1 ![] bcast_S_S128x1x8x1 (constant (F := Ideal) S_ .f32 0x358637BD#32)))))) (broadcastInDim S128x1x8x64 ![0, 1, 2, 3] bcast_S1x1x1x64_S128x1x8x64_0_1_2_3 (broadcastInDim S1x1x1x64 ![3] bcast_S64_S1x1x1x64_3 (shapeCast S64 x5 shapeCasts_S1x64_S64)))) shapeCasts_S128x1x8x64_S128x1x512))⟩, ⟨S128x1x512, ((shapeCast S128x1x512 (mulf (F := Ideal) (mulf (F := Ideal) (shapeCast S128x1x8x64 (extractStridedSlice S128x1x512 ![0, 0, 512] z slices_S128x1x5632_S128x1x512_0_0_512) shapeCasts_S128x1x512_S128x1x8x64) (broadcastInDim S128x1x8x64 ![0, 1, 2, 3] bcast_S128x1x8x1_S128x1x8x64_0_1_2_3 (Host.rsqrt (F := Ideal) (addf (F := Ideal) (Host.divf (F := Ideal) (broadcastInDim S128x1x8x1 ![0, 1, 2] bcast_S128x1x8_S128x1x8x1_0_1_2 (Host.reduceAdd (F := Ideal) (mulf (F := Ideal) (shapeCast S128x1x8x64 (extractStridedSlice S128x1x512 ![0, 0, 512] z slices_S128x1x5632_S128x1x512_0_0_512) shapeCasts_S128x1x512_S128x1x8x64) (shapeCast S128x1x8x64 (extractStridedSlice S128x1x512 ![0, 0, 512] z slices_S128x1x5632_S128x1x512_0_0_512) shapeCasts_S128x1x512_S128x1x8x64)) (constant (F := Ideal) S_ .f32 0x00000000#32) reducesTo_S128x1x8x64_S128x1x8_d3 h_S_)) (broadcastInDim S128x1x8x1 ![] bcast_S_S128x1x8x1 (constant (F := Ideal) S_ .f32 0x42800000#32))) (broadcastInDim S128x1x8x1 ![] bcast_S_S128x1x8x1 (constant (F := Ideal) S_ .f32 0x358637BD#32)))))) (broadcastInDim S128x1x8x64 ![0, 1, 2, 3] bcast_S1x1x1x64_S128x1x8x64_0_1_2_3 (broadcastInDim S1x1x1x64 ![3] bcast_S64_S1x1x1x64_3 (shapeCast S64 x6 shapeCasts_S1x64_S64)))) shapeCasts_S128x1x8x64_S128x1x512))⟩, ⟨S128x1x4608, ((extractStridedSlice S128x1x4608 ![0, 0, 1024] z slices_S128x1x5632_S128x1x4608_0_0_1024))⟩] concatenates_S128x1x512_S128x1x512_S128x1x4608_S128x1x5632_d2)) shapeCasts_S128x1x5632_S128x5632

theorem modArr_apply (x0 : Vec Ideal S128x1x1024 .f32) (x1 x2 : Vec Ideal S1x128x1024 .f32) (x3 : Vec Ideal S1x1024 .f32) (n : Fin 128) (d : Fin 1024) :
    modArr x0 x1 x2 x3 (ix3 n 0 d) = modAt x0 x1 x2 x3 n d := by
  unfold modArr
  pointwise
  unfold modAt
  rfl

theorem projArr_apply (h : Vec Ideal S128x1x1024 .f32) (x4 : Vec Ideal S1x1024x5632 .f32) (n : Fin 128) (j : Fin 5632) :
    projArr h x4 (ix3 n 0 j) = ∑ d : Fin 1024, h (ix3 n 0 d) * x4 (ix3 0 d j) := by
  unfold projArr
  pointwise

theorem headsArr_apply (z : Vec Ideal S128x1x5632 .f32) (x5 x6 : Vec Ideal S1x64 .f32) (n : Fin 128) (j : Fin 5632) :
    headsArr z x5 x6 (ix2 n j) = normed (fun k => z (ix3 n 0 k)) (fun e => x5 (ix2 0 e)) (fun e => x6 (ix2 0 e)) j := by
  unfold headsArr
  pointwise
  obtain ⟨j, hj⟩ := j
  unfold normed
  simp only
  by_cases h1 : j < 512
  · have e : j / 64 * 64 + j % 64 = j := by omega
    simp only [dif_pos h1, if_pos h1, e]
  · by_cases h2 : j < 1024
    · have h3 : j - 512 < 512 := by omega
      have e : 512 + ((j - 512) / 64 * 64 + (j - 512) % 64) = j := by omega
      have e' : (j - 512) % 64 = j % 64 := by omega
      have e'' : ∀ x : Fin 64, 512 + ((j - 512) / 64 * 64 + (x : ℕ)) = j / 64 * 64 + x := fun x => by omega
      have e3 : 512 + ((j - 512) / 64 * 64 + j % 64) = j := by omega
      simp only [dif_neg h1, if_neg h1, dif_pos h3, if_pos h2, e', e'', e3]
    · have h3 : ¬ j - 512 < 512 := by omega
      have e : 1024 + (j - 512 - 512) = j := by omega
      simp only [dif_neg h1, if_neg h1, dif_neg h3, if_neg h2, e]

/-- One entry of the projection before the norms: row `n`, column `j`. -/
def projAt (x0 : Vec Ideal S128x1x1024 .f32) (x1 x2 : Vec Ideal S1x128x1024 .f32) (x3 : Vec Ideal S1x1024 .f32) (x4 : Vec Ideal S1x1024x5632 .f32) (n : Fin 128) (j : Fin 5632) : EReal :=
  ∑ d : Fin 1024, modAt x0 x1 x2 x3 n d * x4 (ix3 0 d j)

/-- What the reference computes, as one term of its arguments. -/
def projected (x0 : Vec Ideal S128x1x1024 .f32) (x1 x2 : Vec Ideal S1x128x1024 .f32) (x3 : Vec Ideal S1x1024 .f32) (x4 : Vec Ideal S1x1024x5632 .f32) (x5 x6 : Vec Ideal S1x64 .f32) : Vec Ideal S128x5632 .f32 :=
  headsArr (projArr (modArr x0 x1 x2 x3) x4) x5 x6

/-- One entry of it: row `n`, column `j`. -/
theorem projected_apply (x0 : Vec Ideal S128x1x1024 .f32) (x1 x2 : Vec Ideal S1x128x1024 .f32) (x3 : Vec Ideal S1x1024 .f32) (x4 : Vec Ideal S1x1024x5632 .f32) (x5 x6 : Vec Ideal S1x64 .f32) (n : Fin 128) (j : Fin 5632) :
    projected x0 x1 x2 x3 x4 x5 x6 (ix2 n j)
      = normed (projAt x0 x1 x2 x3 x4 n) (fun e => x5 (ix2 0 e)) (fun e => x6 (ix2 0 e)) j := by
  unfold projected
  rw [headsArr_apply]
  simp only [projArr_apply, modArr_apply]
  rfl

/-- The reference's result is that term. -/
theorem result (m : (ℓ : Loc nD τ sig) → Buf (Elt Ideal) ℓ) (c : Dev nD) :
    res_main_v58 m c = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference5Ideal.Value

end
-- ==== Proof.InSample.lean ====
module

public import proofs.«01_k».proof.Defs
public import proofs.«01_k».proof.Proof.Gen.Kernel5Ideal.Value
public import proofs.«01_k».proof.Proof.InSampleRef
public import proofs.«01_k».proof.Proof.In
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Reference5Ideal.Value (modAt projAt projected projected_apply)
open Cert.Reference2Ideal.Value (normed)
open Cert.Kernel2Ideal.Value (lit64 lit64inv Real' real_add real_mul real_sum real_one real_sub_self real_rsqrt sum_head head_bit host_head)

/-- The blocks that point `t` reads and writes. -/
theorem idx : ∀ t : Fin cfg0.N,
    (win0_0.index t 0 = 0 ∧ win0_0.index t 1 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0)
    ∧ (win0_4.index t 0 = 0 ∧ win0_4.index t 1 = (t : ℕ) % 11)
    ∧ (win0_5.index t 0 = 0 ∧ win0_5.index t 1 = min ((t : ℕ) % 11) 1)
    ∧ (win0_6.index t 0 = min ((t : ℕ) % 11) 1 ∧ win0_6.index t 1 = 0 ∧ win0_6.index t 2 = 0)
    ∧ (win0_7.index t 0 = 0 ∧ win0_7.index t 1 = 0)
    ∧ (win0_8.index t 0 = 0 ∧ win0_8.index t 1 = (t : ℕ) % 11) :=
  (by decide +kernel : ∀ t : Fin grid0.N, _)

/-- The payloads, entry by entry. -/
theorem pay1_apply (v9 : Vec Ideal S128x1024 .f32) (v11 : Vec Ideal S1x1024 .f32) (v13 v15 : Vec Ideal S1x128x1024 .f32) (y : Fin 128) (d : Fin 1024) :
    k0_pay1 (F := Ideal) v9 v11 v13 v15 (ix2 y d)
      = v9 (ix2 y d) * Ideal.rsqrt (Ideal.div (∑ e : Fin 1024, v9 (ix2 y e) * v9 (ix2 y e)) (Ideal.ofBits FTy.f32 0x44800000#32) + Ideal.ofBits FTy.f32 0x358637BD#32)
        * v11 (ix2 0 d) * (1 + v13 (ix3 0 y d)) + v15 (ix3 0 y d) := by
  unfold k0_pay1
  pointwise
  try rfl
theorem pay3_apply (v9 : Vec Ideal S128x1024 .f32) (v11 : Vec Ideal S1x1024 .f32) (v13 v15 : Vec Ideal S1x128x1024 .f32) (y : Fin 128) (d : Fin 1024) :
    k0_pay3 (F := Ideal) v9 v11 v13 v15 (ix2 y d) = k0_pay1 (F := Ideal) v9 v11 v13 v15 (ix2 y d) := by
  unfold k0_pay3 k0_pay2
  generalize k0_pay1 (F := Ideal) v9 v11 v13 v15 = q
  pointwise
theorem pay4_apply (v9 : Vec Ideal S128x1024 .f32) (v11 : Vec Ideal S1x1024 .f32) (v13 v15 : Vec Ideal S1x128x1024 .f32) (y : Fin 128) (d : Fin 1024) :
    k0_pay4 (F := Ideal) v9 v11 v13 v15 (ix2 y d) = k0_pay1 (F := Ideal) v9 v11 v13 v15 (ix2 y d) - k0_pay1 (F := Ideal) v9 v11 v13 v15 (ix2 y d) := by
  unfold k0_pay4 k0_pay2
  generalize k0_pay1 (F := Ideal) v9 v11 v13 v15 = q
  pointwise
theorem pay6_apply (v9 : Vec Ideal S128x1024 .bf16) (v10 : Vec Ideal S1024x512 .bf16) (y : Fin 128) (j : Fin 512) :
    k0_pay6 (F := Ideal) v9 v10 (ix2 y j) = ∑ d : Fin 1024, v9 (ix2 y d) * v10 (ix2 d j) := by
  unfold k0_pay6
  pointwise

/-- The three products of the split operands. -/
def three (v9 : Vec Ideal S128x1024 .bf16) (v10 v13 : Vec Ideal S1024x512 .bf16) (v16 : Vec Ideal S128x1024 .bf16) (y : Fin 128) (j : Fin 512) : EReal :=
  (∑ d : Fin 1024, v9 (ix2 y d) * v10 (ix2 d j)) + ((∑ d : Fin 1024, v9 (ix2 y d) * v13 (ix2 d j)) + ∑ d : Fin 1024, v16 (ix2 y d) * v10 (ix2 d j))

theorem pay5_apply (v9 : Vec Ideal S128x1024 .bf16) (v10 v13 : Vec Ideal S1024x512 .bf16) (v16 : Vec Ideal S128x1024 .bf16) (v25 v28 : Vec Ideal S512x512 .bf16) (v38 : Vec Ideal S1x1x512 .f32) (y : Fin 128) (j : Fin 512) :
    k0_pay5 (F := Ideal) v9 v10 v13 v16 v25 v28 v38 (ix2 y j)
      = three v9 v10 v13 v16 y j * Ideal.rsqrt (((∑ i : Fin 512, three v9 v10 v13 v16 y i * three v9 v10 v13 v16 y i * v25 (ix2 i j))
          + ∑ i : Fin 512, (three v9 v10 v13 v16 y i * three v9 v10 v13 v16 y i - three v9 v10 v13 v16 y i * three v9 v10 v13 v16 y i) * v28 (ix2 i j)) * Ideal.ofBits FTy.f32 0x3C800000#32 + Ideal.ofBits FTy.f32 0x358637BD#32)
        * v38 (ix3 0 0 j) := by
  unfold k0_pay5
  pointwise
  try rfl

/-- The row of the arrays that row `y` of point `t`'s block is. -/
def row (t : Fin cfg0.N) (y : Fin 128) : Fin 128 := y

section reads
variable (c : Dev nD) (t : Fin cfg0.N) (y : Fin 128)

theorem V_v0 : V m c main_v0 = shapeCast S128x1024 (m ((c : Thread nD τ).loc main_arg0)) shapeCasts_S128x1x1024_S128x1024 := by
  entry_read
  rfl
theorem V_v2 : V m c main_v2 = truncf (F := Ideal) .bf16 (shapeCast S1024x5632 (m ((c : Thread nD τ).loc main_arg4)) shapeCasts_S1x1024x5632_S1024x5632) bitsLt_bf16_f32 := by
  rfl
theorem V_v6 : V m c main_v6 = extractStridedSlice S1024x1024 ![0, 0] (truncf (F := Ideal) .bf16 (subf (F := Ideal) (shapeCast S1024x5632 (m ((c : Thread nD τ).loc main_arg4)) shapeCasts_S1x1024x5632_S1024x5632) (extf (F := Ideal) .f32 (truncf (F := Ideal) .bf16 (shapeCast S1024x5632 (m ((c : Thread nD τ).loc main_arg4)) shapeCasts_S1x1024x5632_S1024x5632) bitsLt_bf16_f32) bitsLt_bf16_f32)) bitsLt_bf16_f32) slices_S1024x5632_S1024x1024_0_0 := by
  rfl
theorem V_v29 : V m c main_v29 = shapeCast S1x1024 (shapeCast S1024 (m ((c : Thread nD τ).loc main_arg3)) shapeCasts_S1x1024_S1024) shapeCasts_S1024_S1x1024 := by
  rfl

/-- The gains of the heads' norms, once per head. -/
def gains (x5 x6 : Vec Ideal S1x64 .f32) : Vec Ideal S2x1x512 .f32 :=
  shapeCast S2x1x512 (concatenate S2x512 0 [⟨S1x512, broadcastInDim S1x512 ![1] bcast_S512_S1x512_1 (shapeCast S512 (broadcastInDim S8x64 ![0, 1] bcast_S1x64_S8x64_0_1 (shapeCast S1x64 (shapeCast S64 x5 shapeCasts_S1x64_S64) shapeCasts_S64_S1x64)) shapeCasts_S8x64_S512)⟩, ⟨S1x512, broadcastInDim S1x512 ![1] bcast_S512_S1x512_1 (shapeCast S512 (broadcastInDim S8x64 ![0, 1] bcast_S1x64_S8x64_0_1 (shapeCast S1x64 (shapeCast S64 x6 shapeCasts_S1x64_S64) shapeCasts_S64_S1x64)) shapeCasts_S8x64_S512)⟩] concatenates_S1x512_S1x512_S2x512_d0) shapeCasts_S2x512_S2x1x512
theorem V_v18 : V m c main_v18 = gains (m ((c : Thread nD τ).loc main_arg5)) (m ((c : Thread nD τ).loc main_arg6)) := by
  rfl

/-- The block diagonal of ones, one block per head. -/
def heads : Vec Ideal S512x512 .bf16 :=
  truncf (F := Ideal) .bf16 (select (cmpi .eq (Host.divsi (iotaInDim S512x512 32 0) (broadcastInDim S512x512 ![] bcast_S_S512x512 (constantI S_ 32 64#32))) (Host.divsi (iotaInDim S512x512 32 1) (broadcastInDim S512x512 ![] bcast_S_S512x512 (constantI S_ 32 64#32)))) (broadcastInDim S512x512 ![] bcast_S_S512x512 (constant (F := Ideal) S_ .f32 0x3F800000#32)) (broadcastInDim S512x512 ![] bcast_S_S512x512 (constant (F := Ideal) S_ .f32 0x00000000#32))) bitsLt_bf16_f32
theorem V_v27 : V m c main_v27 = heads := by
  rfl

theorem heads_apply (i j : Fin 512) : heads (ix2 i j) = (if (i : ℕ) / 64 = (j : ℕ) / 64 then 1 else 0 : EReal) := by
  unfold heads
  pointwise
  rw [host_head i, host_head j, head_bit ⟨(i : ℕ) / 64, by omega⟩ ⟨(j : ℕ) / 64, by omega⟩]
  by_cases h : (i : ℕ) / 64 = (j : ℕ) / 64
  · simp only [h, if_true]; rfl
  · simp only [h, if_false]; rfl

theorem gains_apply (x5 x6 : Vec Ideal S1x64 .f32) (k : Fin 2) (j : Fin 512) :
    gains x5 x6 (ix3 k 0 j) = if (k : ℕ) = 0 then x5 (ix2 0 ⟨(j : ℕ) % 64, by omega⟩) else x6 (ix2 0 ⟨(j : ℕ) % 64, by omega⟩) := by
  unfold gains
  pointwise
  have : ((k : ℕ) < 1) ↔ (k : ℕ) = 0 := by omega
  simp only [this, dite_eq_ite]

/-- The block of a matrix's columns less itself. -/
def lowAt (x4 : Vec Ideal S1x1024x5632 .f32) (d : Fin 1024) (j : Fin 5632) : EReal := x4 (ix3 0 d j) - x4 (ix3 0 d j)
/-- The gain of a column. -/
def gainAt (x5 x6 : Vec Ideal S1x64 .f32) (k : ℕ) (j : Fin 512) : EReal := if k = 0 then x5 (ix2 0 ⟨(j : ℕ) % 64, by omega⟩) else x6 (ix2 0 ⟨(j : ℕ) % 64, by omega⟩)

theorem cast0 (x0 : Vec Ideal S128x1x1024 .f32) (n : Fin 128) (d : Fin 1024) :
    shapeCast S128x1024 x0 shapeCasts_S128x1x1024_S128x1024 (ix2 n d) = x0 (ix3 n 0 d) := by
  pointwise
theorem cast3 (x3 : Vec Ideal S1x1024 .f32) (d : Fin 1024) :
    shapeCast S1x1024 (shapeCast S1024 x3 shapeCasts_S1x1024_S1024) shapeCasts_S1024_S1x1024 (ix2 0 d) = x3 (ix2 0 d) := by
  pointwise
theorem cast4 (x4 : Vec Ideal S1x1024x5632 .f32) (d : Fin 1024) (j : Fin 5632) :
    truncf (F := Ideal) .bf16 (shapeCast S1024x5632 x4 shapeCasts_S1x1024x5632_S1024x5632) bitsLt_bf16_f32 (ix2 d j) = x4 (ix3 0 d j) := by
  pointwise
theorem low4 (x4 : Vec Ideal S1x1024x5632 .f32) (d : Fin 1024) (j : Fin 1024) :
    extractStridedSlice S1024x1024 ![0, 0] (truncf (F := Ideal) .bf16 (subf (F := Ideal) (shapeCast S1024x5632 x4 shapeCasts_S1x1024x5632_S1024x5632) (extf (F := Ideal) .f32 (truncf (F := Ideal) .bf16 (shapeCast S1024x5632 x4 shapeCasts_S1x1024x5632_S1024x5632) bitsLt_bf16_f32) bitsLt_bf16_f32)) bitsLt_bf16_f32) slices_S1024x5632_S1024x1024_0_0 (ix2 d j)
      = lowAt x4 d ⟨j, by omega⟩ := by
  unfold lowAt
  pointwise

theorem rd0 (d : Fin 1024) : iblk m c 0 t (ix2 y d) = m ((c : Thread nD τ).loc main_arg0) (ix3 (row t y) 0 d) := by
  have hi : ((View.whole main_v0).slice (win0_0.rect t)).emb (ix2 y d) = ix2 (row t y) d := by blk_ext [row, idx t]
  refine (congrArg (V m c main_v0) hi).trans ?_
  rw [V_v0]
  exact cast0 _ _ _
theorem rd1 (d : Fin 1024) : iblk m c 1 t (ix3 0 y d) = m ((c : Thread nD τ).loc main_arg1) (ix3 0 (row t y) d) := by
  blk_ext! [iblk, V, row, idx t]
theorem rd2 (d : Fin 1024) : iblk m c 2 t (ix3 0 y d) = m ((c : Thread nD τ).loc main_arg2) (ix3 0 (row t y) d) := by
  blk_ext! [iblk, V, row, idx t]
theorem rd3 (d : Fin 1024) : iblk m c 3 t (ix2 0 d) = m ((c : Thread nD τ).loc main_arg3) (ix2 0 d) := by
  have hi : ((View.whole main_v29).slice (win0_3.rect t)).emb (ix2 0 d) = ix2 0 d := by blk_ext [idx t]
  refine (congrArg (V m c main_v29) hi).trans ?_
  rw [V_v29]
  exact cast3 _ _
theorem rd4 (d : Fin 1024) (j : Fin 512) : iblk m c 4 t (ix2 d j) = m ((c : Thread nD τ).loc main_arg4) (ix3 0 d ⟨512 * ((t : ℕ) % 11) + j, by omega⟩) := by
  have hi : ((View.whole main_v2).slice (win0_4.rect t)).emb (ix2 d j) = ix2 d ⟨512 * ((t : ℕ) % 11) + j, by omega⟩ := by blk_ext [idx t]
  refine (congrArg (V m c main_v2) hi).trans ?_
  rw [V_v2]
  exact cast4 _ _ _
theorem rd5 (d : Fin 1024) (j : Fin 512) : iblk m c 5 t (ix2 d j) = lowAt (m ((c : Thread nD τ).loc main_arg4)) d ⟨512 * min ((t : ℕ) % 11) 1 + j, by omega⟩ := by
  have hi : ((View.whole main_v6).slice (win0_5.rect t)).emb (ix2 d j) = ix2 d ⟨512 * min ((t : ℕ) % 11) 1 + j, by omega⟩ := by blk_ext [idx t]
  refine (congrArg (V m c main_v6) hi).trans ?_
  rw [V_v6]
  exact low4 _ _ _
theorem rd6 (j : Fin 512) : iblk m c 6 t (ix3 0 0 j) = gainAt (m ((c : Thread nD τ).loc main_arg5)) (m ((c : Thread nD τ).loc main_arg6)) (min ((t : ℕ) % 11) 1) j := by
  have hi : ((View.whole main_v18).slice (win0_6.rect t)).emb (ix3 0 0 j) = ix3 ⟨min ((t : ℕ) % 11) 1, by omega⟩ 0 j := by blk_ext [idx t]
  refine (congrArg (V m c main_v18) hi).trans ?_
  rw [V_v18]
  exact gains_apply _ _ _ _
theorem rd7 (i j : Fin 512) : iblk m c 7 t (ix2 i j) = (if (i : ℕ) / 64 = (j : ℕ) / 64 then 1 else 0 : EReal) := by
  have hi : ((View.whole main_v27).slice (win0_7.rect t)).emb (ix2 i j) = ix2 i j := by blk_ext [idx t]
  refine (congrArg (V m c main_v27) hi).trans ?_
  rw [V_v27]
  exact heads_apply i j
end reads

/-- The modulated norm of row `n`, and its projection. -/
def modRow (c : Dev nD) (n : Fin 128) (d : Fin 1024) : EReal :=
  modAt (m ((c : Thread nD τ).loc main_arg0)) (m ((c : Thread nD τ).loc main_arg1)) (m ((c : Thread nD τ).loc main_arg2)) (m ((c : Thread nD τ).loc main_arg3)) n d
def zRow (c : Dev nD) (n : Fin 128) (j : Fin 5632) : EReal := projAt (m ((c : Thread nD τ).loc main_arg0)) (m ((c : Thread nD τ).loc main_arg1)) (m ((c : Thread nD τ).loc main_arg2)) (m ((c : Thread nD τ).loc main_arg3)) (m ((c : Thread nD τ).loc main_arg4)) n j

theorem zRow_eq (c : Dev nD) (n : Fin 128) (j : Fin 5632) :
    zRow m c n j = ∑ d : Fin 1024, modRow m c n d * ((m ((c : Thread nD τ).loc main_arg4)) : Vec Ideal S1x1024x5632 .f32) (ix3 0 d j) := rfl

/-- What the first point computes. -/
theorem first (c : Dev nD) (t : Fin cfg0.N) (y : Fin 128) (d : Fin 1024) :
    k0_pay1 (F := Ideal) (iblk m c 0 t) (iblk m c 3 t) (iblk m c 1 t) (iblk m c 2 t) (ix2 y d) = modRow m c (row t y) d := by
  refine (pay1_apply _ _ _ _ y d).trans ?_
  simp only [rd0, rd1 m c t y, rd2 m c t y, rd3]
  rfl

set_option maxHeartbeats 1000000 in
/-- The scratch after the first point. -/
theorem hidden_first (c : Dev nD) (t : Fin cfg0.N) (h0 : (t : ℕ) % 11 = 0) (y : Fin 128) (d : Fin 1024) :
    (outsAt0 m c t.val t.isLt).2.1 (ix2 y d) = modRow m c (row t y) d
    ∧ (outsAt0 m c t.val t.isLt).2.2 (ix2 y d) = modRow m c (row t y) d - modRow m c (row t y) d := by
  have hN : cfg0.N = 11 := rfl
  have ht := t.isLt
  have h1 : t.val < 2 := by omega
  have h2 : ¬ 2 ≤ t.val := by omega
  rw [outsAt0_A m c t h0 h1 h2]
  frame_out
  rw [pay3_apply, pay4_apply, first]
  exact ⟨rfl, rfl⟩

set_option maxHeartbeats 1000000 in
/-- The scratch after every point: the modulated norm of its row block, and that less itself. -/
theorem hidden (c : Dev nD) : ∀ (n : ℕ) (h : n < cfg0.N) (y : Fin 128) (d : Fin 1024),
    (outsAt0 m c n h).2.1 (ix2 y d) = modRow m c (row ⟨n, h⟩ y) d
    ∧ (outsAt0 m c n h).2.2 (ix2 y d) = modRow m c (row ⟨n, h⟩ y) d - modRow m c (row ⟨n, h⟩ y) d := by
  intro n
  induction n with
  | zero => exact fun h y d => hidden_first m c ⟨0, h⟩ rfl y d
  | succ n ih =>
    intro h y d
    by_cases h0 : (n + 1) % 11 = 0
    · exact hidden_first m c ⟨n + 1, h⟩ h0 y d
    · have ih' := ih (by omega) y d
      have hr : row ⟨n, by omega⟩ y = row ⟨n + 1, h⟩ y := rfl
      rw [hr] at ih'
      by_cases h1 : n + 1 < 2
      · have h2 : ¬ 2 ≤ n + 1 := by omega
        rw [outsAt0_B m c ⟨n + 1, h⟩ h0 h1 h2]
        exact ih'
      · have h2 : 2 ≤ n + 1 := by omega
        rw [outsAt0_C m c ⟨n + 1, h⟩ h0 h1 h2]
        exact ih'

/-- The normed block of a row whose split halves are the numbers and zeros. -/
theorem block5 (v9 : Vec Ideal S128x1024 .bf16) (v10 v13 : Vec Ideal S1024x512 .bf16) (v16 : Vec Ideal S128x1024 .bf16) (v25 v28 : Vec Ideal S512x512 .bf16) (v38 : Vec Ideal S1x1x512 .f32)
    (y : Fin 128) (h : Fin 1024 → EReal) (w : Fin 1024 → Fin 512 → EReal) (g : Fin 512 → EReal)
    (hh : ∀ d, Real' (h d)) (hw : ∀ d j, Real' (w d j))
    (h9 : ∀ d, v9 (ix2 y d) = h d) (h16 : ∀ d, v16 (ix2 y d) = h d - h d)
    (h10 : ∀ d j, v10 (ix2 d j) = w d j) (h13 : ∀ d j, v13 (ix2 d j) = w d j - w d j)
    (h25 : ∀ i j : Fin 512, v25 (ix2 i j) = (if (i : ℕ) / 64 = (j : ℕ) / 64 then 1 else 0 : EReal))
    (h28 : ∀ i j : Fin 512, v28 (ix2 i j) = (if (i : ℕ) / 64 = (j : ℕ) / 64 then 1 else 0 : EReal))
    (h38 : ∀ j, v38 (ix3 0 0 j) = g j) (j : Fin 512) :
    k0_pay5 (F := Ideal) v9 v10 v13 v16 v25 v28 v38 (ix2 y j)
      = (∑ d, h d * w d j) * Ideal.rsqrt (Ideal.div (∑ e : Fin 64, (∑ d, h d * w d ⟨(j : ℕ) / 64 * 64 + e, by omega⟩) * (∑ d, h d * w d ⟨(j : ℕ) / 64 * 64 + e, by omega⟩)) (Ideal.ofBits FTy.f32 0x42800000#32) + Ideal.ofBits FTy.f32 0x358637BD#32) * g j := by
  have hz : ∀ i, three v9 v10 v13 v16 y i = ∑ d, h d * w d i := by
    intro i
    unfold three
    simp only [h9, h16, h10, h13, real_sub_self (hh _), real_sub_self (hw _ _), mul_zero, zero_mul, Finset.sum_const_zero, add_zero]
  have hr : ∀ i, Real' (∑ d, h d * w d i) := fun i => real_sum fun d => real_mul (hh d) (hw d i)
  rw [pay5_apply]
  simp only [hz, h25, h28, h38, real_sub_self (real_mul (hr _) (hr _)), zero_mul, Finset.sum_const_zero, add_zero]
  rw [sum_head (fun i => (∑ d, h d * w d i) * (∑ d, h d * w d i)) j, lit64, lit64inv, Ideal.div_coe (by norm_num)]

/-- The first two blocks of columns are the queries' and the keys'. -/
theorem normed_block (z : Fin 5632 → EReal) (x5 x6 : Vec Ideal S1x64 .f32) (k : ℕ) (hk : k ≤ 1) (j : Fin 512) :
    z ⟨512 * k + j, by omega⟩ * Ideal.rsqrt (Ideal.div (∑ e : Fin 64, z ⟨512 * k + ((j : ℕ) / 64 * 64 + (e : ℕ)), by omega⟩ * z ⟨512 * k + ((j : ℕ) / 64 * 64 + (e : ℕ)), by omega⟩) (Ideal.ofBits FTy.f32 0x42800000#32) + Ideal.ofBits FTy.f32 0x358637BD#32) * gainAt x5 x6 k j
      = normed z (fun e => x5 (ix2 0 e)) (fun e => x6 (ix2 0 e)) ⟨512 * k + j, by omega⟩ := by
  have e1 : ∀ x : ℕ, 512 * k + ((j : ℕ) / 64 * 64 + x) = (512 * k + (j : ℕ)) / 64 * 64 + x := fun x => by omega
  have e2 : (512 * k + (j : ℕ)) % 64 = (j : ℕ) % 64 := by omega
  unfold normed gainAt
  by_cases h : k = 0
  · have h1 : 512 * k + (j : ℕ) < 512 := by omega
    simp only [if_pos h, if_pos h1, e1, e2]
  · have h1 : ¬ 512 * k + (j : ℕ) < 512 := by omega
    have h2 : 512 * k + (j : ℕ) < 1024 := by omega
    simp only [if_neg h, if_neg h1, if_pos h2, e1, e2]

set_option maxHeartbeats 1000000 in
/-- What a point leaves in the result's block. -/
theorem out_apply (c : Dev nD) (t : Fin cfg0.N) (y : Fin 128) (j : Fin 512)
    (hh : ∀ n d, Real' (modRow m c n d)) (hw : ∀ d j, Real' (((m ((c : Thread nD τ).loc main_arg4)) : Vec Ideal S1x1024x5632 .f32) (ix3 0 d j))) :
    (outsAt0 m c t.val t.isLt).1 (ix2 y j)
      = normed (zRow m c (row t y)) (fun e => ((m ((c : Thread nD τ).loc main_arg5)) : Vec Ideal S1x64 .f32) (ix2 0 e)) (fun e => ((m ((c : Thread nD τ).loc main_arg6)) : Vec Ideal S1x64 .f32) (ix2 0 e)) ⟨512 * ((t : ℕ) % 11) + j, by omega⟩ := by
  have hN : cfg0.N = 11 := rfl
  have ht := t.isLt
  have key : t.val < 2 → ∀ (v9 v16 : Vec Ideal S128x1024 .bf16), (∀ d, v9 (ix2 y d) = modRow m c (row t y) d) → (∀ d, v16 (ix2 y d) = modRow m c (row t y) d - modRow m c (row t y) d) →
      k0_pay5 (F := Ideal) v9 (iblk m c 4 t) (iblk m c 5 t) v16 (iblk m c 7 t) (iblk m c 7 t) (iblk m c 6 t) (ix2 y j)
        = normed (zRow m c (row t y)) (fun e => ((m ((c : Thread nD τ).loc main_arg5)) : Vec Ideal S1x64 .f32) (ix2 0 e)) (fun e => ((m ((c : Thread nD τ).loc main_arg6)) : Vec Ideal S1x64 .f32) (ix2 0 e)) ⟨512 * ((t : ℕ) % 11) + j, by omega⟩ := by
    intro h1 v9 v16 h9 h16
    have hm : min ((t : ℕ) % 11) 1 = (t : ℕ) % 11 := min_eq_left (by omega)
    refine (block5 v9 (iblk m c 4 t) (iblk m c 5 t) v16 (iblk m c 7 t) (iblk m c 7 t) (iblk m c 6 t) y (modRow m c (row t y)) (fun d i => ((m ((c : Thread nD τ).loc main_arg4)) : Vec Ideal S1x1024x5632 .f32) (ix3 0 d ⟨512 * ((t : ℕ) % 11) + i, by omega⟩)) (gainAt (m ((c : Thread nD τ).loc main_arg5)) (m ((c : Thread nD τ).loc main_arg6)) ((t : ℕ) % 11))
      (fun d => hh _ d) (fun d i => hw d _) h9 h16 (rd4 m c t) ?_ (rd7 m c t) (rd7 m c t) ?_ j).trans ?_
    · intro d i
      refine (rd5 m c t d i).trans ?_
      unfold lowAt
      simp only [hm]
    · intro i
      refine (rd6 m c t i).trans ?_
      rw [hm]
    · simp only [← zRow_eq]
      exact normed_block (zRow m c (row t y)) _ _ ((t : ℕ) % 11) (by omega) j
  by_cases h0 : (t : ℕ) % 11 = 0
  · have h1 : t.val < 2 := by omega
    have h2 : ¬ 2 ≤ t.val := by omega
    have hs := hidden_first m c t h0 y
    rw [outsAt0_A m c t h0 h1 h2]
    frame_out
    exact key h1 _ _ (fun d => by rw [pay3_apply, first]) (fun d => by rw [pay4_apply, first])
  · have hlt : (t : ℕ) - 1 < cfg0.N := by omega
    have hs := hidden m c ((t : ℕ) - 1) hlt y
    have hr : row ⟨(t : ℕ) - 1, hlt⟩ y = row t y := rfl
    rw [hr] at hs
    by_cases h1 : t.val < 2
    · have h2 : ¬ 2 ≤ t.val := by omega
      rw [outsAt0_B m c t h0 h1 h2]
      frame_out
      exact key h1 _ _ (fun d => (congrFun (read_unread_whole _ _ _) _).trans (hs d).1) (fun d => (congrFun (read_unread_whole _ _ _) _).trans (hs d).2)
    · have h2 : 2 ≤ t.val := by omega
      rw [outsAt0_C m c t h0 h1 h2]
      frame_out
      refine (pay6_apply _ _ _ _).trans ?_
      have h3 : ¬ 512 * ((t : ℕ) % 11) + (j : ℕ) < 512 := by omega
      have h4 : ¬ 512 * ((t : ℕ) % 11) + (j : ℕ) < 1024 := by omega
      unfold normed
      simp only [if_neg h3, if_neg h4]
      rw [zRow_eq]
      refine Finset.sum_congr rfl fun d _ => ?_
      rw [rd4]
      exact congrArg (· * _) ((congrFun (read_unread_whole _ _ _) _).trans (hs d).1)

/-- The modulated norm of finite arguments is finite. -/
theorem real_mod (x0 : Vec Ideal S128x1x1024 .f32) (x1 x2 : Vec Ideal S1x128x1024 .f32) (x3 : Vec Ideal S1x1024 .f32)
    (h0 : ∀ i, Real' (x0 i)) (h1 : ∀ i, Real' (x1 i)) (h2 : ∀ i, Real' (x2 i)) (h3 : ∀ i, Real' (x3 i)) (n : Fin 128) (d : Fin 1024) :
    Real' (modAt x0 x1 x2 x3 n d) := by
  unfold modAt
  exact real_add (real_mul (real_mul (real_mul (h0 _) (real_rsqrt fun e => h0 (ix3 n 0 e))) (h3 _)) (real_add real_one (h1 _))) (h2 _)

set_option maxHeartbeats 1000000 in
/-- The array that the kernel leaves is any array with the projection's entries. -/
theorem final8_of (c : Dev nD) (G : Vec Ideal S128x5632 .f32)
    (hG : ∀ (n : Fin 128) (j : Fin 5632), G (ix2 n j) = normed (zRow m c n) (fun e => ((m ((c : Thread nD τ).loc main_arg5)) : Vec Ideal S1x64 .f32) (ix2 0 e)) (fun e => ((m ((c : Thread nD τ).loc main_arg6)) : Vec Ideal S1x64 .f32) (ix2 0 e)) j)
    (hh : ∀ n d, Real' (modRow m c n d)) (hw : ∀ d j, Real' (((m ((c : Thread nD τ).loc main_arg4)) : Vec Ideal S1x1024x5632 .f32) (ix3 0 d j))) :
    (dats m 0 c).arrAt 8 cfg0.N = G := by
  refine (dats m 0 c).arrAt_eq_of_covers 8 _ (by decide +kernel) fun t hf y => ?_
  blk_simp
  rw [after0_8]
  idx_vars y
  have hi : ((View.whole main_v30).slice (win0_8.rect t)).emb (ix2 y0 y1) = ix2 (row t y0) ⟨512 * ((t : ℕ) % 11) + y1, by omega⟩ := by
    blk_ext [row, idx t]
  rw [hi, hG]
  exact out_apply m c t y0 y1 hh hw

/-- The array that the kernel leaves is the projection, for finite arguments. -/
theorem result8 (c : Dev nD)
    (h0 : ∀ i, Real' (((m ((c : Thread nD τ).loc main_arg0)) : Vec Ideal S128x1x1024 .f32) i)) (h1 : ∀ i, Real' (((m ((c : Thread nD τ).loc main_arg1)) : Vec Ideal S1x128x1024 .f32) i)) (h2 : ∀ i, Real' (((m ((c : Thread nD τ).loc main_arg2)) : Vec Ideal S1x128x1024 .f32) i))
    (h3 : ∀ i, Real' (((m ((c : Thread nD τ).loc main_arg3)) : Vec Ideal S1x1024 .f32) i)) (h4 : ∀ i, Real' (((m ((c : Thread nD τ).loc main_arg4)) : Vec Ideal S1x1024x5632 .f32) i)) :
    (dats m 0 c).arrAt 8 cfg0.N = projected (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  final8_of m c _ (fun n j => projected_apply _ _ _ _ _ _ _ n j) (fun n d => real_mod _ _ _ _ h0 h1 h2 h3 _ _) (fun d j => h4 _)

end Cert.Kernel5Ideal.Value

end
-- ==== Proof.InSampleClaim.lean ====
module

public import proofs.«01_k».proof.Proof.InSample
public import proofs.«01_k».proof.Proof.InClaim
public import proofs.«01_k».proof.Proof.Gen.Pre_inputs_finite_sample

@[expose] public section

set_option maxRecDepth 16384

noncomputable section

namespace Cert.InSampleClaim

open Idealize.ShloMosaic Idealize.ShloMosaic.TcCoe Idealize.SL.Sem
open Cert.Kernel5Ideal.Value (result8)
open Cert.InClaim (real_of_finite)

/-- The kernel's projection and the reference's are the same array, for finite arguments. -/
theorem algebraic : Cert.algebraic_Kernel5Ideal_Reference5Ideal_pre_inputs_finite_sample := by
  intro m g m' g' hp he
  refine ⟨fun c => (Cert.Kernel5Ideal.Gen.dats m 0 c).arrAt 8 Cert.Kernel5Ideal.cfg0.N, Cert.Kernel5Ideal.Value.run_blocks m g, ?_⟩
  refine (θ_run _ _ _).mono (fun r h c => ?_) (Cert.Reference5Ideal.Value.run m' g')
  obtain ⟨h0, h1, h2, h3, h4, h5, h6⟩ := he c
  obtain ⟨hv, hrest⟩ := h c
  refine ⟨hv.trans ?_, hrest⟩
  obtain ⟨p0, p1, p2, p3, p4⟩ := hp c
  beta_reduce
  rw [result8 m c (real_of_finite _ _ (fun _ => rfl) p0) (real_of_finite _ _ (fun _ => rfl) p1) (real_of_finite _ _ (fun _ => rfl) p2) (real_of_finite _ _ (fun _ => rfl) p3) (real_of_finite _ _ (fun _ => rfl) p4), ← h0, ← h1, ← h2, ← h3, ← h4, ← h5, ← h6]
  rfl

end Cert.InSampleClaim

end
-- ==== Proof.SampTrips.lean ====
module

public import proofs.«01_k».proof.Proof.Gen.Reference4Ideal.Run
public import proofs.«01_k».proof.Proof.Gen.Reference4Ideal.Step

@[expose] public section

set_option maxRecDepth 65536

noncomputable section

/-! The reference's run, with its loop's trips as the steps of a recurrence on the loop's carried arrays. -/

namespace Cert.Reference4Ideal.Trips

open Idealize.ShloMosaic Idealize.ShloMosaic.TcCoe Idealize.SL.Sem Idealize.ShloMosaic.StableHlo
open Cert.Reference4Ideal Cert.Reference4Ideal.Gen Cert.Reference4Ideal.Value
open Cert.Reference4Ideal.Step (State step init)

variable {F : FTy → Type} [FloatOps F]

/-- The buffers hold the recurrence's state, the mask and the trip's number. -/
structure Has (V0 : Valuation τ sig (Elt F)) (s : State F) (j : ℕ) : Prop where
  state : V0 (Proc.devRef .tc main_v55_6) = s.main_v55_6
  out : V0 (Proc.devRef .tc main_v55_7) = s.main_v55_7
  q : V0 (Proc.devRef .tc main_v55_0) = s.main_v55_0
  k : V0 (Proc.devRef .tc main_v55_1) = s.main_v55_1
  v : V0 (Proc.devRef .tc main_v55_2) = s.main_v55_2
  logf : V0 (Proc.devRef .tc main_v55_3) = s.main_v55_3
  count : V0 (Proc.devRef .tc main_v55_5) = constantI S_ 32 (BitVec.ofNat 32 j)
  mask : V0 (Proc.devRef .tc main_v55_4) = Cert.Reference4Ideal.Step.K_main_v41 (F := F)

variable {V0 : Valuation τ sig (Elt F)} {s : State F} {j : ℕ}

theorem state_step (h : Has V0 s j) : step_main_v55_6 V0 = (step j s).main_v55_6 := by
  obtain ⟨h6, h7, h0, h1, h2, h3, h5, h4⟩ := h
  rw [Cert.Reference4Ideal.Step.step_main_v55_6]
  unfold step_main_v55_6 res_main_while0b_v76 res_main_while0b_v63 res_main_while0b_v61 res_main_while0b_v60
  rw [h6, h1, h2, h3, h5]
  rfl

theorem out_step (h : Has V0 s j) : step_main_v55_7 V0 = (step j s).main_v55_7 := by
  obtain ⟨h6, h7, h0, h1, h2, h3, h5, h4⟩ := h
  rw [Cert.Reference4Ideal.Step.step_main_v55_7]
  unfold step_main_v55_7 res_main_while0b_v65 res_main_while0b_v63 res_main_while0b_v61 res_main_while0b_v60
  rw [h6, h7, h0, h1, h2, h3, h5, h4]
  rfl

theorem count_step (h : Has V0 s j) : step_main_v55_5 V0 = constantI S_ 32 (BitVec.ofNat 32 (j + 1)) := by
  unfold step_main_v55_5
  rw [h.count]
  funext i
  show BitVec.ofNat 32 j + 1#32 = BitVec.ofNat 32 (j + 1)
  simp only [BitVec.ofNat_add]

/-- A trip leaves the next state. -/
theorem has_step (h : Has V0 s j) : Has (STEP V0) (step j s) (j + 1) where
  state := (STEP_main_v55_6 V0).trans (state_step h)
  out := (STEP_main_v55_7 V0).trans (out_step h)
  count := (STEP_main_v55_5 V0).trans (count_step h)
  mask := (STEP_main_v55_4 V0).trans h.mask
  q := (STEP_main_v55_0 V0).trans h.q
  k := (STEP_main_v55_1 V0).trans h.k
  v := (STEP_main_v55_2 V0).trans h.v
  logf := (STEP_main_v55_3 V0).trans h.logf

/-- The state before the first trip. -/
abbrev start (m : (ℓ : Loc nD τ sig) → Buf (Elt F) ℓ) (c : Dev nD) : State F :=
  init (m ((c.tc : Thread nD τ).loc main_arg2)) (m ((c.tc : Thread nD τ).loc main_arg0)) (m ((c.tc : Thread nD τ).loc main_arg1))

/-- The state after `n` trips. -/
def states (m : (ℓ : Loc nD τ sig) → Buf (Elt F) ℓ) (c : Dev nD) : ℕ → State F
  | 0 => start m c
  | n + 1 => step n (states m c n)

variable (m : (ℓ : Loc nD τ sig) → Buf (Elt F) ℓ) (c : Dev nD)

set_option maxHeartbeats 800000 in
/-- The operations before the loop leave the first state. -/
theorem has_start : Has (entryContents preI m c) (start m c) 0 := by
  constructor <;> (simp only [entryContents, afterL_cons, afterL_nil]; after_reads_simp) <;> rfl

theorem has_states : ∀ k, Has (STEP^[k] (entryContents preI m c)) (states m c k) k
  | 0 => has_start m c
  | k + 1 => by
    rw [Function.iterate_succ_apply']
    exact has_step (has_states k)

/-- The reference ends with its results read from the last state, and its arguments as they were. -/
theorem run_states (ρ : Dev nD → PrngReg) : θ_run (defs (F := F)) (onTc (τ := τ) (main (F := F))) ⟨m, fun _ => 0, ρ⟩ fun r => ∀ c : Dev nD,
      r.2.mem ((c.tc : Thread nD τ).loc main_v58) = Cert.Reference4Ideal.Step.R_main_v58 (states m c 1)
      ∧ r.2.mem ((c.tc : Thread nD τ).loc main_v55_6) = (states m c 1).main_v55_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    have hk := has_states m c 1
    refine ⟨(h c).1.trans ?_, (h c).2.1.trans hk.state, (h c).2.2⟩
    unfold out_main_v58 Cert.Reference4Ideal.Step.R_main_v58
    rw [hk.out]
    rfl) (Value.run m ρ)

end Cert.Reference4Ideal.Trips

end
-- ==== Proof.SampleRef.lean ====
module

public import proofs.«01_k».proof.Defs
public import proofs.«01_k».proof.Proof.SampTrips
public import Idealize.ShloMosaic.Lib.Pointwise
public import Idealize.ShloMosaic.Lib.Pipeline.ValueKit

@[expose] public section

set_option maxRecDepth 16384

noncomputable section

namespace Cert.Reference4Ideal.Step

open Cert.Reference4Ideal Cert.Reference4Ideal.Gen Idealize.ShloMosaic Idealize.ShloMosaic.TcCoe Idealize.SL.Sem

/-- A window of one element, nothing padded, sums one element. -/
theorem window_one (x : Vec Ideal S128x1x4x128 .f32) (z : Vec Ideal S_ .f32) (hz : ∀ i, z i = 0) (b : Fin 128) (t : Fin 1) (h : Fin 4) (k : Fin 128) :
    Host.reduceWindowAdd (F := Ideal) (φ := .f32) ![1, 1, 1, 1] ![1, 1, 1, 1] ![0, 0, 0, 0] ![0, 0, 0, 0] x z reduceWindows_S128x1x4x128_S128x1x4x128_w1s1p0_0_w1s1p0_0_w1s1p0_0_w1s1p0_0 h_S_ (ix4 b t h k) = x (ix4 b t h k) := by
  have hw : ∀ (n : Fin (⟨4, ![1, 1, 1, 1]⟩ : Shape).numel) (a : Fin 4), ((⟨4, ![1, 1, 1, 1]⟩ : Shape).rowMajor.symm n a).val = 0 := by decide
  have hn : List.finRange (⟨4, ![1, 1, 1, 1]⟩ : Shape).numel = [⟨0, by decide⟩] := by decide
  show Host.reduceWindow (· + ·) ![1, 1, 1, 1] ![1, 1, 1, 1] ![0, 0, 0, 0] ![0, 0, 0, 0] x (fun _ : (⟨0, ![]⟩ : Shape).Idx => z (Shape.Idx.first h_S_)) reduceWindows_S128x1x4x128_S128x1x4x128_w1s1p0_0_w1s1p0_0_w1s1p0_0_w1s1p0_0 (by decide) (ix4 b t h k) = _
  unfold Host.reduceWindow
  dsimp only
  erw [hn]
  rw [List.foldl_cons, List.foldl_nil, hz]
  have hin : ∀ a : Fin 4, (![0, 0, 0, 0] : Fin 4 → ℕ) a ≤ ((ix4 b t h k : S128x1x4x128.Idx) a).val * (![1, 1, 1, 1] : Fin 4 → ℕ) a + ((⟨4, ![1, 1, 1, 1]⟩ : Shape).rowMajor.symm ⟨0, by decide⟩ a).val
      ∧ ((ix4 b t h k : S128x1x4x128.Idx) a).val * (![1, 1, 1, 1] : Fin 4 → ℕ) a + ((⟨4, ![1, 1, 1, 1]⟩ : Shape).rowMajor.symm ⟨0, by decide⟩ a).val - (![0, 0, 0, 0] : Fin 4 → ℕ) a < S128x1x4x128.size a := by
    intro a
    rw [hw]
    have := ((ix4 b t h k : S128x1x4x128.Idx) a).isLt
    fin_cases a <;> simp <;> omega
  refine (zero_add _).trans ?_
  refine (dif_pos hin).trans (congrArg x (funext fun a => Fin.ext ?_))
  show ((ix4 b t h k : S128x1x4x128.Idx) a).val * (![1, 1, 1, 1] : Fin 4 → ℕ) a + ((⟨4, ![1, 1, 1, 1]⟩ : Shape).rowMajor.symm ⟨0, by decide⟩ a).val - (![0, 0, 0, 0] : Fin 4 → ℕ) a = _
  rw [hw]
  fin_cases a <;> simp

/-- The first of two rows of a running sum is the first row. -/
theorem window_first (x : Vec Ideal S2x512 .f32) (z : Vec Ideal S_ .f32) (hz : ∀ i, z i = 0) (j : Fin 512) :
    Host.reduceWindowAdd (F := Ideal) (φ := .f32) ![2, 1] ![1, 1] ![1, 0] ![0, 0] x z reduceWindows_S2x512_S2x512_w2s1p1_0_w1s1p0_0 h_S_ (ix2 0 j) = x (ix2 0 j) := by
  have h0 : ∀ a : Fin 2, ((⟨2, ![2, 1]⟩ : Shape).rowMajor.symm ⟨0, by decide⟩ a).val = 0 := by decide
  have h1 : ∀ a : Fin 2, ((⟨2, ![2, 1]⟩ : Shape).rowMajor.symm ⟨1, by decide⟩ a).val = (![1, 0] : Fin 2 → ℕ) a := by decide
  have hn : List.finRange (⟨2, ![2, 1]⟩ : Shape).numel = [⟨0, by decide⟩, ⟨1, by decide⟩] := by decide
  show Host.reduceWindow (· + ·) ![2, 1] ![1, 1] ![1, 0] ![0, 0] x (fun _ : (⟨0, ![]⟩ : Shape).Idx => z (Shape.Idx.first h_S_)) reduceWindows_S2x512_S2x512_w2s1p1_0_w1s1p0_0 (by decide) (ix2 0 j) = _
  unfold Host.reduceWindow
  dsimp only
  erw [hn]
  rw [List.foldl_cons, List.foldl_cons, List.foldl_nil, hz]
  have hout : ¬ ∀ a : Fin 2, (![1, 0] : Fin 2 → ℕ) a ≤ ((ix2 0 j : S2x512.Idx) a).val * (![1, 1] : Fin 2 → ℕ) a + ((⟨2, ![2, 1]⟩ : Shape).rowMajor.symm ⟨0, by decide⟩ a).val
      ∧ ((ix2 0 j : S2x512.Idx) a).val * (![1, 1] : Fin 2 → ℕ) a + ((⟨2, ![2, 1]⟩ : Shape).rowMajor.symm ⟨0, by decide⟩ a).val - (![1, 0] : Fin 2 → ℕ) a < S2x512.size a := by
    intro hall
    have := (hall 0).1
    rw [h0] at this
    simp at this
  have hin : ∀ a : Fin 2, (![1, 0] : Fin 2 → ℕ) a ≤ ((ix2 0 j : S2x512.Idx) a).val * (![1, 1] : Fin 2 → ℕ) a + ((⟨2, ![2, 1]⟩ : Shape).rowMajor.symm ⟨1, by decide⟩ a).val
      ∧ ((ix2 0 j : S2x512.Idx) a).val * (![1, 1] : Fin 2 → ℕ) a + ((⟨2, ![2, 1]⟩ : Shape).rowMajor.symm ⟨1, by decide⟩ a).val - (![1, 0] : Fin 2 → ℕ) a < S2x512.size a := by
    intro a
    rw [h1]
    have := ((ix2 0 j : S2x512.Idx) a).isLt
    fin_cases a <;> simp <;> omega
  refine (congrArg₂ (· + ·) (congrArg₂ (· + ·) rfl (dif_neg hout)) (dif_pos hin)).trans ?_
  refine (congrArg (· + _) (zero_add _)).trans ((zero_add _).trans (congrArg x (funext fun a => Fin.ext ?_)))
  show ((ix2 0 j : S2x512.Idx) a).val * (![1, 1] : Fin 2 → ℕ) a + ((⟨2, ![2, 1]⟩ : Shape).rowMajor.symm ⟨1, by decide⟩ a).val - (![1, 0] : Fin 2 → ℕ) a = _
  rw [h1]
  fin_cases a <;> simp

/-- A slice as large as its array starts at zero. -/
theorem clamp_zero (h : S1x128x1x4x128.rank = S1x128x1x4x128.rank) (g : Fin 5 → ℤ) (a : Fin 5) : Host.clampedStart S1x128x1x4x128 S1x128x1x4x128 h g a = 0 := by
  unfold Host.clampedStart
  simp

theorem soft_apply (z : Vec Ideal S128x5632 .f32) (l : Vec Ideal S2x512 .f32) (x : Fin 2) (j : Fin 512) : A_main_v10 (F := Ideal) z l (ix2 x j) =
    Ideal.div (Ideal.exp (l (ix2 x j) - max (Ideal.ofBits FTy.f32 4286578688#32) (Finset.fold max (Ideal.ofBits FTy.f32 4286578688#32) (fun x => l (ix2 x j)) Finset.univ)))
      (∑ x : Fin 2, Ideal.exp (l (ix2 x j) - max (Ideal.ofBits FTy.f32 4286578688#32) (Finset.fold max (Ideal.ofBits FTy.f32 4286578688#32) (fun x => l (ix2 x j)) Finset.univ))) := by
  unfold A_main_v10 A_main_v9 A_main_v8 A_main_v7 A_main_v6 A_main_v5 A_main_v4 A_main_v3 A_main_v2 A_main_v0 K_main_cst K_main_v1 K_main_cst_0 K_main_cst_1
  pointwise
theorem lb_at (z : Vec Ideal S128x5632 .f32) (l : Vec Ideal S2x512 .f32) (j : Fin 512) : A_main_v13 (F := Ideal) z l (ix1 j) = A_main_v10 (F := Ideal) z l (ix2 0 j) := by
  have h : A_main_v13 (F := Ideal) z l (ix1 j) = A_main_v11 (F := Ideal) z l (ix2 0 j) := by
    unfold A_main_v13 A_main_v12
    generalize A_main_v11 (F := Ideal) z l = a
    pointwise
  rw [h]
  exact window_first _ _ (fun i => Ideal.ofBits_zero_f32) j
theorem f_at (z : Vec Ideal S128x5632 .f32) (l : Vec Ideal S2x512 .f32) (b : Fin 128) (j : Fin 512) : A_main_v31 (F := Ideal) z l (ix3 b 0 j) =
    A_main_v13 (F := Ideal) z l (ix1 j) + (1 - A_main_v13 (F := Ideal) z l (ix1 j)) * Ideal.div 1 (1 + Ideal.exp (-z (ix2 b ⟨2048 + (j : ℕ), by omega⟩))) := by
  unfold A_main_v31 A_main_v30 A_main_v29 A_main_v28 A_main_v27 A_main_v26 A_main_v25 A_main_v23 A_main_v21 A_main_v20 A_main_v19 A_main_v16 A_main_v14 K_main_v22 K_main_v24 K_main_v18 K_main_cst_2 K_main_cst_3 K_main_cst_4
  generalize A_main_v13 (F := Ideal) z l = a
  pointwise
theorem q_at (z : Vec Ideal S128x5632 .f32) (l : Vec Ideal S2x512 .f32) (b : Fin 128) (h : Fin 4) (k : Fin 128) : A_main_v44 (F := Ideal) z l (ix5 0 b 0 h k) =
    z (ix2 b ⟨1536 + ((h : ℕ) * 128 + (k : ℕ)), by omega⟩) * Ideal.div 1 (1 + Ideal.exp (-z (ix2 b ⟨1536 + ((h : ℕ) * 128 + (k : ℕ)), by omega⟩))) := by
  unfold A_main_v44 A_main_v43 A_main_v42 A_main_v33 A_main_v32 A_main_call1_v5 A_main_call1_v3 A_main_call1_v1 A_main_call1_v0 A_main_v15 A_main_v14 K_main_call1_v2 K_main_call1_v4 K_main_call1_cst K_main_call1_cst_0
  pointwise
theorem k_at (z : Vec Ideal S128x5632 .f32) (l : Vec Ideal S2x512 .f32) (b : Fin 128) (h : Fin 4) (k : Fin 128) : A_main_v47 (F := Ideal) z l (ix5 0 b 0 h k) =
    1 - A_main_v31 (F := Ideal) z l (ix3 b 0 ⟨(h : ℕ) * 128 + (k : ℕ), by omega⟩) := by
  unfold A_main_v47 A_main_v46 A_main_v45 A_main_v36 A_main_v35 K_main_v34 K_main_cst_5
  generalize A_main_v31 (F := Ideal) z l = a
  pointwise
theorem v_at (z : Vec Ideal S128x5632 .f32) (l : Vec Ideal S2x512 .f32) (b : Fin 128) (h : Fin 4) (k : Fin 128) : A_main_v50 (F := Ideal) z l (ix5 0 b 0 h k) = z (ix2 b ⟨2560 + ((h : ℕ) * 128 + (k : ℕ)), by omega⟩) := by
  unfold A_main_v50 A_main_v49 A_main_v48 A_main_v37 A_main_v17 A_main_v14
  pointwise
theorem g_at (z : Vec Ideal S128x5632 .f32) (l : Vec Ideal S2x512 .f32) (b : Fin 128) (h : Fin 4) (k : Fin 128) : A_main_v53 (F := Ideal) z l (ix5 0 b 0 h k) =
    Ideal.log (A_main_v31 (F := Ideal) z l (ix3 b 0 ⟨(h : ℕ) * 128 + (k : ℕ), by omega⟩)) := by
  unfold A_main_v53 A_main_v52 A_main_v51 A_main_v39 A_main_v38
  generalize A_main_v31 (F := Ideal) z l = a
  pointwise
theorem b26_at (s : State Ideal) (b : Fin 128) (h : Fin 4) (k : Fin 128) : b26 0 s (ix4 b 0 h k) = b23 0 s (ix4 b 0 h k) := by
  unfold b26
  exact window_one _ _ (fun i => Ideal.ofBits_zero_f32) b 0 h k
theorem slice_at (x : Vec Ideal S1x128x1x4x128 .f32) (g : Fin 5 → ℤ) (b : Fin 128) (h : Fin 4) (k : Fin 128) :
    shapeCast S128x1x4x128 (Host.dynamicSlice S1x128x1x4x128 x g sliceFits_S1x128x1x4x128_S1x128x1x4x128) shapeCasts_S1x128x1x4x128_S128x1x4x128 (ix4 b 0 h k) = x (ix5 0 b 0 h k) := by
  pointwise
  simp only [clamp_zero]
  exact congrArg x (by congr 1 <;> exact Fin.ext (Nat.zero_add _))
theorem b5_at (s : State Ideal) (b : Fin 128) (h : Fin 4) (k : Fin 128) : b5 0 s (ix4 b 0 h k) = s.main_v55_0 (ix5 0 b 0 h k) := slice_at _ _ b h k
theorem b11_at (s : State Ideal) (b : Fin 128) (h : Fin 4) (k : Fin 128) : b11 0 s (ix4 b 0 h k) = s.main_v55_1 (ix5 0 b 0 h k) := slice_at _ _ b h k
theorem b17_at (s : State Ideal) (b : Fin 128) (h : Fin 4) (k : Fin 128) : b17 0 s (ix4 b 0 h k) = s.main_v55_2 (ix5 0 b 0 h k) := slice_at _ _ b h k
theorem b23_at (s : State Ideal) (b : Fin 128) (h : Fin 4) (k : Fin 128) : b23 0 s (ix4 b 0 h k) = s.main_v55_3 (ix5 0 b 0 h k) := slice_at _ _ b h k
theorem b53_at (s : State Ideal) (b : Fin 128) (h : Fin 4) (k v : Fin 128) : b53 0 s (ix4 b h k v) =
    s.main_v55_6 (ix4 b h k v) * Ideal.exp (b26 0 s (ix4 b 0 h k)) + b11 0 s (ix4 b 0 h k) * Ideal.exp (b26 0 s (ix4 b 0 h k) - b26 0 s (ix4 b 0 h k)) * b17 0 s (ix4 b 0 h v) := by
  unfold b53 b52 b51 b50 b49 b48 b47 b46 b45 b44 b43
  generalize b26 0 s = c
  generalize b11 0 s = d
  generalize b17 0 s = e
  pointwise
  simp
theorem mask_at : K_main_v41 (F := Ideal) (ix2 0 0) = 1#1 := by
  unfold K_main_v41 K_main_call2_v4 K_main_v40 K_main_call2_v2 K_main_call2_v0 K_main_call2_v1 K_main_call2_c K_main_call2_v3 K_main_c
  pointwise
  exact if_pos (by decide)
theorem b42_at (s : State Ideal) (b : Fin 128) (h : Fin 4) (v : Fin 128) : b42 0 s (ix4 b 0 h v) =
    (∑ x : Fin 128, s.main_v55_6 (ix4 b h x v) * (b5 0 s (ix4 b 0 h x) * Ideal.exp (b26 0 s (ix4 b 0 h x))))
      + b17 0 s (ix4 b 0 h v) * ∑ x : Fin 128, b5 0 s (ix4 b 0 h x) * Ideal.exp (b26 0 s (ix4 b 0 h x)) * (b11 0 s (ix4 b 0 h x) * Ideal.exp (-b26 0 s (ix4 b 0 h x))) := by
  have hm := mask_at
  unfold b42 b41 b40 b39 b38 b37 b36 b35 b34 b33 b32 b31 b30 b29 b28 b27
  generalize b26 0 s = c
  generalize b11 0 s = d
  generalize b17 0 s = e
  generalize b5 0 s = f
  generalize K_main_v41 (F := Ideal) = w at hm
  pointwise
  simp [hm]
  exact congrArg (_ + ·) (if_pos rfl)
theorem o_at (s : State Ideal) (b : Fin 128) (j : Fin 512) : R_main_v58 (step 0 s) (ix3 b 0 j) = b42 0 s (ix4 b 0 ⟨(j : ℕ) / 128, by omega⟩ ⟨(j : ℕ) % 128, by omega⟩) := by
  unfold R_main_v58
  rw [step_main_v55_7]
  unfold b59 b54 b58 b57 b56 b55
  generalize b42 0 s = c
  pointwise
  simp only [clamp_zero]
  exact dif_pos (by have := b.isLt; have := j.isLt; omega)

/-! ## Closed forms over the arguments -/

/-- The word of minus infinity. -/
theorem litBot : Ideal.ofBits FTy.f32 4286578688#32 = (⊥ : EReal) := by
  simp [Ideal.ofBits, Ideal.ieee]

/-- The largest of a column's two entries. -/
def peak (l : Vec Ideal S2x512 .f32) (j : Fin 512) : EReal := Finset.fold max (⊥ : EReal) (fun x : Fin 2 => l (ix2 x j)) Finset.univ
/-- The lower bound of a column: the first entry of its softmax. -/
def lowAt (l : Vec Ideal S2x512 .f32) (j : Fin 512) : EReal :=
  Ideal.div (Ideal.exp (l (ix2 0 j) - peak l j)) (∑ x : Fin 2, Ideal.exp (l (ix2 x j) - peak l j))
/-- The forget gate. -/
def gateAt (z : Vec Ideal S128x5632 .f32) (l : Vec Ideal S2x512 .f32) (b : Fin 128) (j : Fin 512) : EReal :=
  lowAt l j + (1 - lowAt l j) * Ideal.logistic (z (ix2 b ⟨2048 + (j : ℕ), by omega⟩))
/-- The query: a logistic gate of its own column. -/
def askAt (z : Vec Ideal S128x5632 .f32) (b : Fin 128) (j : Fin 512) : EReal :=
  z (ix2 b ⟨1536 + (j : ℕ), by omega⟩) * Ideal.logistic (z (ix2 b ⟨1536 + (j : ℕ), by omega⟩))
/-- A head's column among all heads'. -/
abbrev col (h : Fin 4) (k : Fin 128) : Fin 512 := ⟨(h : ℕ) * 128 + (k : ℕ), by omega⟩
/-- The value. -/
def valAt (z : Vec Ideal S128x5632 .f32) (b : Fin 128) (j : Fin 512) : EReal := z (ix2 b ⟨2560 + (j : ℕ), by omega⟩)
/-- The new state. -/
def stateAt (s : Vec Ideal S128x4x128x128 .f32) (z : Vec Ideal S128x5632 .f32) (l : Vec Ideal S2x512 .f32) (b : Fin 128) (h : Fin 4) (k v : Fin 128) : EReal :=
  s (ix4 b h k v) * gateAt z l b (col h k) + (1 - gateAt z l b (col h k)) * valAt z b (col h v)
/-- The new output. -/
def outAt (s : Vec Ideal S128x4x128x128 .f32) (z : Vec Ideal S128x5632 .f32) (l : Vec Ideal S2x512 .f32) (b : Fin 128) (h : Fin 4) (v : Fin 128) : EReal :=
  (∑ x : Fin 128, s (ix4 b h x v) * (askAt z b (col h x) * gateAt z l b (col h x)))
    + (∑ x : Fin 128, askAt z b (col h x) * (1 - gateAt z l b (col h x))) * valAt z b (col h v)

theorem low_eq (z : Vec Ideal S128x5632 .f32) (l : Vec Ideal S2x512 .f32) (j : Fin 512) : A_main_v13 (F := Ideal) z l (ix1 j) = lowAt l j := by
  rw [lb_at, soft_apply, litBot, max_bot_left]
  rfl
theorem gate_eq (z : Vec Ideal S128x5632 .f32) (l : Vec Ideal S2x512 .f32) (b : Fin 128) (j : Fin 512) : A_main_v31 (F := Ideal) z l (ix3 b 0 j) = gateAt z l b j := by
  rw [f_at, low_eq]
  rfl

theorem logistic_real (x : EReal) : ∃ s : ℝ, 0 ≤ s ∧ s ≤ 1 ∧ Ideal.logistic x = (s : EReal) := by
  induction x using EReal.rec with
  | bot => exact ⟨0, le_rfl, zero_le_one, Ideal.logistic_bot⟩
  | top => exact ⟨1, zero_le_one, le_rfl, Ideal.logistic_top⟩
  | coe r =>
    have he := Real.exp_pos (-r)
    exact ⟨(1 + Real.exp (-r))⁻¹, by positivity, inv_le_one_of_one_le₀ (by linarith), Ideal.logistic_coe r⟩

theorem peak_real (l : Vec Ideal S2x512 .f32) (hl : ∀ i, ∃ r : ℝ, l i = (r : EReal)) (j : Fin 512) : ∃ r : ℝ, peak l j = (r : EReal) := by
  have h : peak l j = max (l (ix2 0 j)) (l (ix2 1 j)) := by
    unfold peak
    rw [show (Finset.univ : Finset (Fin 2)) = {0, 1} from rfl, Finset.fold_insert (by decide), Finset.fold_singleton, max_bot_right]
  rw [h]
  rcases max_choice (l (ix2 0 j) : EReal) (l (ix2 1 j)) with e | e <;> rw [e] <;> exact hl _

theorem low_real (l : Vec Ideal S2x512 .f32) (hl : ∀ i, ∃ r : ℝ, l i = (r : EReal)) (j : Fin 512) : ∃ p : ℝ, 0 < p ∧ p ≤ 1 ∧ lowAt l j = (p : EReal) := by
  obtain ⟨t, ht⟩ := peak_real l hl j
  obtain ⟨a, ha⟩ := hl (ix2 0 j)
  obtain ⟨b, hb⟩ := hl (ix2 1 j)
  have h0 := Real.exp_pos (a - t)
  have h1 := Real.exp_pos (b - t)
  refine ⟨Real.exp (a - t) * (1 / (Real.exp (a - t) + Real.exp (b - t))), by positivity, ?_, ?_⟩
  · rw [mul_one_div, div_le_one (by positivity)]
    linarith
  · unfold lowAt
    rw [Fin.sum_univ_two, ha, hb, ht, ← EReal.coe_sub, ← EReal.coe_sub, Ideal.exp_coe, Ideal.exp_coe, ← EReal.coe_add, Ideal.div_coe (by positivity), ← EReal.coe_mul]

theorem gate_real (z : Vec Ideal S128x5632 .f32) (l : Vec Ideal S2x512 .f32) (hl : ∀ i, ∃ r : ℝ, l i = (r : EReal)) (b : Fin 128) (j : Fin 512) : ∃ r : ℝ, 0 < r ∧ gateAt z l b j = (r : EReal) := by
  obtain ⟨p, hp, hp1, he⟩ := low_real l hl j
  obtain ⟨s, hs, hs1, hz⟩ := logistic_real (z (ix2 b ⟨2048 + (j : ℕ), by omega⟩))
  refine ⟨p + (1 - p) * s, by nlinarith, ?_⟩
  unfold gateAt
  rw [he, hz, EReal.coe_add, EReal.coe_mul, EReal.coe_sub]
  rfl

theorem exp_log_real {x : EReal} {r : ℝ} (hr : 0 < r) (hx : x = (r : EReal)) :
    Ideal.exp (Ideal.log x) = x ∧ Ideal.exp (Ideal.log x - Ideal.log x) = 1 ∧ x * Ideal.exp (-Ideal.log x) = 1 := by
  have hg : Ideal.log (r : EReal) = ((Real.log r : ℝ) : EReal) := by rw [Ideal.log_coe, if_neg (not_le.mpr hr)]
  subst hx
  refine ⟨?_, ?_, ?_⟩
  · rw [hg, Ideal.exp_coe, Real.exp_log hr]
  · rw [hg, ← EReal.coe_sub, sub_self, Ideal.exp_coe, Real.exp_zero]
    rfl
  · rw [hg, ← EReal.coe_neg, Ideal.exp_coe, Real.exp_neg, Real.exp_log hr, ← EReal.coe_mul, mul_inv_cancel₀ hr.ne']
    rfl

theorem new_state (s : Vec Ideal S128x4x128x128 .f32) (z : Vec Ideal S128x5632 .f32) (l : Vec Ideal S2x512 .f32) (hl : ∀ i, ∃ r : ℝ, l i = (r : EReal)) (b : Fin 128) (h : Fin 4) (k v : Fin 128) :
    (step 0 (init s z l)).main_v55_6 (ix4 b h k v) = stateAt s z l b h k v := by
  have hv3 : (init s z l).main_v55_3 = A_main_v53 (F := Ideal) z l := rfl
  have hv2 : (init s z l).main_v55_2 = A_main_v50 (F := Ideal) z l := rfl
  have hv1 : (init s z l).main_v55_1 = A_main_v47 (F := Ideal) z l := rfl
  have hv6 : (init s z l).main_v55_6 = s := rfl
  rw [step_main_v55_6, b53_at, b26_at, b23_at, b11_at, b17_at, hv1, hv2, hv3, hv6, g_at, k_at, v_at, gate_eq]
  obtain ⟨r, hr, he⟩ := gate_real z l hl b (col h k)
  obtain ⟨e1, e2, _⟩ := exp_log_real hr he
  rw [e1, e2, mul_one]
  rfl

theorem new_out (s : Vec Ideal S128x4x128x128 .f32) (z : Vec Ideal S128x5632 .f32) (l : Vec Ideal S2x512 .f32) (hl : ∀ i, ∃ r : ℝ, l i = (r : EReal)) (b : Fin 128) (h : Fin 4) (v : Fin 128) :
    b42 0 (init s z l) (ix4 b 0 h v) = outAt s z l b h v := by
  have hv3 : (init s z l).main_v55_3 = A_main_v53 (F := Ideal) z l := rfl
  have hv2 : (init s z l).main_v55_2 = A_main_v50 (F := Ideal) z l := rfl
  have hv1 : (init s z l).main_v55_1 = A_main_v47 (F := Ideal) z l := rfl
  have hv0 : (init s z l).main_v55_0 = A_main_v44 (F := Ideal) z l := rfl
  have hv6 : (init s z l).main_v55_6 = s := rfl
  have hq : ∀ x : Fin 128, A_main_v44 (F := Ideal) z l (ix5 0 b 0 h x) = askAt z b (col h x) := fun x => q_at z l b h x
  have hg : ∀ x : Fin 128, A_main_v53 (F := Ideal) z l (ix5 0 b 0 h x) = Ideal.log (gateAt z l b (col h x)) := fun x => by rw [g_at, gate_eq]
  have hk : ∀ x : Fin 128, A_main_v47 (F := Ideal) z l (ix5 0 b 0 h x) = 1 - gateAt z l b (col h x) := fun x => by rw [k_at, gate_eq]
  rw [b42_at]
  unfold outAt
  rw [b17_at, hv2, v_at, mul_comm]
  refine congrArg₂ (· + ·) (Finset.sum_congr rfl fun x _ => ?_) (congrArg (· * _) (Finset.sum_congr rfl fun x _ => ?_))
  · obtain ⟨r, hr, he⟩ := gate_real z l hl b (col h x)
    obtain ⟨e1, _, _⟩ := exp_log_real hr he
    rw [b26_at, b23_at, b5_at, hv0, hv3, hv6, hq, hg, e1]
  · obtain ⟨r, hr, he⟩ := gate_real z l hl b (col h x)
    obtain ⟨e1, _, e3⟩ := exp_log_real hr he
    rw [b26_at, b23_at, b5_at, b11_at, hv0, hv1, hv3, hq, hg, hk, e1, mul_mul_mul_comm, e3, mul_one]

theorem new_out_at (s : Vec Ideal S128x4x128x128 .f32) (z : Vec Ideal S128x5632 .f32) (l : Vec Ideal S2x512 .f32) (hl : ∀ i, ∃ r : ℝ, l i = (r : EReal)) (b : Fin 128) (j : Fin 512) :
    R_main_v58 (step 0 (init s z l)) (ix3 b 0 j) = outAt s z l b ⟨(j : ℕ) / 128, by omega⟩ ⟨(j : ℕ) % 128, by omega⟩ := by
  rw [o_at, new_out s z l hl]

end Cert.Reference4Ideal.Step
end
-- ==== Proof.Sample.lean ====
module

public import proofs.«01_k».proof.Defs
public import proofs.«01_k».proof.Proof.SampleRef
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The columns that a head multiplies its state's rows by. -/
def colsOf (q f : Vec Ideal S1x1x128 .f32) (l : Vec Ideal S2x128 .f32) : FVec Ideal S128x8 .f32 :=
  k0_pay15 (k0_pay5 (F := Ideal)) (k0_pay6 f l) k0_pay10 (k0_pay11 q f l) k0_pay12 k0_pay13 (Scalar.ofBits .f32 0x00000000#32) (k0_pay14 f l)
/-- A head's new state, of its columns and its block of the state. -/
def stateOf (q f i : Vec Ideal S1x1x128 .f32) (l : Vec Ideal S2x128 .f32) (s : Vec Ideal S1x1x128x128 .f32) : FVec Ideal S1x1x128x128 .f32 :=
  k0_pay18 (k0_pay5 (F := Ideal)) (k0_pay6 f l) (k0_pay9 i) k0_pay10 (k0_pay11 q f l) k0_pay12 k0_pay13 (Scalar.ofBits .f32 0x00000000#32) (k0_pay14 f l) s
/-- A head's output. -/
def outOf (q f i : Vec Ideal S1x1x128 .f32) (l : Vec Ideal S2x128 .f32) (s : Vec Ideal S1x1x128x128 .f32) : FVec Ideal S1x128 .f32 :=
  k0_pay17 (k0_pay5 (F := Ideal)) (k0_pay6 f l) (k0_pay7 q) (k0_pay8 f l) (k0_pay9 i) k0_pay10 (k0_pay11 q f l) k0_pay12 k0_pay13 (Scalar.ofBits .f32 0x00000000#32) (k0_pay14 f l) s

section
variable (x0 x1 x2 : Vec Ideal S1x1x512 .f32) (x3 : Vec Ideal S2x512 .f32) (x4 : Vec Ideal S1x4x128x128 .f32)

theorem out6_eq : out0_6 x0 x1 x2 x3 x4 = View.canon
    [⟨r0_11, stateOf (View.ld x0 r0_9) (View.ld x1 r0_9) (View.ld x2 r0_9) (View.ld x3 r0_10) (View.ld x4 r0_11)⟩,
     ⟨r0_8, stateOf (View.ld x0 r0_6) (View.ld x1 r0_6) (View.ld x2 r0_6) (View.ld x3 r0_7) (View.ld x4 r0_8)⟩,
     ⟨r0_5, stateOf (View.ld x0 r0_3) (View.ld x1 r0_3) (View.ld x2 r0_3) (View.ld x3 r0_4) (View.ld x4 r0_5)⟩,
     ⟨r0_2, stateOf (View.ld x0 r0_0) (View.ld x1 r0_0) (View.ld x2 r0_0) (View.ld x3 r0_1) (View.ld x4 r0_2)⟩] := by
  rfl

end

/-- The lower bound of a head's column. -/
def lowOf (l : Vec Ideal S2x128 .f32) (d : Fin 128) : EReal :=
  Ideal.div (Ideal.exp (l (ix2 0 d) - Finset.fold max (⊥ : EReal) (fun x : Fin 2 => l (ix2 x d)) Finset.univ))
    (∑ x : Fin 2, Ideal.exp (l (ix2 x d) - Finset.fold max (⊥ : EReal) (fun x : Fin 2 => l (ix2 x d)) Finset.univ))

/-- The forget gate. -/
theorem pay6_apply (f : Vec Ideal S1x1x128 .f32) (l : Vec Ideal S2x128 .f32) (d : Fin 128) : k0_pay6 (F := Ideal) f l (ix2 0 d) =
    lowOf l d + (1 - lowOf l d) * Ideal.logistic (f (ix3 0 0 d)) := by
  unfold k0_pay6 lowOf
  pointwise
  rw [Cert.Reference4Ideal.Step.litBot]
theorem bit_eq : ∀ k d : Fin 128, IntOp.cmpi CmpIPredicate.eq (BitVec.ofNat 32 (k : ℕ)) (BitVec.ofNat 32 (d : ℕ)) = if k = d then 1#1 else 0#1 := by
  intro k d
  by_cases h : k = d
  · subst h
    rw [if_pos rfl]
    simp [IntOp.cmpi]
  · rw [if_neg h]
    have hk : BitVec.ofNat 32 (k : ℕ) ≠ BitVec.ofNat 32 (d : ℕ) := fun e => h (Fin.ext (by
      have := congrArg BitVec.toNat e
      rw [BitVec.toNat_ofNat, BitVec.toNat_ofNat, Nat.mod_eq_of_lt (by omega), Nat.mod_eq_of_lt (by omega)] at this
      exact this))
    have hb : (BitVec.ofNat 32 (k : ℕ) == BitVec.ofNat 32 (d : ℕ)) = false := beq_eq_false_iff_ne.mpr hk
    show BitVec.ofBool (BitVec.ofNat 32 (k : ℕ) == BitVec.ofNat 32 (d : ℕ)) = 0#1
    rw [hb]
    rfl
theorem pay5_apply (k d : Fin 128) : k0_pay5 (F := Ideal) (ix2 k d) = (if k = d then 1 else 0 : EReal) := by
  unfold k0_pay5
  pointwise
  rw [bit_eq]
  by_cases h : k = d
  · rw [if_pos h, if_pos h]
    show ((((1#1 : BitVec 1).setWidth 32).toInt : ℝ) : EReal) = 1
    simp
  · rw [if_neg h, if_neg h]
    show ((((0#1 : BitVec 1).setWidth 32).toInt : ℝ) : EReal) = 0
    simp
theorem eye_sum (g : Fin 128 → EReal) (k : Fin 128) : ∑ x : Fin 128, (k0_pay5 (F := Ideal) (ix2 k x) : EReal) * g x = g k := by
  simp [pay5_apply, ite_mul]
theorem cols0 (q f : Vec Ideal S1x1x128 .f32) (l : Vec Ideal S2x128 .f32) (k : Fin 128) : colsOf q f l (ix2 k 0) = q (ix3 0 0 k) * Ideal.logistic (q (ix3 0 0 k)) * k0_pay6 f l (ix2 0 k) := by
  have he := eye_sum (fun x => q (ix3 0 0 x) * Ideal.logistic (q (ix3 0 0 x)) * k0_pay6 f l (ix2 0 x)) k
  rw [← he]
  unfold colsOf k0_pay15 k0_pay10 k0_pay12 k0_pay13 k0_pay14 k0_pay11 k0_pay8 k0_pay7
  generalize k0_pay5 (F := Ideal) = e
  generalize k0_pay6 f l = g
  pointwise
theorem cols1 (q f : Vec Ideal S1x1x128 .f32) (l : Vec Ideal S2x128 .f32) (k : Fin 128) : colsOf q f l (ix2 k 1) = k0_pay6 f l (ix2 0 k) := by
  have he := eye_sum (fun x => k0_pay6 f l (ix2 0 x)) k
  rw [← he]
  unfold colsOf k0_pay15 k0_pay10 k0_pay12 k0_pay13 k0_pay14 k0_pay11 k0_pay8 k0_pay7
  generalize k0_pay5 (F := Ideal) = e
  generalize k0_pay6 f l = g
  pointwise
  exact Finset.sum_congr rfl fun x _ => congrArg (e (ix2 k x) * ·) (if_neg (by decide))
theorem cols2 (q f : Vec Ideal S1x1x128 .f32) (l : Vec Ideal S2x128 .f32) (k : Fin 128) : colsOf q f l (ix2 k 2) = 1 - k0_pay6 f l (ix2 0 k) := by
  have he := eye_sum (fun x => 1 - k0_pay6 f l (ix2 0 x)) k
  rw [← he]
  unfold colsOf k0_pay15 k0_pay10 k0_pay12 k0_pay13 k0_pay14 k0_pay11 k0_pay8 k0_pay7
  generalize k0_pay5 (F := Ideal) = e
  generalize k0_pay6 f l = g
  pointwise
  exact Finset.sum_congr rfl fun x _ => congrArg (e (ix2 k x) * ·) ((if_neg (by decide)).trans (if_neg (by decide)))
theorem state_apply (q f i : Vec Ideal S1x1x128 .f32) (l : Vec Ideal S2x128 .f32) (s : Vec Ideal S1x1x128x128 .f32) (k v : Fin 128) : stateOf q f i l s (ix4 0 0 k v) =
    s (ix4 0 0 k v) * k0_pay6 f l (ix2 0 k) + (1 - k0_pay6 f l (ix2 0 k)) * i (ix3 0 0 v) := by
  rw [← cols2 q f l k, ← cols1 q f l k]
  unfold stateOf k0_pay18 k0_pay16 k0_pay9
  rw [show k0_pay15 (k0_pay5 (F := Ideal)) (k0_pay6 f l) k0_pay10 (k0_pay11 q f l) k0_pay12 k0_pay13 (Scalar.ofBits .f32 0x00000000#32) (k0_pay14 f l) = colsOf q f l from rfl]
  generalize colsOf q f l = e
  pointwise
theorem out_apply (q f i : Vec Ideal S1x1x128 .f32) (l : Vec Ideal S2x128 .f32) (s : Vec Ideal S1x1x128x128 .f32) (v : Fin 128) : outOf q f i l s (ix2 0 v) =
    (∑ x : Fin 128, s (ix4 0 0 x v) * (q (ix3 0 0 x) * Ideal.logistic (q (ix3 0 0 x)) * k0_pay6 f l (ix2 0 x)))
      + (∑ x : Fin 128, q (ix3 0 0 x) * Ideal.logistic (q (ix3 0 0 x)) * (1 - k0_pay6 f l (ix2 0 x))) * i (ix3 0 0 v) := by
  rw [Finset.sum_congr rfl fun x _ => by rw [← cols0 q f l x]]
  unfold outOf k0_pay17 k0_pay16 k0_pay9 k0_pay8 k0_pay7
  rw [show k0_pay15 (k0_pay5 (F := Ideal)) (k0_pay6 f l) k0_pay10 (k0_pay11 q f l) k0_pay12 k0_pay13 (Scalar.ofBits .f32 0x00000000#32) (k0_pay14 f l) = colsOf q f l from rfl]
  generalize colsOf q f l = e
  generalize k0_pay6 f l = g
  pointwise

open Cert.Reference4Ideal.Step (lowAt peak litBot col gateAt askAt valAt stateAt outAt)

/-- The heads' outputs, side by side. -/
def outs (a b c d : FVec Ideal S1x128 .f32) : FVec Ideal S1x1x512 .f32 :=
  shapeCast S1x1x512 (concatenate S1x512 1 [⟨S1x128, a⟩, ⟨S1x128, b⟩, ⟨S1x128, c⟩, ⟨S1x128, d⟩] concatenates_S1x128_S1x128_S1x128_S1x128_S1x512_d1) shapeCasts_S1x512_S1x1x512

section
variable (x0 x1 x2 : Vec Ideal S1x1x512 .f32) (x3 : Vec Ideal S2x512 .f32) (x4 : Vec Ideal S1x4x128x128 .f32)

theorem out5_eq : out0_5 x0 x1 x2 x3 x4 = View.canon [⟨r0_12, outs
    (outOf (View.ld x0 r0_0) (View.ld x1 r0_0) (View.ld x2 r0_0) (View.ld x3 r0_1) (View.ld x4 r0_2))
    (outOf (View.ld x0 r0_3) (View.ld x1 r0_3) (View.ld x2 r0_3) (View.ld x3 r0_4) (View.ld x4 r0_5))
    (outOf (View.ld x0 r0_6) (View.ld x1 r0_6) (View.ld x2 r0_6) (View.ld x3 r0_7) (View.ld x4 r0_8))
    (outOf (View.ld x0 r0_9) (View.ld x1 r0_9) (View.ld x2 r0_9) (View.ld x3 r0_10) (View.ld x4 r0_11))⟩] := by
  rfl

/-- A block's forget gate. -/
def gateB (x1 : Vec Ideal S1x1x512 .f32) (x3 : Vec Ideal S2x512 .f32) (j : Fin 512) : EReal := lowAt x3 j + (1 - lowAt x3 j) * Ideal.logistic (x1 (ix3 0 0 j))
/-- A block's query. -/
def askB (x0 : Vec Ideal S1x1x512 .f32) (j : Fin 512) : EReal := x0 (ix3 0 0 j) * Ideal.logistic (x0 (ix3 0 0 j))

theorem low_head (l : Vec Ideal S2x128 .f32) (h : Fin 4) (hl : ∀ a k, l (ix2 a k) = x3 (ix2 a (col h k))) (k : Fin 128) : lowOf l k = lowAt x3 (col h k) := by
  unfold lowOf lowAt peak
  simp only [hl]

theorem gate_head (f : Vec Ideal S1x1x128 .f32) (l : Vec Ideal S2x128 .f32) (h : Fin 4) (hf : ∀ k, f (ix3 0 0 k) = x1 (ix3 0 0 (col h k)))
    (hl : ∀ a k, l (ix2 a k) = x3 (ix2 a (col h k))) (k : Fin 128) : k0_pay6 (F := Ideal) f l (ix2 0 k) = gateB x1 x3 (col h k) := by
  rw [pay6_apply, hf, low_head x3 l h hl]
  rfl

theorem state_head (q f i : Vec Ideal S1x1x128 .f32) (l : Vec Ideal S2x128 .f32) (s : Vec Ideal S1x1x128x128 .f32) (h : Fin 4)
    (hf : ∀ k, f (ix3 0 0 k) = x1 (ix3 0 0 (col h k))) (hi : ∀ k, i (ix3 0 0 k) = x2 (ix3 0 0 (col h k)))
    (hl : ∀ a k, l (ix2 a k) = x3 (ix2 a (col h k))) (hs : ∀ k v, s (ix4 0 0 k v) = x4 (ix4 0 h k v)) (k v : Fin 128) :
    stateOf q f i l s (ix4 0 0 k v) = x4 (ix4 0 h k v) * gateB x1 x3 (col h k) + (1 - gateB x1 x3 (col h k)) * x2 (ix3 0 0 (col h v)) := by
  rw [state_apply, gate_head x1 x3 f l h hf hl, hs, hi]

theorem out_head (q f i : Vec Ideal S1x1x128 .f32) (l : Vec Ideal S2x128 .f32) (s : Vec Ideal S1x1x128x128 .f32) (h : Fin 4)
    (hq : ∀ k, q (ix3 0 0 k) = x0 (ix3 0 0 (col h k)))
    (hf : ∀ k, f (ix3 0 0 k) = x1 (ix3 0 0 (col h k))) (hi : ∀ k, i (ix3 0 0 k) = x2 (ix3 0 0 (col h k)))
    (hl : ∀ a k, l (ix2 a k) = x3 (ix2 a (col h k))) (hs : ∀ k v, s (ix4 0 0 k v) = x4 (ix4 0 h k v)) (v : Fin 128) :
    outOf q f i l s (ix2 0 v) = (∑ x : Fin 128, x4 (ix4 0 h x v) * (askB x0 (col h x) * gateB x1 x3 (col h x)))
      + (∑ x : Fin 128, askB x0 (col h x) * (1 - gateB x1 x3 (col h x))) * x2 (ix3 0 0 (col h v)) := by
  rw [out_apply, hi]
  refine congrArg₂ (· + ·) (Finset.sum_congr rfl fun x _ => ?_) (congrArg (· * _) (Finset.sum_congr rfl fun x _ => ?_))
  · rw [gate_head x1 x3 f l h hf hl, hs, hq]
    rfl
  · rw [gate_head x1 x3 f l h hf hl, hq]
    rfl

theorem at_col (x : Vec Ideal S1x1x512 .f32) (h : Fin 4) (k : Fin 128) (n : ℕ) (hn : n < 512) (e : n = (h : ℕ) * 128 + k) : x (ix3 0 0 ⟨n, hn⟩) = x (ix3 0 0 (col h k)) := by
  subst e
  rfl
theorem at_row (x : Vec Ideal S2x512 .f32) (a : Fin 2) (h : Fin 4) (k : Fin 128) (n : ℕ) (hn : n < 512) (e : n = (h : ℕ) * 128 + k) : x (ix2 a ⟨n, hn⟩) = x (ix2 a (col h k)) := by
  subst e
  rfl

theorem outs_apply (a b c d : FVec Ideal S1x128 .f32) (h : Fin 4) (v : Fin 128) : outs a b c d (ix3 0 0 (col h v)) = (![a, b, c, d] : Fin 4 → FVec Ideal S1x128 .f32) h (ix2 0 v) := by
  unfold outs
  pointwise
  rcases h with ⟨h, hh⟩
  interval_cases h
  all_goals simp
  · have h0 : ¬ 256 + (v : ℕ) < 128 := by omega
    have h1 : ¬ 256 + (v : ℕ) - 128 < 128 := by omega
    have h2 : 256 + (v : ℕ) - 128 - 128 < 128 := by omega
    rw [dif_neg h0, dif_neg h1, dif_pos h2]
    exact congrArg (fun j : Fin 128 => c (ix2 0 j)) (Fin.ext (by show 256 + (v : ℕ) - 128 - 128 = v; omega))
  · have h0 : ¬ 384 + (v : ℕ) < 128 := by omega
    have h1 : ¬ 384 + (v : ℕ) - 128 < 128 := by omega
    have h2 : ¬ 384 + (v : ℕ) - 128 - 128 < 128 := by omega
    rw [dif_neg h0, dif_neg h1, dif_neg h2]
    exact congrArg (fun j : Fin 128 => d (ix2 0 j)) (Fin.ext (by show 384 + (v : ℕ) - 128 - 128 - 128 = v; omega))

theorem idx_eq (x : S1x1x128x128.Idx) (k v : Fin 128) (h0 : (x 0 : ℕ) < 1) (h1 : (x 1 : ℕ) < 1) (h2 : (x 2 : ℕ) = k) (h3 : (x 3 : ℕ) = v) : x = ix4 0 0 k v := by
  funext a
  fin_cases a
  · exact Fin.ext (by simpa using h0)
  · exact Fin.ext (by simpa using h1)
  · exact Fin.ext h2
  · exact Fin.ext h3

theorem out6_at (h : Fin 4) (y : S1x4x128x128.Idx) (hy : (y 1 : ℕ) = h) (k v : Fin 128) (hk : (y 2 : ℕ) = k) (hv : (y 3 : ℕ) = v) : out0_6 x0 x1 x2 x3 x4 y =
    x4 (ix4 0 h k v) * gateB x1 x3 (col h k) + (1 - gateB x1 x3 (col h k)) * x2 (ix3 0 0 (col h v)) := by
  rw [out6_eq]
  canon_tiles x e
  case piece0 =>
    rw [idx_eq x k v x0_lt x1_lt (e2.symm.trans hk) (e3.symm.trans hv)]
    obtain rfl : h = 3 := Fin.ext (by show (h : ℕ) = 3; omega)
    refine state_head x1 x2 x3 x4 _ _ _ _ _ 3 (fun k => ?_) (fun k => ?_) (fun a k => ?_) (fun k v => ?_) k v
    · pointwise <;> exact at_col _ 3 _ _ _ (by first | rfl | simp)
    · pointwise <;> exact at_col _ 3 _ _ _ (by first | rfl | simp)
    · pointwise <;> exact at_row _ _ 3 _ _ _ (by first | rfl | simp)
    · pointwise
  case piece1 =>
    rw [idx_eq x k v x0_lt x1_lt (e2.symm.trans hk) (e3.symm.trans hv)]
    obtain rfl : h = 2 := Fin.ext (by show (h : ℕ) = 2; omega)
    refine state_head x1 x2 x3 x4 _ _ _ _ _ 2 (fun k => ?_) (fun k => ?_) (fun a k => ?_) (fun k v => ?_) k v
    · pointwise <;> exact at_col _ 2 _ _ _ (by first | rfl | simp)
    · pointwise <;> exact at_col _ 2 _ _ _ (by first | rfl | simp)
    · pointwise <;> exact at_row _ _ 2 _ _ _ (by first | rfl | simp)
    · pointwise
  case piece2 =>
    rw [idx_eq x k v x0_lt x1_lt (e2.symm.trans hk) (e3.symm.trans hv)]
    obtain rfl : h = 1 := Fin.ext (by show (h : ℕ) = 1; omega)
    refine state_head x1 x2 x3 x4 _ _ _ _ _ 1 (fun k => ?_) (fun k => ?_) (fun a k => ?_) (fun k v => ?_) k v
    · pointwise <;> exact at_col _ 1 _ _ _ (by first | rfl | simp)
    · pointwise <;> exact at_col _ 1 _ _ _ (by first | rfl | simp)
    · pointwise <;> exact at_row _ _ 1 _ _ _ (by first | rfl | simp)
    · pointwise
  case piece3 =>
    rw [idx_eq x k v x0_lt x1_lt (e2.symm.trans hk) (e3.symm.trans hv)]
    obtain rfl : h = 0 := Fin.ext (by show (h : ℕ) = 0; omega)
    refine state_head x1 x2 x3 x4 _ _ _ _ _ 0 (fun k => ?_) (fun k => ?_) (fun a k => ?_) (fun k v => ?_) k v
    · pointwise <;> exact at_col _ 0 _ _ _ (by first | rfl | simp)
    · pointwise <;> exact at_col _ 0 _ _ _ (by first | rfl | simp)
    · pointwise <;> exact at_row _ _ 0 _ _ _ (by first | rfl | simp)
    · pointwise

theorem out5_at (h : Fin 4) (v : Fin 128) (y : S1x1x512.Idx) (hy : (y 2 : ℕ) = h * 128 + v) : out0_5 x0 x1 x2 x3 x4 y =
    (∑ x : Fin 128, x4 (ix4 0 h x v) * (askB x0 (col h x) * gateB x1 x3 (col h x)))
      + (∑ x : Fin 128, askB x0 (col h x) * (1 - gateB x1 x3 (col h x))) * x2 (ix3 0 0 (col h v)) := by
  rw [out5_eq]
  canon_tiles x e
  case piece0 =>
    have hx : x = ix3 0 0 (col h v) := by
      funext a
      fin_cases a
      · exact Fin.ext (by simpa using x0_lt)
      · exact Fin.ext (by simpa using x1_lt)
      · exact Fin.ext (e2.symm.trans hy)
    rw [hx, outs_apply]
    fin_cases h
    · refine out_head x0 x1 x2 x3 x4 _ _ _ _ _ 0 (fun k => ?_) (fun k => ?_) (fun k => ?_) (fun a k => ?_) (fun k v => ?_) v
      · pointwise <;> exact at_col _ 0 _ _ _ (by first | rfl | simp)
      · pointwise <;> exact at_col _ 0 _ _ _ (by first | rfl | simp)
      · pointwise <;> exact at_col _ 0 _ _ _ (by first | rfl | simp)
      · pointwise <;> exact at_row _ _ 0 _ _ _ (by first | rfl | simp)
      · pointwise
    · refine out_head x0 x1 x2 x3 x4 _ _ _ _ _ 1 (fun k => ?_) (fun k => ?_) (fun k => ?_) (fun a k => ?_) (fun k v => ?_) v
      · pointwise <;> exact at_col _ 1 _ _ _ (by first | rfl | simp)
      · pointwise <;> exact at_col _ 1 _ _ _ (by first | rfl | simp)
      · pointwise <;> exact at_col _ 1 _ _ _ (by first | rfl | simp)
      · pointwise <;> exact at_row _ _ 1 _ _ _ (by first | rfl | simp)
      · pointwise
    · refine out_head x0 x1 x2 x3 x4 _ _ _ _ _ 2 (fun k => ?_) (fun k => ?_) (fun k => ?_) (fun a k => ?_) (fun k v => ?_) v
      · pointwise <;> exact at_col _ 2 _ _ _ (by first | rfl | simp)
      · pointwise <;> exact at_col _ 2 _ _ _ (by first | rfl | simp)
      · pointwise <;> exact at_col _ 2 _ _ _ (by first | rfl | simp)
      · pointwise <;> exact at_row _ _ 2 _ _ _ (by first | rfl | simp)
      · pointwise
    · refine out_head x0 x1 x2 x3 x4 _ _ _ _ _ 3 (fun k => ?_) (fun k => ?_) (fun k => ?_) (fun a k => ?_) (fun k v => ?_) v
      · pointwise <;> exact at_col _ 3 _ _ _ (by first | rfl | simp)
      · pointwise <;> exact at_col _ 3 _ _ _ (by first | rfl | simp)
      · pointwise <;> exact at_col _ 3 _ _ _ (by first | rfl | simp)
      · pointwise <;> exact at_row _ _ 3 _ _ _ (by first | rfl | simp)
      · pointwise
end

/-- The grid's step is the row. -/
theorem idx : ∀ t : Fin cfg0.N,
    (win0_0.index t 0 = (t : ℕ) ∧ win0_0.index t 1 = 0 ∧ win0_0.index t 2 = 3)
    ∧ (win0_1.index t 0 = (t : ℕ) ∧ win0_1.index t 1 = 0 ∧ win0_1.index t 2 = 4)
    ∧ (win0_2.index t 0 = (t : ℕ) ∧ win0_2.index t 1 = 0 ∧ win0_2.index t 2 = 5)
    ∧ (win0_3.index t 0 = 0 ∧ win0_3.index t 1 = 0)
    ∧ (win0_4.index t 0 = (t : ℕ) ∧ win0_4.index t 1 = 0 ∧ win0_4.index t 2 = 0 ∧ win0_4.index t 3 = 0)
    ∧ (win0_5.index t 0 = (t : ℕ) ∧ win0_5.index t 1 = 0 ∧ win0_5.index t 2 = 0)
    ∧ (win0_6.index t 0 = (t : ℕ) ∧ win0_6.index t 1 = 0 ∧ win0_6.index t 2 = 0 ∧ win0_6.index t 3 = 0) :=
  (by decide +kernel : ∀ t : Fin grid0.N, _)

/-- A step's row. -/
def row (t : Fin cfg0.N) : Fin 128 := ⟨(t : ℕ), by have := t.isLt; have : cfg0.N = 128 := rfl; omega⟩

section
variable (c : Dev nD) (t : Fin cfg0.N)

theorem V_v0 : V m c main_v0 = shapeCast S128x1x5632 (m ((c : Thread nD τ).loc main_arg0)) shapeCasts_S128x5632_S128x1x5632 := by
  rfl
theorem cast0 (x0 : Vec Ideal S128x5632 .f32) (b : Fin 128) (j : Fin 5632) : shapeCast S128x1x5632 x0 shapeCasts_S128x5632_S128x1x5632 (ix3 b 0 j) = x0 (ix2 b j) := by
  pointwise
theorem rd0 (j : Fin 512) : iblk m c 0 t (ix3 0 0 j) = m ((c : Thread nD τ).loc main_arg0) (ix2 (row t) ⟨1536 + (j : ℕ), by omega⟩) := by
  have hi : ((View.whole main_v0).slice (win0_0.rect t)).emb (ix3 0 0 j) = ix3 (row t) 0 ⟨1536 + (j : ℕ), by omega⟩ := by blk_ext [row, idx t]
  refine (congrArg (V m c main_v0) hi).trans ?_
  rw [V_v0]
  exact cast0 _ _ _
theorem rd1 (j : Fin 512) : iblk m c 1 t (ix3 0 0 j) = m ((c : Thread nD τ).loc main_arg0) (ix2 (row t) ⟨2048 + (j : ℕ), by omega⟩) := by
  have hi : ((View.whole main_v0).slice (win0_1.rect t)).emb (ix3 0 0 j) = ix3 (row t) 0 ⟨2048 + (j : ℕ), by omega⟩ := by blk_ext [row, idx t]
  refine (congrArg (V m c main_v0) hi).trans ?_
  rw [V_v0]
  exact cast0 _ _ _
theorem rd2 (j : Fin 512) : iblk m c 2 t (ix3 0 0 j) = m ((c : Thread nD τ).loc main_arg0) (ix2 (row t) ⟨2560 + (j : ℕ), by omega⟩) := by
  have hi : ((View.whole main_v0).slice (win0_2.rect t)).emb (ix3 0 0 j) = ix3 (row t) 0 ⟨2560 + (j : ℕ), by omega⟩ := by blk_ext [row, idx t]
  refine (congrArg (V m c main_v0) hi).trans ?_
  rw [V_v0]
  exact cast0 _ _ _
theorem rd3 (a : Fin 2) (j : Fin 512) : iblk m c 3 t (ix2 a j) = m ((c : Thread nD τ).loc main_arg1) (ix2 a j) := by
  blk_ext! [iblk, V, idx t]
theorem rd4 (h : Fin 4) (k v : Fin 128) : iblk m c 4 t (ix4 0 h k v) = m ((c : Thread nD τ).loc main_arg2) (ix4 (row t) h k v) := by
  blk_ext! [iblk, V, row, idx t]

theorem low_blk (j : Fin 512) : lowAt (iblk m c 3 t) j = lowAt (m ((c : Thread nD τ).loc main_arg1)) j := by
  unfold lowAt peak
  simp only [rd3]
theorem gate_blk (j : Fin 512) : gateB (iblk m c 1 t) (iblk m c 3 t) j = gateAt (m ((c : Thread nD τ).loc main_arg0)) (m ((c : Thread nD τ).loc main_arg1)) (row t) j := by
  unfold gateB gateAt
  rw [low_blk, rd1]
theorem ask_blk (j : Fin 512) : askB (iblk m c 0 t) j = askAt (m ((c : Thread nD τ).loc main_arg0)) (row t) j := by
  unfold askB askAt
  rw [rd0]
end

/-- The state that the kernel leaves. -/
theorem final6_of (c : Dev nD) (G : Vec Ideal S128x4x128x128 .f32)
    (hG : ∀ (b : Fin 128) (h : Fin 4) (k v : Fin 128), G (ix4 b h k v) = stateAt (m ((c : Thread nD τ).loc main_arg2)) (m ((c : Thread nD τ).loc main_arg0)) (m ((c : Thread nD τ).loc main_arg1)) b h k v) :
    (dats m 0 c).arrAt 6 cfg0.N = G := by
  refine (dats m 0 c).arrAt_eq_of_covers 6 _ (by decide +kernel) fun t hf y => ?_
  blk_simp
  rw [after0_6]
  idx_vars y
  have hi : ((View.whole main_v1_1).slice (win0_6.rect t)).emb (ix4 y0 y1 y2 y3) = ix4 (row t) y1 y2 y3 := by
    blk_ext [row, idx t]
  rw [hi, hG]
  refine (out6_at _ _ _ _ _ y1 _ rfl y2 y3 rfl rfl).trans ?_
  rw [gate_blk, rd4, rd2]
  rfl

/-- The output that the kernel leaves. -/
theorem final5_of (c : Dev nD) (G : Vec Ideal S128x1x512 .f32)
    (hG : ∀ (b : Fin 128) (j : Fin 512), G (ix3 b 0 j) = outAt (m ((c : Thread nD τ).loc main_arg2)) (m ((c : Thread nD τ).loc main_arg0)) (m ((c : Thread nD τ).loc main_arg1)) b ⟨(j : ℕ) / 128, by omega⟩ ⟨(j : ℕ) % 128, by omega⟩) :
    (dats m 0 c).arrAt 5 cfg0.N = G := by
  refine (dats m 0 c).arrAt_eq_of_covers 5 _ (by decide +kernel) fun t hf y => ?_
  blk_simp
  rw [after0_5]
  idx_vars y
  have hi : ((View.whole main_v1_0).slice (win0_5.rect t)).emb (ix3 y0 y1 y2) = ix3 (row t) 0 y2 := by
    blk_ext [row, idx t]
  rw [hi, hG]
  refine (out5_at _ _ _ _ _ ⟨(y2 : ℕ) / 128, by omega⟩ ⟨(y2 : ℕ) % 128, by omega⟩ _ (by show (y2 : ℕ) = (y2 : ℕ) / 128 * 128 + (y2 : ℕ) % 128; omega)).trans ?_
  unfold outAt
  rw [rd2]
  refine congrArg₂ (· + ·) (Finset.sum_congr rfl fun x _ => ?_) (congrArg (· * _) (Finset.sum_congr rfl fun x _ => ?_))
  · rw [gate_blk, ask_blk, rd4]
  · rw [gate_blk, ask_blk]

end Cert.Kernel4Ideal.Value
end
-- ==== Proof.SampleClaim.lean ====
module

public import proofs.«01_k».proof.Proof.Sample
public import proofs.«01_k».proof.Proof.Gen.Pre_lower_bound_finite
public import Idealize.ShloMosaic.Adequacy

@[expose] public section

set_option maxRecDepth 16384

noncomputable section

namespace Cert.SampleClaim

open Idealize.ShloMosaic Idealize.ShloMosaic.TcCoe Idealize.SL.Sem
open Cert.Reference4Ideal.Step (new_state new_out_at)
open Cert.Kernel4Ideal.Value (final5_of final6_of)

/-- The reference terminates, leaves its arguments and has no counters. -/
theorem frame : Cert.quiescent_Reference4Ideal := fun m ρ _ =>
  (θ_run Cert.Reference4Ideal.defs _ _).mono
    (fun r h => ⟨fun c => (h c).2.2, sem_eq_zero_of_no_sems (by decide) r.2⟩) (Cert.Reference4Ideal.Trips.run_states m ρ)

/-- An array that less itself is zero everywhere holds real numbers. -/
theorem real_of_finite {s : Shape} (a z : FVec Ideal s .f32) (hz : ∀ i : s.Idx, z i = Ideal.ofBits FTy.f32 0x00000000#32)
    (he : cmpf (F := Ideal) .oeq (subf (F := Ideal) a a) z = fun _ => 1#1) (i : s.Idx) : ∃ r : ℝ, (a i : EReal) = (r : EReal) := by
  have hi : Ideal.cmp .oeq ((a i : EReal) - (a i : EReal)) (z i) = 1#1 := congrFun he i
  rw [hz i, Ideal.ofBits_zero_f32] at hi
  unfold Ideal.cmp at hi
  by_cases h : (a i : EReal) - a i = 0
  · generalize (a i : EReal) = x at h
    induction x using EReal.rec with
    | bot => simp at h
    | top => simp at h
    | coe r => exact ⟨r, rfl⟩
  · have hj : BitVec.ofBool (decide (a i - a i = 0)) = 1#1 := hi
    rw [decide_eq_false h] at hj
    exact absurd hj (by decide)

/-- The kernel's output and state are the reference's, for a finite lower bound parameter. -/
theorem algebraic : Cert.algebraic_Kernel4Ideal_Reference4Ideal_pre_lower_bound_finite := by
  intro m g m' g' hp he
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N, Cert.Kernel4Ideal.Value.run_blocks m g, ?_⟩
  refine (θ_run _ _ _).mono (fun r h c => ?_) (Cert.Reference4Ideal.Trips.run_states m' g')
  obtain ⟨h0, h1, h2⟩ := he c
  obtain ⟨hv, hw, hrest⟩ := h c
  have hl := real_of_finite _ _ (fun _ => rfl) (hp c)
  refine ⟨hv.trans ?_, hw.trans ?_, hrest⟩
  · refine (final5_of m c _ fun b j => ?_).symm
    show Cert.Reference4Ideal.Step.R_main_v58 (Cert.Reference4Ideal.Step.step 0 (Cert.Reference4Ideal.Step.init _ _ _)) _ = _
    rw [h0, h1, h2]
    exact new_out_at _ _ _ hl b j
  · refine (final6_of m c _ fun b h k v => ?_).symm
    show (Cert.Reference4Ideal.Step.step 0 (Cert.Reference4Ideal.Step.init _ _ _)).main_v55_6 _ = _
    rw [h0, h1, h2]
    exact new_state _ _ _ hl b h k v

end Cert.SampleClaim

end
-- ==== Proof.HgrnIdeal.Trips.lean ====
module

public import proofs.«01_k».proof.Proof.Gen.ReferenceIdeal.Run
public import proofs.«01_k».proof.Proof.Gen.ReferenceIdeal.Step

@[expose] public section

set_option maxRecDepth 65536

noncomputable section

/-! The reference's run, with its loop's trips as the steps of a recurrence on the loop's carried arrays. -/

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers hold the recurrence's state, the mask and the trip's number. -/
structure Has (V0 : Valuation τ sig (Elt F)) (s : State F) (j : ℕ) : Prop where
  state : V0 (Proc.devRef .tc main_v56_6) = s.main_v56_6
  out : V0 (Proc.devRef .tc main_v56_7) = s.main_v56_7
  q : V0 (Proc.devRef .tc main_v56_0) = s.main_v56_0
  k : V0 (Proc.devRef .tc main_v56_1) = s.main_v56_1
  v : V0 (Proc.devRef .tc main_v56_2) = s.main_v56_2
  logf : V0 (Proc.devRef .tc main_v56_3) = s.main_v56_3
  count : V0 (Proc.devRef .tc main_v56_5) = constantI S_ 32 (BitVec.ofNat 32 j)
  mask : V0 (Proc.devRef .tc main_v56_4) = Cert.ReferenceIdeal.Step.K_main_v42 (F := F)

variable {V0 : Valuation τ sig (Elt F)} {s : State F} {j : ℕ}

theorem state_step (h : Has V0 s j) : step_main_v56_6 V0 = (step j s).main_v56_6 := by
  obtain ⟨h6, h7, h0, h1, h2, h3, h5, h4⟩ := h
  rw [Cert.ReferenceIdeal.Step.step_main_v56_6]
  unfold step_main_v56_6 res_main_while0b_v78 res_main_while0b_v64 res_main_while0b_v62 res_main_while0b_v61
  rw [h6, h1, h2, h3, h5]
  rfl

theorem out_step (h : Has V0 s j) : step_main_v56_7 V0 = (step j s).main_v56_7 := by
  obtain ⟨h6, h7, h0, h1, h2, h3, h5, h4⟩ := h
  rw [Cert.ReferenceIdeal.Step.step_main_v56_7]
  unfold step_main_v56_7 res_main_while0b_v66 res_main_while0b_v64 res_main_while0b_v62 res_main_while0b_v61
  rw [h6, h7, h0, h1, h2, h3, h5, h4]
  rfl

theorem count_step (h : Has V0 s j) : step_main_v56_5 V0 = constantI S_ 32 (BitVec.ofNat 32 (j + 1)) := by
  unfold step_main_v56_5
  rw [h.count]
  funext i
  show BitVec.ofNat 32 j + 1#32 = BitVec.ofNat 32 (j + 1)
  simp only [BitVec.ofNat_add]

/-- A trip leaves the next state. -/
theorem has_step (h : Has V0 s j) : Has (STEP V0) (step j s) (j + 1) where
  state := (STEP_main_v56_6 V0).trans (state_step h)
  out := (STEP_main_v56_7 V0).trans (out_step h)
  count := (STEP_main_v56_5 V0).trans (count_step h)
  mask := (STEP_main_v56_4 V0).trans h.mask
  q := (STEP_main_v56_0 V0).trans h.q
  k := (STEP_main_v56_1 V0).trans h.k
  v := (STEP_main_v56_2 V0).trans h.v
  logf := (STEP_main_v56_3 V0).trans h.logf

/-- The state before the first trip. -/
abbrev start (m : (ℓ : Loc nD τ sig) → Buf (Elt F) ℓ) (c : Dev nD) : State F :=
  init (m ((c.tc : Thread nD τ).loc main_arg0)) (m ((c.tc : Thread nD τ).loc main_arg1))

/-- The state after `n` trips. -/
def states (m : (ℓ : Loc nD τ sig) → Buf (Elt F) ℓ) (c : Dev nD) : ℕ → State F
  | 0 => start m c
  | n + 1 => step n (states m c n)

variable (m : (ℓ : Loc nD τ sig) → Buf (Elt F) ℓ) (c : Dev nD)

set_option maxHeartbeats 800000 in
/-- The operations before the loop leave the first state. -/
theorem has_start : Has (entryContents preI m c) (start m c) 0 := by
  constructor <;> (simp only [entryContents, afterL_cons, afterL_nil]; after_reads_simp) <;> rfl

theorem has_states : ∀ k, Has (STEP^[k] (entryContents preI m c)) (states m c k) k
  | 0 => has_start m c
  | k + 1 => by
    rw [Function.iterate_succ_apply']
    exact has_step (has_states k)

/-- The reference ends with its results read from the last state, and its arguments as they were. -/
theorem run_states (ρ : Dev nD → PrngReg) : θ_run (defs (F := F)) (onTc (τ := τ) (main (F := F))) ⟨m, fun _ => 0, ρ⟩ fun r => ∀ c : Dev nD,
      r.2.mem ((c.tc : Thread nD τ).loc main_v59) = Cert.ReferenceIdeal.Step.R_main_v59 (states m c 128)
      ∧ r.2.mem ((c.tc : Thread nD τ).loc main_v56_6) = (states m c 128).main_v56_6
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    have hk := has_states m c 128
    refine ⟨(h c).1.trans ?_, (h c).2.1.trans hk.state, (h c).2.2⟩
    unfold out_main_v59 Cert.ReferenceIdeal.Step.R_main_v59
    rw [hk.out]
    rfl) (Value.run m ρ)

end Cert.ReferenceIdeal.Trips

end
-- ==== Proof.HgrnIdeal.Ref.lean ====
module

public import proofs.«01_k».proof.Defs
public import proofs.«01_k».proof.Proof.HgrnIdeal.Trips
public import proofs.«01_k».proof.Proof.SampleRef
public import Idealize.ShloMosaic.Lib.Pointwise
public import Idealize.ShloMosaic.Lib.Pipeline.ValueKit

@[expose] public section

set_option maxRecDepth 16384

noncomputable section

namespace Cert.ReferenceIdeal.Step

open Cert.ReferenceIdeal Cert.ReferenceIdeal.Gen Idealize.ShloMosaic Idealize.ShloMosaic.TcCoe Idealize.SL.Sem

/-- A sum of 32 terms up to one of them. -/
def sumTo (g : Fin 32 → EReal) (t : Fin 32) : EReal := ∑ s : Fin 32, if s ≤ t then g s else 0

theorem foldl_sum {α : Type} (f : α → EReal) (l : List α) : ∀ z : EReal, l.foldl (fun a i => a + f i) z = z + (l.map f).sum := by
  induction l with
  | nil => intro z; simp
  | cons x l ih => intro z; rw [List.foldl_cons, ih, List.map_cons, List.sum_cons, add_assoc]

/-- Windows of 32 terms, of which those before the first count nothing, sum up to a term. -/
theorem window_sum (x : Vec Ideal S4x32x4x128 .f32) (z : Vec Ideal S_ .f32) (hz : ∀ i, z i = 0) (b : Fin 4) (t : Fin 32) (h : Fin 4) (k : Fin 128) :
    Host.reduceWindowAdd (F := Ideal) (φ := .f32) ![1, 32, 1, 1] ![1, 1, 1, 1] ![0, 31, 0, 0] ![0, 0, 0, 0] x z reduceWindows_S4x32x4x128_S4x32x4x128_w1s1p0_0_w32s1p31_0_w1s1p0_0_w1s1p0_0 h_S_ (ix4 b t h k) = sumTo (fun s => x (ix4 b s h k)) t := by
  have hw : ∀ (n : Fin (⟨4, ![1, 32, 1, 1]⟩ : Shape).numel) (a : Fin 4), ((⟨4, ![1, 32, 1, 1]⟩ : Shape).rowMajor.symm n a).val = (![0, n.val, 0, 0] : Fin 4 → ℕ) a := by decide +kernel
  show Host.reduceWindow (· + ·) ![1, 32, 1, 1] ![1, 1, 1, 1] ![0, 31, 0, 0] ![0, 0, 0, 0] x (fun _ : (⟨0, ![]⟩ : Shape).Idx => z (Shape.Idx.first h_S_)) reduceWindows_S4x32x4x128_S4x32x4x128_w1s1p0_0_w32s1p31_0_w1s1p0_0_w1s1p0_0 (by decide) (ix4 b t h k) = _
  unfold Host.reduceWindow
  dsimp only
  refine (foldl_sum _ _ _).trans ?_
  rw [hz, zero_add, ← Fin.sum_univ_def]
  unfold sumTo
  have h32 : (⟨4, ![1, 32, 1, 1]⟩ : Shape).numel = 32 := by decide
  refine Fintype.sum_equiv ((finCongr h32).trans (Equiv.addRight (t + 1))) _ _ fun n => ?_
  have hn : (n : ℕ) < 32 := lt_of_lt_of_eq n.isLt h32
  have ht := t.isLt
  have hb := b.isLt
  have hh := h.isLt
  have hk := k.isLt
  have he : (((finCongr h32).trans (Equiv.addRight (t + 1))) n : ℕ) = (n + (t + 1)) % 32 := by
    simp [Fin.val_add, add_assoc]
  by_cases hc : 31 ≤ (t : ℕ) + (n : ℕ)
  · have hin : ∀ a : Fin 4, (![0, 31, 0, 0] : Fin 4 → ℕ) a ≤ ((ix4 b t h k : S4x32x4x128.Idx) a).val * (![1, 1, 1, 1] : Fin 4 → ℕ) a + ((⟨4, ![1, 32, 1, 1]⟩ : Shape).rowMajor.symm n a).val
        ∧ ((ix4 b t h k : S4x32x4x128.Idx) a).val * (![1, 1, 1, 1] : Fin 4 → ℕ) a + ((⟨4, ![1, 32, 1, 1]⟩ : Shape).rowMajor.symm n a).val - (![0, 31, 0, 0] : Fin 4 → ℕ) a < S4x32x4x128.size a := by
      intro a
      rw [hw]
      fin_cases a <;> simp <;> omega
    refine (dif_pos hin).trans ?_
    rw [if_pos (by rw [Fin.le_def, he]; omega)]
    refine congrArg x (funext fun a => Fin.ext ?_)
    show ((ix4 b t h k : S4x32x4x128.Idx) a).val * (![1, 1, 1, 1] : Fin 4 → ℕ) a + ((⟨4, ![1, 32, 1, 1]⟩ : Shape).rowMajor.symm n a).val - (![0, 31, 0, 0] : Fin 4 → ℕ) a = _
    rw [hw]
    fin_cases a
    · simp
    · show (t : ℕ) * 1 + n - 31 = (((finCongr h32).trans (Equiv.addRight (t + 1))) n : ℕ)
      rw [he]; omega
    · simp
    · simp
  · have hout : ¬ ∀ a : Fin 4, (![0, 31, 0, 0] : Fin 4 → ℕ) a ≤ ((ix4 b t h k : S4x32x4x128.Idx) a).val * (![1, 1, 1, 1] : Fin 4 → ℕ) a + ((⟨4, ![1, 32, 1, 1]⟩ : Shape).rowMajor.symm n a).val
        ∧ ((ix4 b t h k : S4x32x4x128.Idx) a).val * (![1, 1, 1, 1] : Fin 4 → ℕ) a + ((⟨4, ![1, 32, 1, 1]⟩ : Shape).rowMajor.symm n a).val - (![0, 31, 0, 0] : Fin 4 → ℕ) a < S4x32x4x128.size a := by
      intro hall
      have := (hall 1).1
      rw [hw] at this
      change 31 ≤ (t : ℕ) * 1 + n at this
      omega
    refine (dif_neg hout).trans ?_
    rw [if_neg (by rw [Fin.le_def, he]; omega)]

/-- The first of two rows of a running sum is the first row. -/
theorem window_first (x : Vec Ideal S2x512 .f32) (z : Vec Ideal S_ .f32) (hz : ∀ i, z i = 0) (j : Fin 512) :
    Host.reduceWindowAdd (F := Ideal) (φ := .f32) ![2, 1] ![1, 1] ![1, 0] ![0, 0] x z reduceWindows_S2x512_S2x512_w2s1p1_0_w1s1p0_0 h_S_ (ix2 0 j) = x (ix2 0 j) :=
  Cert.Reference4Ideal.Step.window_first x z hz j

theorem soft_apply (z : Vec Ideal S16384x5632 .f32) (l : Vec Ideal S2x512 .f32) (x : Fin 2) (j : Fin 512) : A_main_v10 (F := Ideal) z l (ix2 x j) =
    Ideal.div (Ideal.exp (l (ix2 x j) - max (Ideal.ofBits FTy.f32 4286578688#32) (Finset.fold max (Ideal.ofBits FTy.f32 4286578688#32) (fun x => l (ix2 x j)) Finset.univ)))
      (∑ x : Fin 2, Ideal.exp (l (ix2 x j) - max (Ideal.ofBits FTy.f32 4286578688#32) (Finset.fold max (Ideal.ofBits FTy.f32 4286578688#32) (fun x => l (ix2 x j)) Finset.univ))) := by
  unfold A_main_v10 A_main_v9 A_main_v8 A_main_v7 A_main_v6 A_main_v5 A_main_v4 A_main_v3 A_main_v2 A_main_v0 K_main_cst K_main_v1 K_main_cst_0 K_main_cst_1
  pointwise
theorem lb_at (z : Vec Ideal S16384x5632 .f32) (l : Vec Ideal S2x512 .f32) (j : Fin 512) : A_main_v13 (F := Ideal) z l (ix1 j) = A_main_v10 (F := Ideal) z l (ix2 0 j) := by
  have h : A_main_v13 (F := Ideal) z l (ix1 j) = A_main_v11 (F := Ideal) z l (ix2 0 j) := by
    unfold A_main_v13 A_main_v12
    generalize A_main_v11 (F := Ideal) z l = a
    pointwise
  rw [h]
  exact window_first _ _ (fun i => Ideal.ofBits_zero_f32) j

open Cert.Reference4Ideal.Step (litBot lowAt peak col)

theorem low_eq (z : Vec Ideal S16384x5632 .f32) (l : Vec Ideal S2x512 .f32) (j : Fin 512) : A_main_v13 (F := Ideal) z l (ix1 j) = lowAt l j := by
  rw [lb_at, soft_apply, litBot, max_bot_left]
  rfl

/-- The row of a chunk of a batch. -/
abbrev rowOf (b : Fin 4) (j : Fin 128) (t : Fin 32) : Fin 16384 := ⟨(b : ℕ) * 4096 + ((j : ℕ) * 32 + (t : ℕ)), by omega⟩
/-- The forget gate of a row. -/
def gateAt (z : Vec Ideal S16384x5632 .f32) (l : Vec Ideal S2x512 .f32) (r : Fin 16384) (j : Fin 512) : EReal :=
  lowAt l j + (1 - lowAt l j) * Ideal.logistic (z (ix2 r ⟨2048 + (j : ℕ), by omega⟩))
/-- The query of a row. -/
def askAt (z : Vec Ideal S16384x5632 .f32) (r : Fin 16384) (j : Fin 512) : EReal :=
  z (ix2 r ⟨1536 + (j : ℕ), by omega⟩) * Ideal.logistic (z (ix2 r ⟨1536 + (j : ℕ), by omega⟩))
/-- The value of a row. -/
def valAt (z : Vec Ideal S16384x5632 .f32) (r : Fin 16384) (j : Fin 512) : EReal := z (ix2 r ⟨2560 + (j : ℕ), by omega⟩)

theorem gate_eq (z : Vec Ideal S16384x5632 .f32) (l : Vec Ideal S2x512 .f32) (b : Fin 4) (r : Fin 4096) (j : Fin 512) : A_main_v31 (F := Ideal) z l (ix3 b r j) = gateAt z l ⟨(b : ℕ) * 4096 + (r : ℕ), by omega⟩ j := by
  have h : A_main_v31 (F := Ideal) z l (ix3 b r j) =
      A_main_v13 (F := Ideal) z l (ix1 j) + (1 - A_main_v13 (F := Ideal) z l (ix1 j)) * Ideal.div 1 (1 + Ideal.exp (-z (ix2 ⟨(b : ℕ) * 4096 + (r : ℕ), by omega⟩ ⟨2048 + (j : ℕ), by omega⟩))) := by
    unfold A_main_v31 A_main_v30 A_main_v29 A_main_v28 A_main_v27 A_main_v26 A_main_v25 A_main_v23 A_main_v21 A_main_v20 A_main_v19 A_main_v16 A_main_v14 K_main_v22 K_main_v24 K_main_v18 K_main_cst_2 K_main_cst_3 K_main_cst_4
    generalize A_main_v13 (F := Ideal) z l = a
    pointwise
  rw [h, low_eq]
  rfl
theorem q_at (z : Vec Ideal S16384x5632 .f32) (l : Vec Ideal S2x512 .f32) (j : Fin 128) (b : Fin 4) (t : Fin 32) (h : Fin 4) (k : Fin 128) : A_main_v45 (F := Ideal) z l (ix5 j b t h k) =
    askAt z (rowOf b j t) (col h k) := by
  have hh : A_main_v45 (F := Ideal) z l (ix5 j b t h k) = z (ix2 (rowOf b j t) ⟨1536 + ((h : ℕ) * 128 + (k : ℕ)), by omega⟩) * Ideal.div 1 (1 + Ideal.exp (-z (ix2 (rowOf b j t) ⟨1536 + ((h : ℕ) * 128 + (k : ℕ)), by omega⟩))) := by
    unfold A_main_v45 A_main_v44 A_main_v43 A_main_v34 A_main_v33 A_main_call1_v5 A_main_call1_v3 A_main_call1_v1 A_main_call1_v0 A_main_v15 A_main_v14 K_main_call1_v2 K_main_call1_v4 K_main_call1_cst K_main_call1_cst_0
    pointwise
    exact dif_pos (by have := j.isLt; have := t.isLt; omega)
  exact hh
theorem k_at (z : Vec Ideal S16384x5632 .f32) (l : Vec Ideal S2x512 .f32) (j : Fin 128) (b : Fin 4) (t : Fin 32) (h : Fin 4) (k : Fin 128) : A_main_v48 (F := Ideal) z l (ix5 j b t h k) =
    1 - gateAt z l (rowOf b j t) (col h k) := by
  have hg := gate_eq z l b ⟨(j : ℕ) * 32 + (t : ℕ), by omega⟩ (col h k)
  refine Eq.trans ?_ (congrArg (1 - ·) hg)
  unfold A_main_v48 A_main_v47 A_main_v46 A_main_v37 A_main_v36 K_main_v35 K_main_cst_6
  generalize A_main_v31 (F := Ideal) z l = a
  pointwise
  exact dif_pos (by have := j.isLt; have := t.isLt; omega)
theorem v_at (z : Vec Ideal S16384x5632 .f32) (l : Vec Ideal S2x512 .f32) (j : Fin 128) (b : Fin 4) (t : Fin 32) (h : Fin 4) (k : Fin 128) : A_main_v51 (F := Ideal) z l (ix5 j b t h k) =
    valAt z (rowOf b j t) (col h k) := by
  unfold A_main_v51 A_main_v50 A_main_v49 A_main_v38 A_main_v17 A_main_v14 valAt
  pointwise
  exact dif_pos (by have := j.isLt; have := t.isLt; omega)
theorem g_at (z : Vec Ideal S16384x5632 .f32) (l : Vec Ideal S2x512 .f32) (j : Fin 128) (b : Fin 4) (t : Fin 32) (h : Fin 4) (k : Fin 128) : A_main_v54 (F := Ideal) z l (ix5 j b t h k) =
    Ideal.log (gateAt z l (rowOf b j t) (col h k)) := by
  have hg := gate_eq z l b ⟨(j : ℕ) * 32 + (t : ℕ), by omega⟩ (col h k)
  refine Eq.trans ?_ (congrArg Ideal.log hg)
  unfold A_main_v54 A_main_v53 A_main_v52 A_main_v40 A_main_v39
  generalize A_main_v31 (F := Ideal) z l = a
  pointwise
  exact dif_pos (by have := j.isLt; have := t.isLt; omega)

theorem ofNat_toInt : ∀ j : Fin 128, (BitVec.ofNat 32 (j : ℕ)).toInt = (j : ℕ) := by decide +kernel
/-- A chunk's slice starts at the chunk. -/
theorem clamp_chunk (h : S1x4x32x4x128.rank = S128x4x32x4x128.rank) (g : Fin 5 → ℤ) (j : Fin 128) (hg : g 0 = (j : ℕ)) (a : Fin 5) :
    Host.clampedStart S128x4x32x4x128 S1x4x32x4x128 h g a = (![(j : ℕ), 0, 0, 0, 0] : Fin 5 → ℕ) a := by
  unfold Host.clampedStart
  have := j.isLt
  fin_cases a <;> simp [hg] <;> omega
theorem slice_at (x : Vec Ideal S128x4x32x4x128 .f32) (g : Fin 5 → ℤ) (j : Fin 128) (hg : g 0 = (j : ℕ)) (b : Fin 4) (t : Fin 32) (h : Fin 4) (k : Fin 128) :
    shapeCast S4x32x4x128 (Host.dynamicSlice S1x4x32x4x128 x g sliceFits_S128x4x32x4x128_S1x4x32x4x128) shapeCasts_S1x4x32x4x128_S4x32x4x128 (ix4 b t h k) = x (ix5 j b t h k) := by
  pointwise
  simp only [clamp_chunk _ g j hg]
  exact congrArg x (by congr 1 <;> exact Fin.ext (by simp))
theorem b5_at (s : State Ideal) (j : Fin 128) (b : Fin 4) (t : Fin 32) (h : Fin 4) (k : Fin 128) : b5 j s (ix4 b t h k) = s.main_v56_0 (ix5 j b t h k) := slice_at _ _ j (ofNat_toInt j) b t h k
theorem b11_at (s : State Ideal) (j : Fin 128) (b : Fin 4) (t : Fin 32) (h : Fin 4) (k : Fin 128) : b11 j s (ix4 b t h k) = s.main_v56_1 (ix5 j b t h k) := slice_at _ _ j (ofNat_toInt j) b t h k
theorem b17_at (s : State Ideal) (j : Fin 128) (b : Fin 4) (t : Fin 32) (h : Fin 4) (k : Fin 128) : b17 j s (ix4 b t h k) = s.main_v56_2 (ix5 j b t h k) := slice_at _ _ j (ofNat_toInt j) b t h k
theorem b23_at (s : State Ideal) (j : Fin 128) (b : Fin 4) (t : Fin 32) (h : Fin 4) (k : Fin 128) : b23 j s (ix4 b t h k) = s.main_v56_3 (ix5 j b t h k) := slice_at _ _ j (ofNat_toInt j) b t h k
theorem b26_at (s : State Ideal) (j : ℕ) (b : Fin 4) (t : Fin 32) (h : Fin 4) (k : Fin 128) : b26 j s (ix4 b t h k) = sumTo (fun x => b23 j s (ix4 b x h k)) t := by
  unfold b26
  exact window_sum _ _ (fun i => Ideal.ofBits_zero_f32) b t h k
theorem b55_at (s : State Ideal) (j : ℕ) (b : Fin 4) (h : Fin 4) (k v : Fin 128) : b55 j s (ix4 b h k v) =
    s.main_v56_6 (ix4 b h k v) * Ideal.exp (b26 j s (ix4 b 31 h k))
      + ∑ x : Fin 32, b11 j s (ix4 b x h k) * Ideal.exp (b26 j s (ix4 b 31 h k) - b26 j s (ix4 b x h k)) * b17 j s (ix4 b x h v) := by
  unfold b55 b54 b53 b52 b51 b50 b49 b48 b47 b46 b45 b44 b43
  generalize b26 j s = c
  generalize b11 j s = d
  generalize b17 j s = e
  pointwise
theorem sge_eq : ∀ t s : Fin 32, IntOp.cmpi CmpIPredicate.sge (BitVec.ofNat 32 (t : ℕ)) (BitVec.ofNat 32 (s : ℕ)) = if s ≤ t then 1#1 else 0#1 := by
  decide +kernel
theorem select_ite (p : Prop) [Decidable p] (a b : EReal) : Scalar.select (if p then 1#1 else 0#1) a b = if p then a else b := by
  by_cases h : p
  · rw [if_pos h, if_pos h]; rfl
  · rw [if_neg h, if_neg h]; rfl
theorem select_bit (p : Prop) [Decidable p] : Scalar.select (if p then 1#1 else 0#1) (1#1 : BitVec 1) 0#1 = if p then 1#1 else 0#1 := by
  by_cases h : p
  · rw [if_pos h]; rfl
  · rw [if_neg h]; rfl
theorem mask_at (t s : Fin 32) : K_main_v42 (F := Ideal) (ix2 t s) = if s ≤ t then 1#1 else 0#1 := by
  unfold K_main_v42 K_main_v41 K_main_call2_v5 K_main_call2_v4 K_main_call2_v2 K_main_call2_v0 K_main_call2_v1 K_main_call2_c K_main_call2_v3 K_main_c K_main_call2_c_0
  pointwise
  rw [show IntOp.addi (BitVec.ofNat 32 (t : ℕ)) 0#32 = BitVec.ofNat 32 (t : ℕ) from BitVec.add_zero _, sge_eq, select_bit]
theorem b42_at (s : State Ideal) (j : ℕ) (b : Fin 4) (t : Fin 32) (h : Fin 4) (v : Fin 128) : b42 j s (ix4 b t h v) =
    (∑ x : Fin 128, s.main_v56_6 (ix4 b h x v) * (b5 j s (ix4 b t h x) * Ideal.exp (b26 j s (ix4 b t h x))))
      + ∑ y : Fin 32, b17 j s (ix4 b y h v) * if y ≤ t then ∑ x : Fin 128, b5 j s (ix4 b t h x) * Ideal.exp (b26 j s (ix4 b t h x)) * (b11 j s (ix4 b y h x) * Ideal.exp (-b26 j s (ix4 b y h x))) else 0 := by
  have hm := mask_at
  unfold b42 b41 b40 b39 b38 b37 b36 b35 b34 b33 b32 b31 b30 b29 b28 b27
  generalize b26 j s = c
  generalize b11 j s = d
  generalize b17 j s = e
  generalize b5 j s = f
  generalize K_main_v42 (F := Ideal) = w at hm
  pointwise
  simp only [hm, select_ite, mul_ite, mul_zero]
theorem b61_at (s : State Ideal) (j i : Fin 128) (b : Fin 4) (t : Fin 32) (h : Fin 4) (v : Fin 128) : b61 j s (ix5 i b t h v) =
    if i = j then b42 j s (ix4 b t h v) else s.main_v56_7 (ix5 i b t h v) := by
  have hg : ∀ a, Host.clampedStart S128x4x32x4x128 S1x4x32x4x128 rfl (fun k => (((![(constantI S_ 32 (BitVec.ofNat 32 j) : (⟨S_, .i32⟩ : BufTy).Contents (Elt Ideal)), (b57 j s), (b58 j s), (b59 j s), (b60 j s)] : Fin 5 → (⟨S_, .i32⟩ : BufTy).Contents (Elt Ideal))) k (Shape.Idx.first h_S_)).toInt) a = (![(j : ℕ), 0, 0, 0, 0] : Fin 5 → ℕ) a :=
    clamp_chunk rfl _ j (ofNat_toInt j)
  unfold b61 b56
  generalize b42 j s = c
  pointwise
  simp only [hg]
  have hb := b.isLt
  have ht := t.isLt
  have hh := h.isLt
  have hv := v.isLt
  by_cases hij : i = j
  · subst hij
    rw [if_pos rfl]
    refine (dif_pos (by simp)).trans ?_
    exact congrArg c (by congr 1 <;> exact Fin.ext (by simp))
  · rw [if_neg hij]
    refine dif_neg fun hc => hij (Fin.ext ?_)
    have h1 : (j : ℕ) ≤ (i : ℕ) ∧ (i : ℕ) < (j : ℕ) + 1 := hc.1
    omega

/-! ## Closed forms over the arguments -/

section
variable (z : Vec Ideal S16384x5632 .f32) (l : Vec Ideal S2x512 .f32) (b : Fin 4) (j : Fin 128)

/-- The sum of a chunk's logarithms of the gates up to a row. -/
def cumAt (t : Fin 32) (d : Fin 512) : EReal := sumTo (fun s => Ideal.log (gateAt z l (rowOf b j s) d)) t
/-- The state after a chunk. -/
def nextAt (S : Fin 4 → Fin 128 → Fin 128 → EReal) (h : Fin 4) (k v : Fin 128) : EReal :=
  S h k v * Ideal.exp (cumAt z l b j 31 (col h k))
    + ∑ x : Fin 32, (1 - gateAt z l (rowOf b j x) (col h k)) * Ideal.exp (cumAt z l b j 31 (col h k) - cumAt z l b j x (col h k)) * valAt z (rowOf b j x) (col h v)
/-- A chunk's output. -/
def chunkOut (S : Fin 4 → Fin 128 → Fin 128 → EReal) (t : Fin 32) (h : Fin 4) (v : Fin 128) : EReal :=
  (∑ x : Fin 128, S h x v * (askAt z (rowOf b j t) (col h x) * Ideal.exp (cumAt z l b j t (col h x))))
    + ∑ y : Fin 32, valAt z (rowOf b j y) (col h v) * if y ≤ t then
        ∑ x : Fin 128, askAt z (rowOf b j t) (col h x) * Ideal.exp (cumAt z l b j t (col h x)) * ((1 - gateAt z l (rowOf b j y) (col h x)) * Ideal.exp (-cumAt z l b j y (col h x))) else 0
end

/-- The state before a chunk. -/
def stateAt (z : Vec Ideal S16384x5632 .f32) (l : Vec Ideal S2x512 .f32) (b : Fin 4) : ℕ → Fin 4 → Fin 128 → Fin 128 → EReal
  | 0 => fun _ _ _ => 0
  | n + 1 => if hn : n < 128 then nextAt z l b ⟨n, hn⟩ (stateAt z l b n) else stateAt z l b n

/-- What the first chunks leave. -/
structure Upto (z : Vec Ideal S16384x5632 .f32) (l : Vec Ideal S2x512 .f32) (n : ℕ) (s : State Ideal) : Prop where
  q : s.main_v56_0 = A_main_v45 z l
  k : s.main_v56_1 = A_main_v48 z l
  v : s.main_v56_2 = A_main_v51 z l
  g : s.main_v56_3 = A_main_v54 z l
  state : ∀ b h k v, s.main_v56_6 (ix4 b h k v) = stateAt z l b n h k v
  out : ∀ (i : Fin 128) b t h v, (i : ℕ) < n → s.main_v56_7 (ix5 i b t h v) = chunkOut z l b i (stateAt z l b i) t h v

theorem upto_zero (z : Vec Ideal S16384x5632 .f32) (l : Vec Ideal S2x512 .f32) : Upto z l 0 (init z l) where
  q := rfl
  k := rfl
  v := rfl
  g := rfl
  state := fun b h k v => Ideal.ofBits_zero_f32
  out := fun i b t h v hi => absurd hi (Nat.not_lt_zero _)

theorem upto_succ (z : Vec Ideal S16384x5632 .f32) (l : Vec Ideal S2x512 .f32) (j : Fin 128) (s : State Ideal) (hs : Upto z l j s) : Upto z l (j + 1) (step j s) := by
  have hc : ∀ b t h k, b26 (j : ℕ) s (ix4 b t h k) = cumAt z l b j t (col h k) := by
    intro b t h k
    rw [b26_at]
    refine congrArg (sumTo · t) (funext fun x => ?_)
    rw [b23_at, hs.g, g_at]
  have hq : ∀ b t h k, b5 (j : ℕ) s (ix4 b t h k) = askAt z (rowOf b j t) (col h k) := by
    intro b t h k
    rw [b5_at, hs.q, q_at]
  have hk : ∀ b t h k, b11 (j : ℕ) s (ix4 b t h k) = 1 - gateAt z l (rowOf b j t) (col h k) := by
    intro b t h k
    rw [b11_at, hs.k, k_at]
  have hv : ∀ b t h k, b17 (j : ℕ) s (ix4 b t h k) = valAt z (rowOf b j t) (col h k) := by
    intro b t h k
    rw [b17_at, hs.v, v_at]
  refine ⟨hs.q, hs.k, hs.v, hs.g, fun b h k v => ?_, fun i b t h v hi => ?_⟩
  · rw [step_main_v56_6, b55_at]
    simp only [hc, hk, hv, hs.state]
    have e : stateAt z l b ((j : ℕ) + 1) = nextAt z l b j (stateAt z l b j) := dif_pos j.isLt
    rw [e]
    rfl
  · rw [step_main_v56_7, b61_at]
    by_cases hij : i = j
    · subst hij
      rw [if_pos rfl, b42_at]
      simp only [hc, hk, hv, hq, hs.state]
      rfl
    · rw [if_neg hij]
      exact hs.out i b t h v (lt_of_le_of_ne (Nat.lt_succ_iff.mp hi) fun he => hij (Fin.ext he))

open Cert.ReferenceIdeal.Trips in
theorem upto_states (m : (ℓ : Loc nD τ sig) → Buf (Elt Ideal) ℓ) (c : Dev nD) : ∀ n, n ≤ 128 →
    Upto (m ((c.tc : Thread nD τ).loc main_arg0)) (m ((c.tc : Thread nD τ).loc main_arg1)) n (states m c n)
  | 0, _ => upto_zero _ _
  | n + 1, h => upto_succ _ _ ⟨n, h⟩ _ (upto_states m c n (by omega))

/-- The output's rows are the chunks'. -/
theorem out_at (s : State Ideal) (b : Fin 4) (j : Fin 128) (t : Fin 32) (h : Fin 4) (v : Fin 128) :
    R_main_v59 s (ix2 (rowOf b j t) (col h v)) = s.main_v56_7 (ix5 j b t h v) := by
  unfold R_main_v59
  generalize s.main_v56_7 = x
  pointwise
  have := b.isLt
  have := j.isLt
  have := t.isLt
  have := h.isLt
  have := v.isLt
  exact congrArg x (by congr 1 <;> exact Fin.ext (by dsimp only; omega))

end Cert.ReferenceIdeal.Step

end
-- ==== Proof.HgrnIdeal.Trip.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WholeRead
public import Idealize.ShloMosaic.Lib.Ring

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (v5 : Vec F S2x512 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 v5)

/-- A trip's 32 rows of a block of 1024. -/
def rows (x : Vec F S1024x512 .f32) (k : Fin k0_t1_loop.trips) : Vec F S32x512 .f32 :=
  fun y => x ((Rect.unit (s := S1024x512) (k0_off1 k) S32x512.size (k0_off1_inb k)).toLoadRect.idx y)

/-- A head's state. -/
def head0 (S : Vec F S4x128x128 .f32) : Vec F S1x128x128 .f32 :=
  fun y => S ((Rect.unit (s := S4x128x128) ![0, 0, 0] S1x128x128.size inb_S4x128x128_S1x128x128_0_0_0).toLoadRect.idx y)
def head1 (S : Vec F S4x128x128 .f32) : Vec F S1x128x128 .f32 :=
  fun y => S ((Rect.unit (s := S4x128x128) ![1, 0, 0] S1x128x128.size inb_S4x128x128_S1x128x128_1_0_0).toLoadRect.idx y)
def head2 (S : Vec F S4x128x128 .f32) : Vec F S1x128x128 .f32 :=
  fun y => S ((Rect.unit (s := S4x128x128) ![2, 0, 0] S1x128x128.size inb_S4x128x128_S1x128x128_2_0_0).toLoadRect.idx y)
def head3 (S : Vec F S4x128x128 .f32) : Vec F S1x128x128 .f32 :=
  fun y => S ((Rect.unit (s := S4x128x128) ![3, 0, 0] S1x128x128.size inb_S4x128x128_S1x128x128_3_0_0).toLoadRect.idx y)

/-- The pieces a trip writes into the state: a head each, from the gates' rows `v18`, the values' rows `v40` and the state before. -/
def statePieces (v5 : Vec F S2x512 .f32) (v18 v40 : Vec F S32x512 .f32) (S : Vec F S4x128x128 .f32) : List (View.Piece (Elt F) S4x128x128 .f32) :=
  [⟨Rect.unit ![3, 0, 0] S1x128x128.size inb_S4x128x128_S1x128x128_3_0_0, k0_pay4 (k0_pay16 k0_pay2 v5 v18) (k0_pay17 k0_pay2 v5 v18) (k0_pay32 (head3 S)) (k0_pay33 v40)⟩,
   ⟨Rect.unit ![2, 0, 0] S1x128x128.size inb_S4x128x128_S1x128x128_2_0_0, k0_pay31 v40 (k0_pay16 k0_pay2 v5 v18) (k0_pay17 k0_pay2 v5 v18) (head2 S)⟩,
   ⟨Rect.unit ![1, 0, 0] S1x128x128.size inb_S4x128x128_S1x128x128_1_0_0, k0_pay27 (k0_pay16 k0_pay2 v5 v18) (k0_pay25 (k0_pay17 k0_pay2 v5 v18) (head1 S)) (k0_pay26 v40)⟩,
   ⟨Rect.unit ![0, 0, 0] S1x128x128.size inb_S4x128x128_S1x128x128_0_0_0, k0_pay21 v40 (k0_pay16 k0_pay2 v5 v18) (k0_pay17 k0_pay2 v5 v18) (head0 S)⟩]

/-- The state after a trip. -/
def newState (v5 : Vec F S2x512 .f32) (v18 v40 : Vec F S32x512 .f32) (S : Vec F S4x128x128 .f32) : Vec F S4x128x128 .f32 :=
  View.canon (statePieces v5 v18 v40 S)

/-- The rows of the output that a trip writes. -/
def outRows (v5 : Vec F S2x512 .f32) (v16 v18 v40 : Vec F S32x512 .f32) (S : Vec F S4x128x128 .f32) : Vec F S32x512 .f32 :=
  k0_pay5 (k0_pay14 k0_pay2 v5 v16 v18)
    (k0_pay20 k0_pay1 v40 (k0_pay14 k0_pay2 v5 v16 v18) (k0_pay15 k0_pay2 v5 v18) (head0 S))
    (k0_pay24 k0_pay1 v40 (k0_pay14 k0_pay2 v5 v16 v18) (k0_pay15 k0_pay2 v5 v18) (head1 S))
    (k0_pay30 k0_pay1 v40 (k0_pay14 k0_pay2 v5 v16 v18) (k0_pay15 k0_pay2 v5 v18) (head2 S))
    (k0_pay32 (head3 S)) (k0_pay33 v40) (k0_pay34 (k0_pay14 k0_pay2 v5 v16 v18) (k0_pay15 k0_pay2 v5 v18))

/-- The state after `n` trips from `S0`. -/
def stateN (v5 : Vec F S2x512 .f32) (x1 x2 : Vec F S1024x512 .f32) (S0 : Vec F S4x128x128 .f32) : ℕ → Vec F S4x128x128 .f32
  | 0 => S0
  | k + 1 => if h : k < k0_t1_loop.trips then newState v5 (rows x1 ⟨k, h⟩) (rows x2 ⟨k, h⟩) (stateN v5 x1 x2 S0 k) else stateN v5 x1 x2 S0 k

/-- The pieces of the output after `n` trips. -/
def outN (v5 : Vec F S2x512 .f32) (x0 x1 x2 : Vec F S1024x512 .f32) (S0 : Vec F S4x128x128 .f32) : ℕ → List (View.Piece (Elt F) S1024x512 .f32)
  | 0 => []
  | k + 1 => if h : k < k0_t1_loop.trips then
      ⟨Rect.unit (k0_off1 ⟨k, h⟩) S32x512.size (k0_off1_inb ⟨k, h⟩), outRows v5 (rows x0 ⟨k, h⟩) (rows x1 ⟨k, h⟩) (rows x2 ⟨k, h⟩) (stateN v5 x1 x2 S0 k)⟩ :: outN v5 x0 x1 x2 S0 k
    else outN v5 x0 x1 x2 S0 k

theorem stateN_succ (v5 : Vec F S2x512 .f32) (x1 x2 : Vec F S1024x512 .f32) (S0 : Vec F S4x128x128 .f32) (k : Fin k0_t1_loop.trips) :
    stateN v5 x1 x2 S0 (k.val + 1) = newState v5 (rows x1 k) (rows x2 k) (stateN v5 x1 x2 S0 k.val) := by
  rw [stateN]; exact dif_pos k.isLt

theorem outN_succ (v5 : Vec F S2x512 .f32) (x0 x1 x2 : Vec F S1024x512 .f32) (S0 : Vec F S4x128x128 .f32) (k : Fin k0_t1_loop.trips) :
    outN v5 x0 x1 x2 S0 (k.val + 1) = ⟨Rect.unit (k0_off1 k) S32x512.size (k0_off1_inb k), outRows v5 (rows x0 k) (rows x1 k) (rows x2 k) (stateN v5 x1 x2 S0 k.val)⟩ :: outN v5 x0 x1 x2 S0 k.val := by
  rw [outN]; exact dif_pos k.isLt

theorem cover_state (v5 : Vec F S2x512 .f32) (v18 v40 : Vec F S32x512 .f32) (S : Vec F S4x128x128 .f32) (y : S4x128x128.Idx) :
    ∃ pc ∈ statePieces v5 v18 v40 S, y ∈ pc.1.set :=
  View.cover_of_tiledL (statePieces v5 v18 v40 S) S1x128x128.size (by sl_kernel_rfl) y

abbrev Trip_k0_t1 (c : Dev nD) (arg2 : Memref sig .tc .vmem S1024x512 .f32) (arg3 : Memref sig .tc .vmem S1024x512 .f32) (arg4 : Memref sig .tc .vmem S1024x512 .f32) (arg6 : Memref sig .tc .vmem S1024x512 .f32) (arg8 : Memref sig .tc .vmem S4x128x128 .f32) (X_arg2 : BufTy.Contents (Elt F) arg2.view.ty) (X_arg3 : BufTy.Contents (Elt F) arg3.view.ty) (X_arg4 : BufTy.Contents (Elt F) arg4.view.ty) (f_arg6 : BufTy.Contents (Elt F) arg6.view.ty) (f_arg8 : BufTy.Contents (Elt F) arg8.view.ty) : sProp (MT nD τ sig Unit (Elt F) ℕ (UR sig nD τ) ℕ) :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} f_arg6) ∗ (arg8.view.loc (c : Thread nD τ) ↦[arg8.view.set]{fullShare} f_arg8))

def trip_k0_t1 (𝒱 : Variants) (c : Dev nD) (bd : Option 𝒱.V) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (v5 : Vec F S2x512 .f32) (X_arg2 : BufTy.Contents (Elt F) arg2.view.ty) (X_arg3 : BufTy.Contents (Elt F) arg3.view.ty) (X_arg4 : BufTy.Contents (Elt F) arg4.view.ty) (k : Fin k0_t1_loop.trips) :
    Σ' (L_arg6 : (BufTy.Contents (Elt F) arg8.view.ty → List (View.Piece (Elt F) S1024x512 .f32))) , { L_arg8 : (BufTy.Contents (Elt F) arg8.view.ty → List (View.Piece (Elt F) S4x128x128 .f32)) // ∀ (E : Set ℕ) (f_arg6 : BufTy.Contents (Elt F) arg6.view.ty) (f_arg8 : BufTy.Contents (Elt F) arg8.view.ty),
      Trip_k0_t1 (F := F) c arg2 arg3 arg4 arg6 arg8 X_arg2 X_arg3 X_arg4 f_arg6 f_arg8
      ⊢ wp frame (wpE (defs₀ (F := F)) 𝒱 (c : Thread nD τ) bd) E (k0_t1_body (F := F) i arg2 harg2 arg3 harg3 arg4 harg4 arg5 harg5 arg6 harg6 arg7 harg7 arg8 harg8 v5 k PUnit.unit)
          (fun _ => Trip_k0_t1 (F := F) c arg2 arg3 arg4 arg6 arg8 X_arg2 X_arg3 X_arg4 (arg6.view.writes (Elt F) f_arg6 (L_arg6 f_arg8)) (arg8.view.writes (Elt F) f_arg8 (L_arg8 f_arg8))) } := by
  have hk : k.val < 32 := Nat.lt_of_lt_of_le k.isLt k0_t1_abs.2.1
  refine ⟨?_, ?_, fun E f_arg6 f_arg8 => ?run⟩
  case run =>
    unfold k0_t1_body
    iintro ⟨HR_arg2, HR_arg3, HR_arg4, HW_arg6, HW_arg8⟩
    sl_exec
    sl_step
    sl_close

variable (𝒱 : Variants) (c : Dev nD) (bd : Option 𝒱.V) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (v5 : Vec F S2x512 .f32) (x0 x1 x2 : Vec F S1024x512 .f32)

theorem trip_out (k : Fin k0_t1_loop.trips) (f8) :
    (trip_k0_t1 (F := F) 𝒱 c bd i arg2 harg2 arg3 harg3 arg4 harg4 arg5 harg5 arg6 harg6 arg7 harg7 arg8 harg8 v5 (harg2.unread x0) (harg3.unread x1) (harg4.unread x2) k).1 f8
      = [⟨Rect.unit (k0_off1 k) S32x512.size (k0_off1_inb k), outRows v5 (rows x0 k) (rows x1 k) (rows x2 k) (arg8.view.read (Elt F) f8)⟩] := by
  have e0 : View.readAt (Elt F) arg2.view (Rect.unit (s := S1024x512) (k0_off1 k) S32x512.size (k0_off1_inb k)).toLoadRect (harg2.unread x0) = rows x0 k :=
    funext fun y => harg2.readAt_unread _ _ y
  have e1 : View.readAt (Elt F) arg3.view (Rect.unit (s := S1024x512) (k0_off1 k) S32x512.size (k0_off1_inb k)).toLoadRect (harg3.unread x1) = rows x1 k :=
    funext fun y => harg3.readAt_unread _ _ y
  have e2 : View.readAt (Elt F) arg4.view (Rect.unit (s := S1024x512) (k0_off1 k) S32x512.size (k0_off1_inb k)).toLoadRect (harg4.unread x2) = rows x2 k :=
    funext fun y => harg4.readAt_unread _ _ y
  rw [← e0, ← e1, ← e2]
  rfl

theorem trip_state (k : Fin k0_t1_loop.trips) (f8) :
    (trip_k0_t1 (F := F) 𝒱 c bd i arg2 harg2 arg3 harg3 arg4 harg4 arg5 harg5 arg6 harg6 arg7 harg7 arg8 harg8 v5 (harg2.unread x0) (harg3.unread x1) (harg4.unread x2) k).2.1 f8
      = statePieces v5 (rows x1 k) (rows x2 k) (arg8.view.read (Elt F) f8) := by
  have e1 : View.readAt (Elt F) arg3.view (Rect.unit (s := S1024x512) (k0_off1 k) S32x512.size (k0_off1_inb k)).toLoadRect (harg3.unread x1) = rows x1 k :=
    funext fun y => harg3.readAt_unread _ _ y
  have e2 : View.readAt (Elt F) arg4.view (Rect.unit (s := S1024x512) (k0_off1 k) S32x512.size (k0_off1_inb k)).toLoadRect (harg4.unread x2) = rows x2 k :=
    funext fun y => harg4.readAt_unread _ _ y
  rw [← e1, ← e2]
  rfl

/-- The state's buffer before trip `k`: as found, then the state after the trips so far. -/
def stateBuf (G : BufTy.Contents (Elt F) arg8.view.ty) : ℕ → BufTy.Contents (Elt F) arg8.view.ty
  | 0 => G
  | k + 1 => harg8.unread (stateN v5 x1 x2 (arg8.view.read (Elt F) G) (k + 1))

theorem read_stateBuf (G : BufTy.Contents (Elt F) arg8.view.ty) (k : ℕ) :
    arg8.view.read (Elt F) (stateBuf arg8 harg8 v5 x1 x2 G k) = stateN v5 x1 x2 (arg8.view.read (Elt F) G) k := by
  cases k with
  | zero => rfl
  | succ k => exact harg8.read_unread _

/-- Before trip `k`: the operands' blocks, the output's rows of the trips before, the state after them. -/
abbrev inv_k0_t1 (G_arg6 : BufTy.Contents (Elt F) arg6.view.ty) (G_arg8 : BufTy.Contents (Elt F) arg8.view.ty) (k : ℕ) (_u : PUnit) : sProp (MT nD τ sig Unit (Elt F) ℕ (UR sig nD τ) ℕ) :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2)
    ∗ (∃ f, (arg6.view.loc (c : Thread nD τ) ↦[arg6.view.set]{fullShare} f) ∗ ⌜f = arg6.view.writes (Elt F) G_arg6 (outN v5 x0 x1 x2 (arg8.view.read (Elt F) G_arg8) k)⌝)
    ∗ (∃ f, (arg8.view.loc (c : Thread nD τ) ↦[arg8.view.set]{fullShare} f) ∗ ⌜f = stateBuf arg8 harg8 v5 x1 x2 G_arg8 k⌝))

set_option warn.classDefReducibility false in
/-- The chunks' loop by that invariant. -/
@[sl_loop] def loopInv_k0_t1 (E : Set ℕ) (G_arg6 : BufTy.Contents (Elt F) arg6.view.ty) (G_arg8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 v5 where
  inv := inv_k0_t1 (F := F) c arg2 harg2 arg3 harg3 arg4 harg4 arg6 arg8 harg8 v5 x0 x1 x2 G_arg6 G_arg8
  step k acc := by
    iintro ⟨HR_arg2, HR_arg3, HR_arg4, ⟨%f_arg6, HW_arg6, %h_arg6⟩, ⟨%f_arg8, HW_arg8, %h_arg8⟩⟩
    iapply (wp_wand_r Idealize.ShloMosaic.frame (wpE (defs₀ (F := F)) 𝒱 (c : Thread nD τ) bd) E)
    isplitl [HR_arg2 HR_arg3 HR_arg4 HW_arg6 HW_arg8]
    · iapply ((trip_k0_t1 (F := F) 𝒱 c bd i arg2 harg2 arg3 harg3 arg4 harg4 arg5 harg5 arg6 harg6 arg7 harg7 arg8 harg8 v5 (harg2.unread x0) (harg3.unread x1) (harg4.unread x2) k).2.2 E f_arg6 f_arg8)
      isplitl [HR_arg2]; · iexact HR_arg2
      isplitl [HR_arg3]; · iexact HR_arg3
      isplitl [HR_arg4]; · iexact HR_arg4
      isplitl [HW_arg6]; · iexact HW_arg6
      iexact HW_arg8
    · iintro %_ ⟨HR_arg2, HR_arg3, HR_arg4, HW_arg6, HW_arg8⟩
      isplitl [HR_arg2]; · iexact HR_arg2
      isplitl [HR_arg3]; · iexact HR_arg3
      isplitl [HR_arg4]; · iexact HR_arg4
      isplitl [HW_arg6]
      · iexists _; isplitl [HW_arg6]; · iexact HW_arg6
        ipureintro
        rw [trip_out, outN_succ, h_arg6, h_arg8, read_stateBuf]
        rfl
      iexists _; isplitl [HW_arg8]; · iexact HW_arg8
      ipureintro
      rw [trip_state, h_arg8]
      refine harg8.eq_unread ?_
      rw [View.read_writes_eq_canon _ _ _ (cover_state _ _ _ _), read_stateBuf, stateN_succ]
      rfl

end Cert.KernelIdeal.Gen

end
-- ==== Proof.HgrnIdeal.Ker.lean ====
module

public import proofs.«01_k».proof.Defs
public import proofs.«01_k».proof.Proof.HgrnIdeal.Ref
public import proofs.«01_k».proof.Proof.HgrnIdeal.Trip
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Reference4Ideal.Step (lowAt peak litBot col)
open Cert.ReferenceIdeal.Step (sumTo sge_eq select_ite)

/-- A block's forget gate. -/
def gateK (l : Vec Ideal S2x512 .f32) (f : Vec Ideal S32x512 .f32) (t : Fin 32) (d : Fin 512) : EReal := lowAt l d + (1 - lowAt l d) * Ideal.logistic (f (ix2 t d))
/-- The sum of a block's logarithms of the gates up to a row. -/
def cumK (l : Vec Ideal S2x512 .f32) (f : Vec Ideal S32x512 .f32) (t : Fin 32) (d : Fin 512) : EReal := sumTo (fun s => Ideal.log (gateK l f s d)) t

theorem pay1_at (t s : Fin 32) : k0_pay1 (ix2 t s) = if s ≤ t then 1#1 else 0#1 := by
  unfold k0_pay1
  pointwise
  exact sge_eq t s
theorem pay2_at (t s : Fin 32) : k0_pay2 (F := Ideal) (ix2 t s) = (if s ≤ t then 1 else 0 : EReal) := by
  have h := pay1_at t s
  unfold k0_pay2
  generalize k0_pay1 = p at h
  pointwise
  rw [h]
  by_cases hc : s ≤ t
  · rw [if_pos hc, if_pos hc]
    show ((((1#1 : BitVec 1).setWidth 32).toInt : ℝ) : EReal) = 1
    simp
  · rw [if_neg hc, if_neg hc]
    show ((((0#1 : BitVec 1).setWidth 32).toInt : ℝ) : EReal) = 0
    simp
theorem pay10_at (l : Vec Ideal S2x512 .f32) (f : Vec Ideal S32x512 .f32) (t : Fin 32) (d : Fin 512) : k0_pay10 (F := Ideal) l f (ix2 t d) = gateK l f t d := by
  unfold k0_pay10 gateK lowAt peak
  pointwise
  rw [litBot]
theorem pay11_at (l : Vec Ideal S2x512 .f32) (f : Vec Ideal S32x512 .f32) (t : Fin 32) (d : Fin 512) : k0_pay11 (F := Ideal) l f (ix2 t d) = 1 - gateK l f t d := by
  rw [← pay10_at]
  unfold k0_pay11
  generalize k0_pay10 l f = g
  pointwise
theorem pay12_at (l : Vec Ideal S2x512 .f32) (f : Vec Ideal S32x512 .f32) (t : Fin 32) (d : Fin 512) : k0_pay12 (F := Ideal) k0_pay2 l f (ix2 t d) = cumK l f t d := by
  have h := pay2_at
  unfold k0_pay12 cumK sumTo
  simp only [← pay10_at]
  generalize k0_pay10 l f = g
  generalize k0_pay2 (F := Ideal) = e at h
  pointwise
  simp only [h, ite_mul, one_mul, zero_mul]
theorem pay13_at (l : Vec Ideal S2x512 .f32) (f : Vec Ideal S32x512 .f32) (d : Fin 512) : k0_pay13 (F := Ideal) k0_pay2 l f (ix2 0 d) = cumK l f 31 d := by
  rw [← pay12_at]
  unfold k0_pay13
  generalize k0_pay12 k0_pay2 l f = g
  pointwise
theorem pay14_at (l : Vec Ideal S2x512 .f32) (q f : Vec Ideal S32x512 .f32) (t : Fin 32) (d : Fin 512) : k0_pay14 (F := Ideal) k0_pay2 l q f (ix2 t d) = q (ix2 t d) * Ideal.logistic (q (ix2 t d)) * Ideal.exp (cumK l f t d) := by
  rw [← pay12_at]
  unfold k0_pay14
  generalize k0_pay12 k0_pay2 l f = g
  pointwise
theorem pay15_at (l : Vec Ideal S2x512 .f32) (f : Vec Ideal S32x512 .f32) (t : Fin 32) (d : Fin 512) : k0_pay15 (F := Ideal) k0_pay2 l f (ix2 t d) = (1 - gateK l f t d) * Ideal.exp (-cumK l f t d) := by
  rw [← pay12_at, ← pay11_at]
  unfold k0_pay15
  generalize k0_pay12 k0_pay2 l f = g
  generalize k0_pay11 l f = e
  pointwise
  rw [zero_sub]
theorem pay16_at (l : Vec Ideal S2x512 .f32) (f : Vec Ideal S32x512 .f32) (t : Fin 32) (d : Fin 512) : k0_pay16 (F := Ideal) k0_pay2 l f (ix2 t d) = (1 - gateK l f t d) * Ideal.exp (cumK l f 31 d - cumK l f t d) := by
  rw [← pay13_at, ← pay12_at, ← pay11_at]
  unfold k0_pay16
  generalize k0_pay12 k0_pay2 l f = g
  generalize k0_pay13 k0_pay2 l f = g'
  generalize k0_pay11 l f = e
  pointwise
theorem pay17_at (l : Vec Ideal S2x512 .f32) (f : Vec Ideal S32x512 .f32) (d : Fin 512) : k0_pay17 (F := Ideal) k0_pay2 l f (ix2 0 d) = Ideal.exp (cumK l f 31 d) := by
  rw [← pay13_at]
  unfold k0_pay17
  generalize k0_pay13 k0_pay2 l f = g
  pointwise
theorem new0_at (w : Vec Ideal S32x512 .f32) (kd : FVec Ideal S32x512 .bf16) (dec : FVec Ideal S1x512 .f32) (st : Vec Ideal S1x128x128 .f32) (v k : Fin 128) :
    k0_pay21 (F := Ideal) w kd dec st (ix3 0 v k) = st (ix3 0 v k) * dec (ix2 0 ⟨(k : ℕ), by omega⟩) + ∑ x : Fin 32, w (ix2 x ⟨(v : ℕ), by omega⟩) * kd (ix2 x ⟨(k : ℕ), by omega⟩) := by
  unfold k0_pay21 k0_pay18 k0_pay19
  pointwise
theorem new1_at (w : Vec Ideal S32x512 .f32) (kd : FVec Ideal S32x512 .bf16) (dec : FVec Ideal S1x512 .f32) (st : Vec Ideal S1x128x128 .f32) (v k : Fin 128) :
    k0_pay27 (F := Ideal) kd (k0_pay25 dec st) (k0_pay26 w) (ix3 0 v k) = st (ix3 0 v k) * dec (ix2 0 ⟨128 + (k : ℕ), by omega⟩) + ∑ x : Fin 32, w (ix2 x ⟨128 + (v : ℕ), by omega⟩) * kd (ix2 x ⟨128 + (k : ℕ), by omega⟩) := by
  unfold k0_pay27 k0_pay25 k0_pay26 k0_pay22 k0_pay23
  pointwise
theorem new2_at (w : Vec Ideal S32x512 .f32) (kd : FVec Ideal S32x512 .bf16) (dec : FVec Ideal S1x512 .f32) (st : Vec Ideal S1x128x128 .f32) (v k : Fin 128) :
    k0_pay31 (F := Ideal) w kd dec st (ix3 0 v k) = st (ix3 0 v k) * dec (ix2 0 ⟨256 + (k : ℕ), by omega⟩) + ∑ x : Fin 32, w (ix2 x ⟨256 + (v : ℕ), by omega⟩) * kd (ix2 x ⟨256 + (k : ℕ), by omega⟩) := by
  unfold k0_pay31 k0_pay28 k0_pay29
  pointwise
theorem new3_at (w : Vec Ideal S32x512 .f32) (kd : FVec Ideal S32x512 .bf16) (dec : FVec Ideal S1x512 .f32) (st : Vec Ideal S1x128x128 .f32) (v k : Fin 128) :
    k0_pay4 (F := Ideal) kd dec (k0_pay32 st) (k0_pay33 w) (ix3 0 v k) = st (ix3 0 v k) * dec (ix2 0 ⟨384 + (k : ℕ), by omega⟩) + ∑ x : Fin 32, w (ix2 x ⟨384 + (v : ℕ), by omega⟩) * kd (ix2 x ⟨384 + (k : ℕ), by omega⟩) := by
  unfold k0_pay4 k0_pay32 k0_pay33
  pointwise
theorem out0_at (p : IVec S32x32 1) (hp : ∀ t s : Fin 32, p (ix2 t s) = if s ≤ t then 1#1 else 0#1) (w : Vec Ideal S32x512 .f32) (qe ke : FVec Ideal S32x512 .bf16) (st : Vec Ideal S1x128x128 .f32) (t : Fin 32) (v : Fin 128) :
    k0_pay20 (F := Ideal) p w qe ke st (ix2 t v) = (∑ x : Fin 128, qe (ix2 t ⟨(x : ℕ), by omega⟩) * st (ix3 0 v x)) + ∑ y : Fin 32, (if y ≤ t then ∑ x : Fin 128, qe (ix2 t ⟨(x : ℕ), by omega⟩) * ke (ix2 y ⟨(x : ℕ), by omega⟩) else 0) * w (ix2 y ⟨(v : ℕ), by omega⟩) := by
  unfold k0_pay20 k0_pay18 k0_pay19
  pointwise
  simp only [hp, select_ite, ite_mul, zero_mul]
theorem out1_at (p : IVec S32x32 1) (hp : ∀ t s : Fin 32, p (ix2 t s) = if s ≤ t then 1#1 else 0#1) (w : Vec Ideal S32x512 .f32) (qe ke : FVec Ideal S32x512 .bf16) (st : Vec Ideal S1x128x128 .f32) (t : Fin 32) (v : Fin 128) :
    k0_pay24 (F := Ideal) p w qe ke st (ix2 t v) = (∑ x : Fin 128, qe (ix2 t ⟨128 + (x : ℕ), by omega⟩) * st (ix3 0 v x)) + ∑ y : Fin 32, (if y ≤ t then ∑ x : Fin 128, qe (ix2 t ⟨128 + (x : ℕ), by omega⟩) * ke (ix2 y ⟨128 + (x : ℕ), by omega⟩) else 0) * w (ix2 y ⟨128 + (v : ℕ), by omega⟩) := by
  unfold k0_pay24 k0_pay22 k0_pay23
  pointwise
  simp only [hp, select_ite, ite_mul, zero_mul]
theorem out2_at (p : IVec S32x32 1) (hp : ∀ t s : Fin 32, p (ix2 t s) = if s ≤ t then 1#1 else 0#1) (w : Vec Ideal S32x512 .f32) (qe ke : FVec Ideal S32x512 .bf16) (st : Vec Ideal S1x128x128 .f32) (t : Fin 32) (v : Fin 128) :
    k0_pay30 (F := Ideal) p w qe ke st (ix2 t v) = (∑ x : Fin 128, qe (ix2 t ⟨256 + (x : ℕ), by omega⟩) * st (ix3 0 v x)) + ∑ y : Fin 32, (if y ≤ t then ∑ x : Fin 128, qe (ix2 t ⟨256 + (x : ℕ), by omega⟩) * ke (ix2 y ⟨256 + (x : ℕ), by omega⟩) else 0) * w (ix2 y ⟨256 + (v : ℕ), by omega⟩) := by
  unfold k0_pay30 k0_pay28 k0_pay29
  pointwise
  simp only [hp, select_ite, ite_mul, zero_mul]

section
variable (w : Vec Ideal S32x512 .f32) (qe ke : FVec Ideal S32x512 .bf16) (a b c : FVec Ideal S32x128 .f32) (st : Vec Ideal S1x128x128 .f32) (t : Fin 32) (v : Fin 128)
theorem side0_at : k0_pay5 (F := Ideal) qe a b c (k0_pay32 st) (k0_pay33 w) (k0_pay34 qe ke) (ix2 t ⟨(v : ℕ), by omega⟩) = a (ix2 t v) := by
  unfold k0_pay5
  pointwise
theorem side1_at : k0_pay5 (F := Ideal) qe a b c (k0_pay32 st) (k0_pay33 w) (k0_pay34 qe ke) (ix2 t ⟨128 + (v : ℕ), by omega⟩) = b (ix2 t v) := by
  unfold k0_pay5
  pointwise
theorem side2_at : k0_pay5 (F := Ideal) qe a b c (k0_pay32 st) (k0_pay33 w) (k0_pay34 qe ke) (ix2 t ⟨256 + (v : ℕ), by omega⟩) = c (ix2 t v) := by
  unfold k0_pay5
  pointwise
  have h0 : ¬ 256 + (v : ℕ) < 128 := by omega
  have h1 : ¬ 256 + (v : ℕ) - 128 < 128 := by omega
  have h2 : 256 + (v : ℕ) - 128 - 128 < 128 := by omega
  rw [dif_neg h0, dif_neg h1, dif_pos h2]
  exact congrArg (fun j : Fin 128 => c (ix2 t j)) (Fin.ext (by show 256 + (v : ℕ) - 128 - 128 = v; omega))
theorem side3_at : k0_pay5 (F := Ideal) qe a b c (k0_pay32 st) (k0_pay33 w) (k0_pay34 qe ke) (ix2 t ⟨384 + (v : ℕ), by omega⟩) =
    (∑ x : Fin 128, qe (ix2 t ⟨384 + (x : ℕ), by omega⟩) * st (ix3 0 v x)) + ∑ y : Fin 32, (if y ≤ t then ∑ x : Fin 128, qe (ix2 t ⟨384 + (x : ℕ), by omega⟩) * ke (ix2 y ⟨384 + (x : ℕ), by omega⟩) else 0) * w (ix2 y ⟨384 + (v : ℕ), by omega⟩) := by
  have hp := pay1_at
  unfold k0_pay5 k0_pay32 k0_pay33 k0_pay34
  generalize k0_pay1 = p at hp
  pointwise
  simp only [hp, select_ite, ite_mul, zero_mul]
  have h0 : ¬ 384 + (v : ℕ) < 128 := by omega
  have h1 : ¬ 384 + (v : ℕ) - 128 < 128 := by omega
  have h2 : ¬ 384 + (v : ℕ) - 128 - 128 < 128 := by omega
  have e : 384 + (v : ℕ) - 128 - 128 - 128 = v := by omega
  rw [dif_neg h0, dif_neg h1, dif_neg h2]
  simp only [e]
end

section
variable (S : Vec Ideal S4x128x128 .f32) (v k : Fin 128)
theorem head0_at : head0 S (ix3 0 v k) = S (ix3 0 v k) := by unfold head0; pointwise
theorem head1_at : head1 S (ix3 0 v k) = S (ix3 1 v k) := by unfold head1; pointwise
theorem head2_at : head2 S (ix3 0 v k) = S (ix3 2 v k) := by unfold head2; pointwise
theorem head3_at : head3 S (ix3 0 v k) = S (ix3 3 v k) := by unfold head3; pointwise
theorem back6_at (st : Vec Ideal S1x128x128 .f32) : k0_pay6 (F := Ideal) st (ix4 0 0 k v) = st (ix3 0 v k) := by unfold k0_pay6; pointwise
theorem back7_at (st : Vec Ideal S1x128x128 .f32) : k0_pay7 (F := Ideal) st (ix4 0 0 k v) = st (ix3 0 v k) := by unfold k0_pay7; pointwise
theorem back8_at (st : Vec Ideal S1x128x128 .f32) : k0_pay8 (F := Ideal) st (ix4 0 0 k v) = st (ix3 0 v k) := by unfold k0_pay8; pointwise
theorem back9_at (st : Vec Ideal S1x128x128 .f32) : k0_pay9 (F := Ideal) st (ix4 0 0 k v) = st (ix3 0 v k) := by unfold k0_pay9; pointwise
end

theorem col0 (k : Fin 128) : (⟨(k : ℕ), by omega⟩ : Fin 512) = col 0 k := Fin.ext (by simp)
theorem idx3_eq (x : S1x128x128.Idx) (v k : Fin 128) (h0 : (x 0 : ℕ) < 1) (h1 : (x 1 : ℕ) = v) (h2 : (x 2 : ℕ) = k) : x = ix3 0 v k := by
  funext a
  fin_cases a
  · exact Fin.ext (by simpa using h0)
  · exact Fin.ext h1
  · exact Fin.ext h2

section
variable (l : Vec Ideal S2x512 .f32) (q f w : Vec Ideal S32x512 .f32) (S : Vec Ideal S4x128x128 .f32)

/-- A trip's state, of its rows and the state before it. -/
theorem newState_at (h : Fin 4) (y : S4x128x128.Idx) (hy : (y 0 : ℕ) = h) (v k : Fin 128) (hv : (y 1 : ℕ) = v) (hk : (y 2 : ℕ) = k) : newState l f w S y =
    S (ix3 h v k) * Ideal.exp (cumK l f 31 (col h k)) + ∑ x : Fin 32, w (ix2 x (col h v)) * ((1 - gateK l f x (col h k)) * Ideal.exp (cumK l f 31 (col h k) - cumK l f x (col h k))) := by
  unfold newState statePieces
  canon_tiles x e
  case piece0 =>
    rw [idx3_eq x v k x0_lt (e1.symm.trans hv) (e2.symm.trans hk)]
    obtain rfl : h = 3 := Fin.ext (by show (h : ℕ) = 3; omega)
    rw [new3_at, head3_at]
    simp only [pay16_at, pay17_at]
    rfl
  case piece1 =>
    rw [idx3_eq x v k x0_lt (e1.symm.trans hv) (e2.symm.trans hk)]
    obtain rfl : h = 2 := Fin.ext (by show (h : ℕ) = 2; omega)
    rw [new2_at, head2_at]
    simp only [pay16_at, pay17_at]
    rfl
  case piece2 =>
    rw [idx3_eq x v k x0_lt (e1.symm.trans hv) (e2.symm.trans hk)]
    obtain rfl : h = 1 := Fin.ext (by show (h : ℕ) = 1; omega)
    rw [new1_at, head1_at]
    simp only [pay16_at, pay17_at]
    rfl
  case piece3 =>
    rw [idx3_eq x v k x0_lt (e1.symm.trans hv) (e2.symm.trans hk)]
    obtain rfl : h = 0 := Fin.ext (by show (h : ℕ) = 0; omega)
    rw [new0_at, head0_at]
    simp only [pay16_at, pay17_at, col0]

/-- A trip's output, of its rows and the state before it. -/
theorem outRows_at (h : Fin 4) (t : Fin 32) (v : Fin 128) : outRows l q f w S (ix2 t (col h v)) =
    (∑ x : Fin 128, q (ix2 t (col h x)) * Ideal.logistic (q (ix2 t (col h x))) * Ideal.exp (cumK l f t (col h x)) * S (ix3 h v x))
      + ∑ y : Fin 32, (if y ≤ t then ∑ x : Fin 128, q (ix2 t (col h x)) * Ideal.logistic (q (ix2 t (col h x))) * Ideal.exp (cumK l f t (col h x)) * ((1 - gateK l f y (col h x)) * Ideal.exp (-cumK l f y (col h x))) else 0) * w (ix2 y (col h v)) := by
  unfold outRows
  fin_cases h
  · refine (congrArg _ (congrArg (ix2 t) (col0 v).symm)).trans ((side0_at _ _ _ _ _ _ _ t v).trans ?_)
    rw [out0_at _ pay1_at]
    simp only [pay14_at, pay15_at, head0_at, col0]
    rfl
  · refine (side1_at _ _ _ _ _ _ _ t v).trans ?_
    rw [out1_at _ pay1_at]
    simp only [pay14_at, pay15_at, head1_at]
    rfl
  · refine (side2_at _ _ _ _ _ _ _ t v).trans ?_
    rw [out2_at _ pay1_at]
    simp only [pay14_at, pay15_at, head2_at]
    rfl
  · refine (side3_at _ _ _ _ _ _ _ t v).trans ?_
    simp only [pay14_at, pay15_at, head3_at]
    rfl
end

end Cert.KernelIdeal.Value

end
-- ==== Proof.HgrnIdeal.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c)))⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

abbrev VO0_4 : View sig .tc .vmem S1024x512 .f32 := (Memref.whole cc0_stg4_0 : Memref sig .tc .vmem S1024x512 .f32).view
abbrev VO0_5 : View sig .tc .vmem S1x4x128x128 .f32 := (Memref.whole cc0_stg5_0 : Memref sig .tc .vmem S1x4x128x128 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x128x128 .f32 := win0_5.stage (cfg0.slots t 5)
abbrev hs0_5 (t : Fin cfg0.N) : (ms0_5 t).IsWhole := hstage0_5 ((cfg0.slots t 5).cast nbuf0_5)
abbrev scM0_0 : Memref sig .tc .vmem S4x128x128 .f32 := Memref.whole cc0_scratch0
abbrev VS0_0 : View sig .tc .vmem S4x128x128 .f32 := scM0_0.view

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.HgrnIdeal.Run.lean ====
module

public import proofs.«01_k».proof.Proof.HgrnIdeal.Runs
public import proofs.«01_k».proof.Proof.HgrnIdeal.Trip
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The state written whole. -/
def wholeState (S : Vec F S4x128x128 .f32) : List (View.Piece (Elt F) S4x128x128 .f32) :=
  [⟨Rect.unit ![0, 0, 0] S4x128x128.size inb_S4x128x128_S4x128x128_0_0_0, S⟩]

/-- The last state, a head at a time. -/
def heads7 (S : Vec F S4x128x128 .f32) : List (View.Piece (Elt F) S1x4x128x128 .f32) :=
  [⟨Rect.unit ![0, 3, 0, 0] S1x1x128x128.size inb_S1x4x128x128_S1x1x128x128_0_3_0_0, k0_pay9 (head3 S)⟩,
   ⟨Rect.unit ![0, 2, 0, 0] S1x1x128x128.size inb_S1x4x128x128_S1x1x128x128_0_2_0_0, k0_pay8 (head2 S)⟩,
   ⟨Rect.unit ![0, 1, 0, 0] S1x1x128x128.size inb_S1x4x128x128_S1x1x128x128_0_1_0_0, k0_pay7 (head1 S)⟩,
   ⟨Rect.unit ![0, 0, 0, 0] S1x1x128x128.size inb_S1x4x128x128_S1x1x128x128_0_0_0_0, k0_pay6 (head0 S)⟩]

theorem read_lb (arg5 : Memref sig .tc .vmem S2x512 .f32) (harg5 : arg5.IsWhole) (x3 : Vec F S2x512 .f32) :
    View.readAt (Elt F) arg5.view (Rect.unit (s := S2x512) ![0, 0] S2x512.size inb_S2x512_S2x512_0_0).toLoadRect (harg5.unread x3) = x3 :=
  (View.readAt_full _ _ _).trans (harg5.read_unread x3)

theorem out_trips (arg5 : Memref sig .tc .vmem S2x512 .f32) (harg5 : arg5.IsWhole) (arg8 : Memref sig .tc .vmem S4x128x128 .f32)
    (x0 x1 x2 : Vec F S1024x512 .f32) (x3 : Vec F S2x512 .f32) (S0 : Vec F S4x128x128 .f32) (G : BufTy.Contents (Elt F) arg8.view.ty)
    (hG : arg8.view.read (Elt F) G = S0) :
    outN (View.readAt (Elt F) arg5.view (Rect.unit (s := S2x512) ![0, 0] S2x512.size inb_S2x512_S2x512_0_0).toLoadRect (harg5.unread x3)) x0 x1 x2
      (arg8.view.read (Elt F) G) k0_t1_loop.trips = outN x3 x0 x1 x2 S0 k0_t1_loop.trips := by
  rw [read_lb, hG]

theorem trips_eq : k0_t1_loop.trips = 31 + 1 := by decide +kernel

theorem stateBuf_trips (arg5 : Memref sig .tc .vmem S2x512 .f32) (harg5 : arg5.IsWhole) (arg8 : Memref sig .tc .vmem S4x128x128 .f32) (harg8 : arg8.IsWhole)
    (x1 x2 : Vec F S1024x512 .f32) (x3 : Vec F S2x512 .f32) (S0 : Vec F S4x128x128 .f32) (G : BufTy.Contents (Elt F) arg8.view.ty)
    (hG : arg8.view.read (Elt F) G = S0) :
    stateBuf arg8 harg8 (View.readAt (Elt F) arg5.view (Rect.unit (s := S2x512) ![0, 0] S2x512.size inb_S2x512_S2x512_0_0).toLoadRect (harg5.unread x3)) x1 x2 G k0_t1_loop.trips
      = harg8.unread (stateN x3 x1 x2 S0 k0_t1_loop.trips) := by
  rw [read_lb, trips_eq, stateBuf, hG]

theorem state_trips (arg5 : Memref sig .tc .vmem S2x512 .f32) (harg5 : arg5.IsWhole) (arg8 : Memref sig .tc .vmem S4x128x128 .f32) (harg8 : arg8.IsWhole)
    (x1 x2 : Vec F S1024x512 .f32) (x3 : Vec F S2x512 .f32) (S0 : Vec F S4x128x128 .f32) (G : BufTy.Contents (Elt F) arg8.view.ty)
    (hG : arg8.view.read (Elt F) G = S0) :
    stateBuf arg8 harg8 (View.readAt (Elt F) arg5.view (Rect.unit (s := S2x512) ![0, 0] S2x512.size inb_S2x512_S2x512_0_0).toLoadRect (harg5.unread x3)) x1 x2 G k0_t1_loop.trips
      = arg8.view.writes (Elt F) (harg8.unread (stateN x3 x1 x2 S0 k0_t1_loop.trips)) (wholeState (stateN x3 x1 x2 S0 k0_t1_loop.trips)) := by
  rw [stateBuf_trips arg5 harg5 arg8 harg8 x1 x2 x3 S0 G hG]
  exact (harg8.eq_unread (View.read_writes_full _ _ _ _ _)).symm

/-- The heads read back after the loop. -/
theorem heads_trips (arg5 : Memref sig .tc .vmem S2x512 .f32) (harg5 : arg5.IsWhole) (arg8 : Memref sig .tc .vmem S4x128x128 .f32) (harg8 : arg8.IsWhole)
    (x1 x2 : Vec F S1024x512 .f32) (x3 : Vec F S2x512 .f32) (S0 : Vec F S4x128x128 .f32) (G : BufTy.Contents (Elt F) arg8.view.ty)
    (hG : arg8.view.read (Elt F) G = S0) :
    heads7 (arg8.view.read (Elt F) (stateBuf arg8 harg8 (View.readAt (Elt F) arg5.view (Rect.unit (s := S2x512) ![0, 0] S2x512.size inb_S2x512_S2x512_0_0).toLoadRect (harg5.unread x3)) x1 x2 G k0_t1_loop.trips))
      = heads7 (stateN x3 x1 x2 S0 k0_t1_loop.trips) := by
  rw [stateBuf_trips arg5 harg5 arg8 harg8 x1 x2 x3 S0 G hG, harg8.read_unread]

set_option maxHeartbeats 1000000 in
/-- The body's run in case A: the pieces it leaves are the output's rows after the loop and the state after the loop. -/
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S1024x512 .f32) (x1 : Vec F S1024x512 .f32) (x2 : Vec F S1024x512 .f32) (x3 : Vec F S2x512 .f32) :
    Σ' (L4 : List (View.Piece (Elt F) S1024x512 .f32)), Σ' (L5 : List (View.Piece (Elt F) S1x4x128x128 .f32)), { LS0 : List (View.Piece (Elt F) S4x128x128 .f32) //
      ∀ (xi5 : Vec F S1x4x128x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn_prompt i arg2 harg2 arg3 harg3 arg4 harg4 arg5 harg5 arg6 harg6 arg7 harg7 arg8 harg8) K } := by
  refine ⟨outN x3 x0 x1 x2 k0_pay3 k0_t1_loop.trips, [], wholeState (stateN x3 x1 x2 k0_pay3 k0_t1_loop.trips), fun xi5 E K => ?run⟩
  case run =>
    simp only [cc0_hgrn_prompt_eq_skeleton]; unfold cc0_hgrn_prompt_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists f4
      rw [← out_trips arg5 harg5 arg8 x0 x1 x2 x3 k0_pay3 (arg8.view.writes (Elt F) arg8.view.junk (wholeState k0_pay3)) (View.read_writes_full _ _ _ _ _)]
      iexact H4
    isplitl [H5]
    · iexists _; isplitr; · ipureintro; exact harg7.read_unread _
      iexact H5
    iexists (harg8.unread (stateN x3 x1 x2 k0_pay3 k0_t1_loop.trips))
    rw [← state_trips arg5 harg5 arg8 harg8 x1 x2 x3 k0_pay3 (arg8.view.writes (Elt F) arg8.view.junk (wholeState k0_pay3)) (View.read_writes_full _ _ _ _ _)]
    iexact HS0

set_option maxHeartbeats 1000000 in
/-- The body's run in case B: the pieces it leaves are the output's rows after the loop and the state after the loop. -/
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S1024x512 .f32) (x1 : Vec F S1024x512 .f32) (x2 : Vec F S1024x512 .f32) (x3 : Vec F S2x512 .f32) (xs0 : Vec F S4x128x128 .f32) :
    Σ' (L4 : List (View.Piece (Elt F) S1024x512 .f32)), Σ' (L5 : List (View.Piece (Elt F) S1x4x128x128 .f32)), { LS0 : List (View.Piece (Elt F) S4x128x128 .f32) //
      ∀ (xi5 : Vec F S1x4x128x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn_prompt i arg2 harg2 arg3 harg3 arg4 harg4 arg5 harg5 arg6 harg6 arg7 harg7 arg8 harg8) K } := by
  refine ⟨outN x3 x0 x1 x2 xs0 k0_t1_loop.trips, [], wholeState (stateN x3 x1 x2 xs0 k0_t1_loop.trips), fun xi5 E K => ?run⟩
  case run =>
    simp only [cc0_hgrn_prompt_eq_skeleton]; unfold cc0_hgrn_prompt_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists f4
      rw [← out_trips arg5 harg5 arg8 x0 x1 x2 x3 xs0 (harg8.unread xs0) (harg8.read_unread xs0)]
      iexact H4
    isplitl [H5]
    · iexists _; isplitr; · ipureintro; exact harg7.read_unread _
      iexact H5
    iexists (harg8.unread (stateN x3 x1 x2 xs0 k0_t1_loop.trips))
    rw [← state_trips arg5 harg5 arg8 harg8 x1 x2 x3 xs0 (harg8.unread xs0) (harg8.read_unread xs0)]
    iexact HS0

set_option maxHeartbeats 1000000 in
/-- The body's run in case C: the pieces it leaves are the output's rows after the loop, the heads of the last state and the state after the loop. -/
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) :
    Σ' (L4 : List (View.Piece (Elt F) S1024x512 .f32)), Σ' (L5 : List (View.Piece (Elt F) S1x4x128x128 .f32)), { LS0 : List (View.Piece (Elt F) S4x128x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn_prompt i arg2 harg2 arg3 harg3 arg4 harg4 arg5 harg5 arg6 harg6 arg7 harg7 arg8 harg8) K } := by
  refine ⟨outN x3 x0 x1 x2 xs0 k0_t1_loop.trips, heads7 (stateN x3 x1 x2 xs0 k0_t1_loop.trips), wholeState (stateN x3 x1 x2 xs0 k0_t1_loop.trips), fun E K => ?run⟩
  case run =>
    simp only [cc0_hgrn_prompt_eq_skeleton]; unfold cc0_hgrn_prompt_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists f4
      rw [← out_trips arg5 harg5 arg8 x0 x1 x2 x3 xs0 (harg8.unread xs0) (harg8.read_unread xs0)]
      iexact H4
    isplitl [H5]
    · iexists f5
      rw [← heads_trips arg5 harg5 arg8 harg8 x1 x2 x3 xs0 (harg8.unread xs0) (harg8.read_unread xs0)]
      iexact H5
    iexists (harg8.unread (stateN x3 x1 x2 xs0 k0_t1_loop.trips))
    rw [← state_trips arg5 harg5 arg8 harg8 x1 x2 x3 xs0 (harg8.unread xs0) (harg8.read_unread xs0)]
    iexact HS0

end Cert.KernelIdeal.Gen

end
-- ==== Proof.HgrnIdeal.Chain.lean ====
module

public import proofs.«01_k».proof.Proof.HgrnIdeal.Ker
public import proofs.«01_k».proof.Proof.HgrnIdeal.Run

@[expose] public section

set_option maxRecDepth 16384

noncomputable section

namespace Cert.KernelIdeal.Value

open Cert.KernelIdeal Cert.KernelIdeal.Gen Idealize.ShloMosaic Idealize.ShloMosaic.TcCoe Idealize.SL.Sem
open Cert.Reference4Ideal.Step (lowAt peak litBot col)
open Cert.ReferenceIdeal.Step (sumTo rowOf gateAt askAt valAt cumAt nextAt chunkOut stateAt)

section
variable {z : Vec Ideal S16384x5632 .f32} {l : Vec Ideal S2x512 .f32} {b : Fin 4} {j : Fin 128} {q f w : Vec Ideal S32x512 .f32}

theorem gate_row (hf : ∀ (s : Fin 32) (d : Fin 512), f (ix2 s d) = z (ix2 (rowOf b j s) ⟨2048 + (d : ℕ), by omega⟩)) (t : Fin 32) (d : Fin 512) :
    gateK l f t d = gateAt z l (rowOf b j t) d := by
  unfold gateK gateAt
  rw [hf]
theorem cum_row (hf : ∀ (s : Fin 32) (d : Fin 512), f (ix2 s d) = z (ix2 (rowOf b j s) ⟨2048 + (d : ℕ), by omega⟩)) (t : Fin 32) (d : Fin 512) :
    cumK l f t d = cumAt z l b j t d := by
  unfold cumK cumAt
  simp only [gate_row hf]

/-- A trip takes the state to the reference's next. -/
theorem new_row (hf : ∀ (s : Fin 32) (d : Fin 512), f (ix2 s d) = z (ix2 (rowOf b j s) ⟨2048 + (d : ℕ), by omega⟩))
    (hw : ∀ (s : Fin 32) (d : Fin 512), w (ix2 s d) = z (ix2 (rowOf b j s) ⟨2560 + (d : ℕ), by omega⟩))
    (S : Vec Ideal S4x128x128 .f32) (T : Fin 4 → Fin 128 → Fin 128 → EReal) (hS : ∀ h v k, S (ix3 h v k) = T h k v) (h : Fin 4) (v k : Fin 128) :
    newState l f w S (ix3 h v k) = nextAt z l b j T h k v := by
  rw [newState_at l f w S h (ix3 h v k) rfl v k rfl rfl, hS, cum_row hf]
  unfold nextAt valAt
  refine congrArg (_ + ·) (Finset.sum_congr rfl fun x _ => ?_)
  rw [hw, gate_row hf, cum_row hf, mul_comm]

/-- A trip's output is the reference's. -/
theorem out_row (hq : ∀ (s : Fin 32) (d : Fin 512), q (ix2 s d) = z (ix2 (rowOf b j s) ⟨1536 + (d : ℕ), by omega⟩))
    (hf : ∀ (s : Fin 32) (d : Fin 512), f (ix2 s d) = z (ix2 (rowOf b j s) ⟨2048 + (d : ℕ), by omega⟩))
    (hw : ∀ (s : Fin 32) (d : Fin 512), w (ix2 s d) = z (ix2 (rowOf b j s) ⟨2560 + (d : ℕ), by omega⟩))
    (S : Vec Ideal S4x128x128 .f32) (T : Fin 4 → Fin 128 → Fin 128 → EReal) (hS : ∀ h v k, S (ix3 h v k) = T h k v) (t : Fin 32) (h : Fin 4) (v : Fin 128) :
    outRows l q f w S (ix2 t (col h v)) = chunkOut z l b j T t h v := by
  rw [outRows_at]
  unfold chunkOut valAt askAt
  simp only [hq, hw, hS, gate_row hf, cum_row hf]
  refine congrArg₂ (· + ·) (Finset.sum_congr rfl fun x _ => mul_comm _ _) (Finset.sum_congr rfl fun y _ => mul_comm _ _)
end

theorem off1 : ∀ k : Fin k0_t1_loop.trips, k0_off1 k 0 = 32 * (k : ℕ) ∧ k0_off1 k 1 = 0 := by decide +kernel

theorem trips32 : k0_t1_loop.trips = 32 := trips_eq

theorem rows_at (x : Vec Ideal S1024x512 .f32) (k : Fin k0_t1_loop.trips) (s : Fin 32) (d : Fin 512) :
    rows x k (ix2 s d) = x (ix2 ⟨32 * (k : ℕ) + s, by have := k.isLt; have := trips32; omega⟩ d) := by
  unfold rows
  refine congrArg x (funext fun a => Fin.ext ?_)
  fin_cases a
  · show k0_off1 k 0 + 1 * (s : ℕ) = 32 * (k : ℕ) + s
    rw [(off1 k).1]; omega
  · show k0_off1 k 1 + 1 * (d : ℕ) = d
    rw [(off1 k).2]; omega

section
variable {z : Vec Ideal S16384x5632 .f32} {l : Vec Ideal S2x512 .f32} {b i : Fin 4} {x0 x1 x2 : Vec Ideal S1024x512 .f32} {S0 : Vec Ideal S4x128x128 .f32}

theorem stateAt_succ (z : Vec Ideal S16384x5632 .f32) (l : Vec Ideal S2x512 .f32) (b : Fin 4) (n : ℕ) (hn : n < 128) :
    stateAt z l b (n + 1) = nextAt z l b ⟨n, hn⟩ (stateAt z l b n) := by
  rw [stateAt]
  exact dif_pos hn

/-- A block's chunk, among its sequence's. -/
abbrev chunkOf (i : Fin 4) (n : Fin 32) : Fin 128 := ⟨(i : ℕ) * 32 + n, by omega⟩

/-- A block holds a tile's rows of some columns. -/
def Holds (z : Vec Ideal S16384x5632 .f32) (b i : Fin 4) (x : Vec Ideal S1024x512 .f32) (o : ℕ) (ho : o + 512 ≤ 5632) : Prop :=
  ∀ (r : Fin 1024) (d : Fin 512), x (ix2 r d) = z (ix2 ⟨(b : ℕ) * 4096 + (i : ℕ) * 1024 + r, by omega⟩ ⟨o + (d : ℕ), by omega⟩)

theorem rows_of {x : Vec Ideal S1024x512 .f32} {o : ℕ} {ho : o + 512 ≤ 5632} (hx : Holds z b i x o ho) (n : Fin 32) (s : Fin 32) (d : Fin 512) :
    rows x ⟨n, by have := trips32; omega⟩ (ix2 s d) = z (ix2 (rowOf b (chunkOf i n) s) ⟨o + (d : ℕ), by omega⟩) := by
  rw [rows_at, hx]
  refine congrArg z ?_
  congr 1
  exact Fin.ext (by dsimp only; omega)

/-- The state after some of a block's chunks is the reference's. -/
theorem state_n (h1 : Holds z b i x1 2048 (by omega)) (h2 : Holds z b i x2 2560 (by omega))
    (hS : ∀ h v k, S0 (ix3 h v k) = stateAt z l b ((i : ℕ) * 32) h k v) : ∀ n ≤ 32, ∀ (h : Fin 4) (v k : Fin 128),
    stateN l x1 x2 S0 n (ix3 h v k) = stateAt z l b ((i : ℕ) * 32 + n) h k v
  | 0, _, h, v, k => hS h v k
  | n + 1, hn, h, v, k => by
    refine (congrFun (stateN_succ l x1 x2 S0 ⟨n, by have := trips32; omega⟩) _).trans ?_
    refine (new_row (rows_of h1 ⟨n, by omega⟩) (rows_of h2 ⟨n, by omega⟩) _ _ (state_n h1 h2 hS n (by omega)) h v k).trans ?_
    exact (congrFun (congrFun (congrFun (stateAt_succ z l b ((i : ℕ) * 32 + n) (by omega)) h) k) v).symm

/-- The output's pieces hold the reference's output. -/
theorem out_n (h0 : Holds z b i x0 1536 (by omega)) (h1 : Holds z b i x1 2048 (by omega)) (h2 : Holds z b i x2 2560 (by omega))
    (hS : ∀ h v k, S0 (ix3 h v k) = stateAt z l b ((i : ℕ) * 32) h k v) (j t : Fin 32) (h : Fin 4) (v : Fin 128) : ∀ n ≤ 32,
    View.AllAt (outN l x0 x1 x2 S0 n) (ix2 ⟨32 * (j : ℕ) + t, by omega⟩ (col h v)) (chunkOut z l b (chunkOf i j) (stateAt z l b ((i : ℕ) * 32 + j)) t h v)
  | 0, _ => View.allAt_nil _ _
  | n + 1, hn => by
    have hk : n < k0_t1_loop.trips := by have := trips32; omega
    rw [show n + 1 = (⟨n, hk⟩ : Fin k0_t1_loop.trips).val + 1 from rfl, outN_succ l x0 x1 x2 S0 ⟨n, hk⟩]
    refine View.allAt_cons _ _ _ (fun x hx => ?_) (out_n h0 h1 h2 hS j t h v n (by omega))
    have e0 : k0_off1 ⟨n, hk⟩ 0 + 1 * (x 0 : ℕ) = 32 * (j : ℕ) + t := congrArg (fun y : S1024x512.Idx => (y 0 : ℕ)) hx
    have e1 : k0_off1 ⟨n, hk⟩ 1 + 1 * (x 1 : ℕ) = (col h v : ℕ) := congrArg (fun y : S1024x512.Idx => (y 1 : ℕ)) hx
    rw [(off1 ⟨n, hk⟩).1] at e0
    rw [(off1 ⟨n, hk⟩).2] at e1
    have l0 : (x 0 : ℕ) < 32 := (x 0).isLt
    have ht := t.isLt
    dsimp only at e0
    obtain rfl : n = (j : ℕ) := by omega
    have hx' : x = ix2 t (col h v) := by
      funext a
      fin_cases a
      · exact Fin.ext (by show (x 0 : ℕ) = t; omega)
      · exact Fin.ext (by show (x 1 : ℕ) = (col h v : ℕ); omega)
    rw [hx']
    exact out_row (rows_of h0 j) (rows_of h1 j) (rows_of h2 j) _ _ (state_n h1 h2 hS j (by omega)) t h v

end

theorem idx4_eq (x : S1x1x128x128.Idx) (k v : Fin 128) (hk : (x 2 : ℕ) = k) (hv : (x 3 : ℕ) = v) : x = ix4 0 0 k v := by
  funext a
  fin_cases a
  · exact Fin.ext (Nat.lt_one_iff.mp (x 0).isLt)
  · exact Fin.ext (Nat.lt_one_iff.mp (x 1).isLt)
  · exact Fin.ext hk
  · exact Fin.ext hv

/-- The state that a sequence's last block hands over. -/
theorem heads_at (S : Vec Ideal S4x128x128 .f32) (h : Fin 4) (k v : Fin 128) (y : S1x4x128x128.Idx) (hy : (y 1 : ℕ) = h) (hk : (y 2 : ℕ) = k) (hv : (y 3 : ℕ) = v) :
    View.canon (heads7 S) y = S (ix3 h v k) := by
  unfold heads7
  canon_tiles x e
  case piece0 =>
    rw [idx4_eq x k v (e2.symm.trans hk) (e3.symm.trans hv)]
    obtain rfl : h = 3 := Fin.ext (by show (h : ℕ) = 3; omega)
    exact (back9_at _ _ _).trans (head3_at _ _ _)
  case piece1 =>
    rw [idx4_eq x k v (e2.symm.trans hk) (e3.symm.trans hv)]
    obtain rfl : h = 2 := Fin.ext (by show (h : ℕ) = 2; omega)
    exact (back8_at _ _ _).trans (head2_at _ _ _)
  case piece2 =>
    rw [idx4_eq x k v (e2.symm.trans hk) (e3.symm.trans hv)]
    obtain rfl : h = 1 := Fin.ext (by show (h : ℕ) = 1; omega)
    exact (back7_at _ _ _).trans (head1_at _ _ _)
  case piece3 =>
    rw [idx4_eq x k v (e2.symm.trans hk) (e3.symm.trans hv)]
    obtain rfl : h = 0 := Fin.ext (by show (h : ℕ) = 0; omega)
    exact (back6_at _ _ _).trans (head0_at _ _ _)

end Cert.KernelIdeal.Value

end
-- ==== Proof.HgrnIdeal.Frame.lean ====
module

public import proofs.«01_k».proof.Proof.HgrnIdeal.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover_rows (v5 : Vec F S2x512 .f32) (x0 x1 x2 : Vec F S1024x512 .f32) (S0 : Vec F S4x128x128 .f32) (y : S1024x512.Idx) :
    ∃ pc ∈ outN v5 x0 x1 x2 S0 k0_t1_loop.trips, y ∈ pc.1.set :=
  View.cover_of_tiledL (outN v5 x0 x1 x2 S0 k0_t1_loop.trips) S32x512.size (by sl_kernel_rfl) y

theorem cover_heads (S : Vec F S4x128x128 .f32) (y : S1x4x128x128.Idx) : ∃ pc ∈ heads7 S, y ∈ pc.1.set :=
  View.cover_of_tiledL (heads7 S) S1x1x128x128.size (by sl_kernel_rfl) y

theorem cover_whole (S : Vec F S4x128x128 .f32) (y : S4x128x128.Idx) : ∃ pc ∈ wholeState S, y ∈ pc.1.set :=
  View.cover_of_tiledL (wholeState S) S4x128x128.size (by sl_kernel_rfl) y

theorem cover0_A_4 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S1024x512 .f32) (x1 : Vec F S1024x512 .f32) (x2 : Vec F S1024x512 .f32) (x3 : Vec F S2x512 .f32) (y : S1024x512.Idx) :
    ∃ pc ∈ (kernelRun0_A c i arg2 harg2 arg3 harg3 arg4 harg4 arg5 harg5 arg6 harg6 arg7 harg7 arg8 harg8 hc0 hc1 x0 x1 x2 x3).1, y ∈ pc.1.set :=
  cover_rows _ _ _ _ _ y

def out0_A_4 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S1024x512 .f32) (x1 : Vec F S1024x512 .f32) (x2 : Vec F S1024x512 .f32) (x3 : Vec F S2x512 .f32) : Vec F S1024x512 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

def out0_A_5 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S1024x512 .f32) (x1 : Vec F S1024x512 .f32) (x2 : Vec F S1024x512 .f32) (x3 : Vec F S2x512 .f32) : Vec F S1x4x128x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3).2.1)

theorem scover0_A_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S1024x512 .f32) (x1 : Vec F S1024x512 .f32) (x2 : Vec F S1024x512 .f32) (x3 : Vec F S2x512 .f32) (y : S4x128x128.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  cover_whole _ y

def sout0_A_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S1024x512 .f32) (x1 : Vec F S1024x512 .f32) (x2 : Vec F S1024x512 .f32) (x3 : Vec F S2x512 .f32) : Vec F S4x128x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.2.1)

theorem cover0_B_4 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S1024x512 .f32) (x1 : Vec F S1024x512 .f32) (x2 : Vec F S1024x512 .f32) (x3 : Vec F S2x512 .f32) (xs0 : Vec F S4x128x128 .f32) (y : S1024x512.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  cover_rows _ _ _ _ _ y

def out0_B_4 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S1024x512 .f32) (x1 : Vec F S1024x512 .f32) (x2 : Vec F S1024x512 .f32) (x3 : Vec F S2x512 .f32) (xs0 : Vec F S4x128x128 .f32) : Vec F S1024x512 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0).1)

def out0_B_5 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S1024x512 .f32) (x1 : Vec F S1024x512 .f32) (x2 : Vec F S1024x512 .f32) (x3 : Vec F S2x512 .f32) (xs0 : Vec F S4x128x128 .f32) : Vec F S1x4x128x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 xs0).2.1)

theorem scover0_B_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S1024x512 .f32) (x1 : Vec F S1024x512 .f32) (x2 : Vec F S1024x512 .f32) (x3 : Vec F S2x512 .f32) (xs0 : Vec F S4x128x128 .f32) (y : S4x128x128.Idx) :
    ∃ pc ∈ (kernelRun0_B c i arg2 harg2 arg3 harg3 arg4 harg4 arg5 harg5 arg6 harg6 arg7 harg7 arg8 harg8 hc0 hc1 x0 x1 x2 x3 xs0).2.2.1, y ∈ pc.1.set :=
  cover_whole _ y

def sout0_B_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S1024x512 .f32) (x1 : Vec F S1024x512 .f32) (x2 : Vec F S1024x512 .f32) (x3 : Vec F S2x512 .f32) (xs0 : Vec F S4x128x128 .f32) : Vec F S4x128x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).2.2.1)

theorem cover0_C_4 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) (y : S1024x512.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  cover_rows _ _ _ _ _ y

def out0_C_4 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) : Vec F S1024x512 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)

theorem cover0_C_5 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) (y : S1x4x128x128.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  cover_heads _ y

def out0_C_5 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) : Vec F S1x4x128x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)

theorem scover0_C_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) (y : S4x128x128.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  cover_whole _ y

def sout0_C_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S2x512 .f32) (harg5 : arg5.IsWhole) (arg6 : Memref sig .tc .vmem S1024x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S1024x512 .f32) (x1 : Vec F S1024x512 .f32) (x2 : Vec F S1024x512 .f32) (x3 : Vec F S2x512 .f32) (xs0 : Vec F S4x128x128 .f32) : Vec F S4x128x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

def outsAt0 (c : Dev nD) : (n : ℕ) → n < cfg0.N → Vec F S1024x512 .f32 × Vec F S1x4x128x128 .f32 × Vec F S4x128x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by have hN : n + 1 < 16 := lt_of_lt_of_eq hn (show cfg0.N = 16 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_4 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
      · rw [PhiS_castSucc m c t, PhiS_pos m c _ _ hz]
        rw [outsAt0_A m c t h0 h1]
        unfold out0_A_4 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_4 out0_C_5 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_4 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _)
        iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.HgrnIdeal.Value.lean ====
module

public import proofs.«01_k».proof.Proof.HgrnIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post4 m r h c,
      post5 m r h c,
      kept_main_arg0 m r h c,
      kept_main_arg1 m r h c⟩)
    (run_main m ρ)

end Cert.KernelIdeal.Value

end
-- ==== Proof.HgrnIdeal.Blocks.lean ====
module

public import proofs.«01_k».proof.Proof.HgrnIdeal.Chain
public import proofs.«01_k».proof.Proof.HgrnIdeal.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Reference4Ideal.Step (lowAt peak litBot col)
open Cert.ReferenceIdeal.Step (sumTo rowOf gateAt askAt valAt cumAt nextAt chunkOut stateAt)

variable (m : (ℓ : Loc nD τ sig) → Buf (Elt Ideal) ℓ) (ρ : Dev nD → PrngReg)

/-- The grid's step is the tile. -/
theorem idx : ∀ t : Fin cfg0.N,
    (win0_0.index t 0 = (t : ℕ) ∧ win0_0.index t 1 = 3)
    ∧ (win0_1.index t 0 = (t : ℕ) ∧ win0_1.index t 1 = 4)
    ∧ (win0_2.index t 0 = (t : ℕ) ∧ win0_2.index t 1 = 5)
    ∧ (win0_3.index t 0 = 0 ∧ win0_3.index t 1 = 0)
    ∧ (win0_4.index t 0 = (t : ℕ) ∧ win0_4.index t 1 = 0)
    ∧ (win0_5.index t 0 = (t : ℕ) / 4 ∧ win0_5.index t 1 = 0 ∧ win0_5.index t 2 = 0 ∧ win0_5.index t 3 = 0) :=
  (by decide +kernel : ∀ t : Fin grid0.N, _)

theorem tiles16 : cfg0.N = 16 := N_0

/-- A tile's sequence, and its place there. -/
def seqOf (t : Fin cfg0.N) : Fin 4 := ⟨(t : ℕ) / 4, by have := t.isLt; have := tiles16; omega⟩
def tileOf (t : Fin cfg0.N) : Fin 4 := ⟨(t : ℕ) % 4, by omega⟩

variable (c : Dev nD) (t : Fin cfg0.N)

/-- The projection and the lower bound parameter. -/
abbrev zIn : Vec Ideal S16384x5632 .f32 := m ((c : Thread nD τ).loc main_arg0)
abbrev lIn : Vec Ideal S2x512 .f32 := m ((c : Thread nD τ).loc main_arg1)

theorem holds0 : Holds (zIn m c) (seqOf t) (tileOf t) (iblk m c 0 t) 1536 (by omega) := by
  intro r d
  have hi : ((View.whole main_arg0).slice (win0_0.rect t)).emb (ix2 r d) = ix2 ⟨(seqOf t : ℕ) * 4096 + (tileOf t : ℕ) * 1024 + r, by omega⟩ ⟨1536 + (d : ℕ), by omega⟩ := by
    blk_ext [seqOf, tileOf, idx t]
  exact congrArg (V m c main_arg0) hi
theorem holds1 : Holds (zIn m c) (seqOf t) (tileOf t) (iblk m c 1 t) 2048 (by omega) := by
  intro r d
  have hi : ((View.whole main_arg0).slice (win0_1.rect t)).emb (ix2 r d) = ix2 ⟨(seqOf t : ℕ) * 4096 + (tileOf t : ℕ) * 1024 + r, by omega⟩ ⟨2048 + (d : ℕ), by omega⟩ := by
    blk_ext [seqOf, tileOf, idx t]
  exact congrArg (V m c main_arg0) hi
theorem holds2 : Holds (zIn m c) (seqOf t) (tileOf t) (iblk m c 2 t) 2560 (by omega) := by
  intro r d
  have hi : ((View.whole main_arg0).slice (win0_2.rect t)).emb (ix2 r d) = ix2 ⟨(seqOf t : ℕ) * 4096 + (tileOf t : ℕ) * 1024 + r, by omega⟩ ⟨2560 + (d : ℕ), by omega⟩ := by
    blk_ext [seqOf, tileOf, idx t]
  exact congrArg (V m c main_arg0) hi
theorem low_in : iblk m c 3 t = lIn m c := by
  funext y
  idx_vars y
  blk_ext! [iblk, V, idx t]

/-- The state a tile starts from. -/
def firstState : Vec Ideal S4x128x128 .f32 :=
  if h : (t : ℕ) % 4 = 0 then k0_pay3 (F := Ideal) else (outsAt0 m c ((t : ℕ) - 1) (by have := t.isLt; omega)).2.2

theorem out_parts : (outsAt0 m c t.val t.isLt).1 = View.canon (outN (iblk m c 3 t) (iblk m c 0 t) (iblk m c 1 t) (iblk m c 2 t) (firstState m c t) k0_t1_loop.trips)
    ∧ (outsAt0 m c t.val t.isLt).2.2 = stateN (iblk m c 3 t) (iblk m c 1 t) (iblk m c 2 t) (firstState m c t) k0_t1_loop.trips := by
  unfold firstState
  by_cases h0 : (t : ℕ) % 4 = 0
  · rw [dif_pos h0, outsAt0_A m c t h0 (by omega)]
    dsimp only
    unfold out0_A_4 sout0_A_0
    exact ⟨(View.read_writes_eq_canon VO0_4 _ _ (cover0_A_4 _ _ _ _ _ _ _ _ _ _ _ _ _ _ _ _ _ _ _ _ _ _)).trans rfl, (View.read_writes_full VS0_0 _ _ _ []).trans rfl⟩
  · rw [dif_neg h0]
    by_cases h1 : (t : ℕ) % 4 = 3
    · rw [outsAt0_C m c t h0 h1]
      dsimp only
      unfold out0_C_4 sout0_C_0
      exact ⟨(View.read_writes_eq_canon VO0_4 _ _ (cover0_C_4 _ _ _ _ _ _ _ _ _ _ _ _ _ _ _ _ _ _ _ _ _ _ _)).trans rfl, (View.read_writes_full VS0_0 _ _ _ []).trans rfl⟩
    · rw [outsAt0_B m c t h0 h1]
      dsimp only
      unfold out0_B_4 sout0_B_0
      exact ⟨(View.read_writes_eq_canon VO0_4 _ _ (cover0_B_4 _ _ _ _ _ _ _ _ _ _ _ _ _ _ _ _ _ _ _ _ _ _ _)).trans rfl, (View.read_writes_full VS0_0 _ _ _ []).trans rfl⟩

theorem last_parts (h1 : (t : ℕ) % 4 = 3) : (outsAt0 m c t.val t.isLt).2.1 = View.canon (heads7 (outsAt0 m c t.val t.isLt).2.2) := by
  rw [(out_parts m c t).2]
  unfold firstState
  have h0 : ¬ (t : ℕ) % 4 = 0 := by omega
  rw [dif_neg h0, outsAt0_C m c t h0 h1]
  dsimp only
  unfold out0_C_5
  exact (View.read_writes_eq_canon VO0_5 _ _ (cover0_C_5 _ _ _ _ _ _ _ _ _ _ _ _ _ _ _ _ _ _ _ _ _ _ _)).trans rfl

theorem zero_at (y : S4x128x128.Idx) : k0_pay3 (F := Ideal) y = 0 := by
  idx_vars y
  unfold k0_pay3
  pointwise

/-- A tile starts from, and ends with, the reference's state. -/
theorem first_at : ∀ n, (hn : n < cfg0.N) → (∀ h v k, firstState m c ⟨n, hn⟩ (ix3 h v k) = stateAt (zIn m c) (lIn m c) (seqOf ⟨n, hn⟩) ((tileOf ⟨n, hn⟩ : ℕ) * 32) h k v) := by
  intro n
  induction n with
  | zero =>
    intro hn h v k
    exact zero_at (ix3 h v k)
  | succ n ih =>
    intro hn h v k
    by_cases h0 : (n + 1) % 4 = 0
    · unfold firstState
      rw [dif_pos h0]
      show _ = stateAt _ _ _ ((n + 1) % 4 * 32) h k v
      rw [h0]
      exact zero_at (ix3 h v k)
    · unfold firstState
      rw [dif_neg h0]
      have hn' : n < cfg0.N := by omega
      refine (congrFun (out_parts m c ⟨n, hn'⟩).2 _).trans ?_
      rw [low_in, trips32]
      refine (state_n (holds1 m c ⟨n, hn'⟩) (holds2 m c ⟨n, hn'⟩) (ih hn') 32 le_rfl h v k).trans ?_
      have hs : seqOf ⟨n, hn'⟩ = seqOf ⟨n + 1, hn⟩ := Fin.ext (by show n / 4 = (n + 1) / 4; omega)
      have ht : (tileOf ⟨n, hn'⟩ : ℕ) * 32 + 32 = (tileOf ⟨n + 1, hn⟩ : ℕ) * 32 := by show n % 4 * 32 + 32 = (n + 1) % 4 * 32; omega
      rw [hs, ht]

theorem last_at (h : Fin 4) (v k : Fin 128) : (outsAt0 m c t.val t.isLt).2.2 (ix3 h v k) = stateAt (zIn m c) (lIn m c) (seqOf t) ((tileOf t : ℕ) * 32 + 32) h k v := by
  rw [(out_parts m c t).2, low_in, trips32]
  exact state_n (holds1 m c t) (holds2 m c t) (first_at m c t.val t.isLt) 32 le_rfl h v k

theorem tile_at (j s : Fin 32) (h : Fin 4) (v : Fin 128) : (outsAt0 m c t.val t.isLt).1 (ix2 ⟨32 * (j : ℕ) + s, by omega⟩ (col h v)) =
    chunkOut (zIn m c) (lIn m c) (seqOf t) (chunkOf (tileOf t) j) (stateAt (zIn m c) (lIn m c) (seqOf t) ((tileOf t : ℕ) * 32 + j)) s h v := by
  rw [(out_parts m c t).1]
  refine View.canon_eq_of_allAt _ _ _ (cover_rows _ _ _ _ _ _) ?_
  rw [low_in, trips32]
  exact out_n (holds0 m c t) (holds1 m c t) (holds2 m c t) (first_at m c t.val t.isLt) j s h v 32 le_rfl

/-- The output that the kernel leaves. -/
theorem final4_of (G : Vec Ideal S16384x512 .f32)
    (hG : ∀ (b : Fin 4) (j : Fin 128) (s : Fin 32) (h : Fin 4) (v : Fin 128), G (ix2 (rowOf b j s) (col h v)) = chunkOut (zIn m c) (lIn m c) b j (stateAt (zIn m c) (lIn m c) b j) s h v) :
    (dats m 0 c).arrAt 4 cfg0.N = G := by
  refine (dats m 0 c).arrAt_eq_of_covers 4 _ (by decide +kernel) fun t hf y => ?_
  blk_simp
  rw [after0_4]
  idx_vars y
  have hi : ((View.whole main_v0_0).slice (win0_4.rect t)).emb (ix2 y0 y1)
      = ix2 (rowOf (seqOf t) (chunkOf (tileOf t) ⟨(y0 : ℕ) / 32, by omega⟩) ⟨(y0 : ℕ) % 32, by omega⟩) (col ⟨(y1 : ℕ) / 128, by omega⟩ ⟨(y1 : ℕ) % 128, by omega⟩) := by
    blk_ext [seqOf, tileOf, idx t]
  rw [hi, hG]
  have hy : (ix2 y0 y1 : S1024x512.Idx) = ix2 ⟨32 * ((y0 : ℕ) / 32) + (y0 : ℕ) % 32, by omega⟩ (col ⟨(y1 : ℕ) / 128, by omega⟩ ⟨(y1 : ℕ) % 128, by omega⟩) := by
    congr 1 <;> exact Fin.ext (by dsimp only; omega)
  rw [hy]
  exact tile_at m c t ⟨(y0 : ℕ) / 32, by omega⟩ ⟨(y0 : ℕ) % 32, by omega⟩ _ _

/-- The state that the kernel leaves. -/
theorem final5_of (G : Vec Ideal S4x4x128x128 .f32)
    (hG : ∀ (b h : Fin 4) (k v : Fin 128), G (ix4 b h k v) = stateAt (zIn m c) (lIn m c) b 128 h k v) :
    (dats m 0 c).arrAt 5 cfg0.N = G := by
  refine (dats m 0 c).arrAt_eq_of_covers 5 _ (by decide +kernel) fun t hf y => ?_
  have h3 : (t : ℕ) % 4 = 3 := (by decide +kernel : ∀ t : Fin cfg0.N, (cfg0.win 5).flush t = true → (t : ℕ) % 4 = 3) t hf
  blk_simp
  rw [after0_5]
  idx_vars y
  have hi : ((View.whole main_v0_1).slice (win0_5.rect t)).emb (ix4 y0 y1 y2 y3) = ix4 (seqOf t) y1 y2 y3 := by
    blk_ext [seqOf, idx t]
  rw [hi, hG, last_parts m c t h3]
  refine (heads_at _ y1 y2 y3 _ rfl rfl rfl).trans ((last_at m c t y1 y3 y2).trans ?_)
  show stateAt _ _ _ ((t : ℕ) % 4 * 32 + 32) _ _ _ = _
  rw [h3]

end Cert.KernelIdeal.Value

end
-- ==== Proof.HgrnIdeal.Claim.lean ====
module

public import proofs.«01_k».proof.Proof.HgrnIdeal.Blocks
public import Idealize.ShloMosaic.Adequacy

@[expose] public section

set_option maxRecDepth 16384

noncomputable section

namespace Cert.HgrnClaim

open Idealize.ShloMosaic Idealize.ShloMosaic.TcCoe Idealize.SL.Sem
open Cert.ReferenceIdeal.Step (out_at upto_states)
open Cert.KernelIdeal.Value (final4_of final5_of)

/-- The reference terminates, leaves its arguments and has no counters. -/
theorem frame : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Trips.run_states m ρ)

/-- The kernel's output and last state are the reference's. -/
theorem algebraic : Cert.algebraic_KernelIdeal_ReferenceIdeal := by
  intro m g m' g' hp he
  refine ⟨fun c => (Cert.KernelIdeal.Gen.dats m 0 c).arrAt 4 Cert.KernelIdeal.cfg0.N, fun c => (Cert.KernelIdeal.Gen.dats m 0 c).arrAt 5 Cert.KernelIdeal.cfg0.N, Cert.KernelIdeal.Value.run_blocks m g, ?_⟩
  refine (θ_run _ _ _).mono (fun r h c => ?_) (Cert.ReferenceIdeal.Trips.run_states m' g')
  obtain ⟨h0, h1⟩ := he c
  obtain ⟨hv, hw, hrest⟩ := h c
  have hs := upto_states m' c 128 le_rfl
  rw [h0, h1] at hs
  refine ⟨hv.trans ?_, hw.trans ?_, hrest⟩
  · exact (final4_of m c _ fun b j s h v => (out_at _ b j s h v).trans (hs.out j b s h v j.isLt)).symm
  · exact (final5_of m c _ fun b h k v => hs.state b h k v).symm

end Cert.HgrnClaim

end
-- ==== Proof.MergeSampleRef.lean ====
module

public import proofs.«01_k».proof.Defs
public import proofs.«01_k».proof.Proof.MergeRef
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Reference6Ideal.Value

open Cert.Reference6Ideal Cert.Reference6Ideal.Gen Idealize.ShloMosaic Idealize.ShloMosaic.TcCoe Idealize.SL.Sem Idealize.ShloMosaic.StableHlo

open Cert.Reference3Ideal.Value (headNorm)

/-- One column `k` of the two gated branches of row `n`, before the last product. -/
def branches (x0 : Vec Ideal S128x512 .f32) (x1 : Vec Ideal S128x1x512 .f32) (x2 : Vec Ideal S128x5632 .f32) (x5 : Vec Ideal S1x128 .f32) (x6 : Vec Ideal S1x512x1024 .f32) (x7 : Vec Ideal S1x512x1024 .f32) (n : Fin 128) (k : Fin 1024) : EReal :=
  Ideal.logistic (x2 (ix2 n ⟨3584 + (k : ℕ), by omega⟩)) * ∑ i : Fin 512, x0 (ix2 n i) * x6 (ix3 0 i k)
    + Ideal.logistic (x2 (ix2 n ⟨4608 + (k : ℕ), by omega⟩)) * ∑ i : Fin 512,
        headNorm (fun z => x1 (ix3 n 0 z)) (fun d => x5 (ix2 0 d)) i
          * (x2 (ix2 n ⟨3072 + (i : ℕ), by omega⟩) * Ideal.logistic (x2 (ix2 n ⟨3072 + (i : ℕ), by omega⟩))) * x7 (ix3 0 i k)

/-- One entry of the merged layer: row `n`, column `j`. -/
def mergedAt (x0 : Vec Ideal S128x512 .f32) (x1 : Vec Ideal S128x1x512 .f32) (x2 : Vec Ideal S128x5632 .f32) (x3 : Vec Ideal S128x1x1024 .f32) (x4 : Vec Ideal S1x128x1024 .f32) (x5 : Vec Ideal S1x128 .f32) (x6 : Vec Ideal S1x512x1024 .f32) (x7 : Vec Ideal S1x512x1024 .f32) (x8 : Vec Ideal S1x1024x1024 .f32) (n : Fin 128) (j : Fin 1024) : EReal :=
  x3 (ix3 n 0 j) + x4 (ix3 0 n j)
        * ∑ k : Fin 1024, branches x0 x1 x2 x5 x6 x7 n k * x8 (ix3 0 k j)

/-- What the reference computes, as one term of its arguments. -/
def merged (x0 : Vec Ideal S128x512 .f32) (x1 : Vec Ideal S128x1x512 .f32) (x2 : Vec Ideal S128x5632 .f32) (x3 : Vec Ideal S128x1x1024 .f32) (x4 : Vec Ideal S1x128x1024 .f32) (x5 : Vec Ideal S1x128 .f32) (x6 : Vec Ideal S1x512x1024 .f32) (x7 : Vec Ideal S1x512x1024 .f32) (x8 : Vec Ideal S1x1024x1024 .f32) : Vec Ideal S128x1024 .f32 :=
  shapeCast _ (addf (F := Ideal) x3 (mulf (F := Ideal) (shapeCast _ x4 shapeCasts_S1x128x1024_S128x1x1024) (Host.dotGeneral (F := Ideal) (φ₁ := .f32) (φ₂ := .f32) dot_S128x1x1024_S1024x1024_S128x1x1024_2_0_01_1_n_n none (addf (F := Ideal) (mulf (F := Ideal) (Host.divf (F := Ideal) (broadcastInDim S128x1x1024 ![] bcast_S_S128x1x1024 (constant (F := Ideal) S_ .f32 0x3F800000#32)) (addf (F := Ideal) (broadcastInDim S128x1x1024 ![] bcast_S_S128x1x1024 (constant (F := Ideal) S_ .f32 0x3F800000#32)) (Host.exp (F := Ideal) (Host.negf (F := Ideal) (extractStridedSlice S128x1x1024 ![0, 0, 3584] (shapeCast _ x2 shapeCasts_S128x5632_S128x1x5632) slices_S128x1x5632_S128x1x1024_0_0_3584))))) (Host.dotGeneral (F := Ideal) (φ₁ := .f32) (φ₂ := .f32) dot_S128x1x512_S512x1024_S128x1x1024_2_0_01_1_n_n none (shapeCast _ x0 shapeCasts_S128x512_S128x1x512) (shapeCast _ x6 shapeCasts_S1x512x1024_S512x1024))) (mulf (F := Ideal) (Host.divf (F := Ideal) (broadcastInDim S128x1x1024 ![] bcast_S_S128x1x1024 (constant (F := Ideal) S_ .f32 0x3F800000#32)) (addf (F := Ideal) (broadcastInDim S128x1x1024 ![] bcast_S_S128x1x1024 (constant (F := Ideal) S_ .f32 0x3F800000#32)) (Host.exp (F := Ideal) (Host.negf (F := Ideal) (extractStridedSlice S128x1x1024 ![0, 0, 4608] (shapeCast _ x2 shapeCasts_S128x5632_S128x1x5632) slices_S128x1x5632_S128x1x1024_0_0_4608))))) (Host.dotGeneral (F := Ideal) (φ₁ := .f32) (φ₂ := .f32) dot_S128x1x512_S512x1024_S128x1x1024_2_0_01_1_n_n none (mulf (F := Ideal) (shapeCast _ (mulf (F := Ideal) (mulf (F := Ideal) (shapeCast _ x1 shapeCasts_S128x1x512_S128x1x4x128) (broadcastInDim S128x1x4x128 ![0, 1, 2, 3] bcast_S128x1x4x1_S128x1x4x128_0_1_2_3 (Host.rsqrt (F := Ideal) (addf (F := Ideal) (Host.divf (F := Ideal) (broadcastInDim S128x1x4x1 ![0, 1, 2] bcast_S128x1x4_S128x1x4x1_0_1_2 (Host.reduceAdd (F := Ideal) (mulf (F := Ideal) (shapeCast _ x1 shapeCasts_S128x1x512_S128x1x4x128) (shapeCast _ x1 shapeCasts_S128x1x512_S128x1x4x128)) (constant (F := Ideal) S_ .f32 0x00000000#32) reducesTo_S128x1x4x128_S128x1x4_d3 h_S_)) (broadcastInDim S128x1x4x1 ![] bcast_S_S128x1x4x1 (constant (F := Ideal) S_ .f32 0x43000000#32))) (broadcastInDim S128x1x4x1 ![] bcast_S_S128x1x4x1 (constant (F := Ideal) S_ .f32 0x358637BD#32)))))) (broadcastInDim S128x1x4x128 ![0, 1, 2, 3] bcast_S1x1x1x128_S128x1x4x128_0_1_2_3 (broadcastInDim S1x1x1x128 ![3] bcast_S128_S1x1x1x128_3 (shapeCast _ x5 shapeCasts_S1x128_S128)))) shapeCasts_S128x1x4x128_S128x1x512) (mulf (F := Ideal) (extractStridedSlice S128x1x512 ![0, 0, 3072] (shapeCast _ x2 shapeCasts_S128x5632_S128x1x5632) slices_S128x1x5632_S128x1x512_0_0_3072) (Host.divf (F := Ideal) (broadcastInDim S128x1x512 ![] bcast_S_S128x1x512 (constant (F := Ideal) S_ .f32 0x3F800000#32)) (addf (F := Ideal) (broadcastInDim S128x1x512 ![] bcast_S_S128x1x512 (constant (F := Ideal) S_ .f32 0x3F800000#32)) (Host.exp (F := Ideal) (Host.negf (F := Ideal) (extractStridedSlice S128x1x512 ![0, 0, 3072] (shapeCast _ x2 shapeCasts_S128x5632_S128x1x5632) slices_S128x1x5632_S128x1x512_0_0_3072))))))) (shapeCast _ x7 shapeCasts_S1x512x1024_S512x1024)))) (shapeCast _ x8 shapeCasts_S1x1024x1024_S1024x1024)))) shapeCasts_S128x1x1024_S128x1024

/-- One entry of it: row `n`, column `j`. -/
theorem merged_apply (x0 : Vec Ideal S128x512 .f32) (x1 : Vec Ideal S128x1x512 .f32) (x2 : Vec Ideal S128x5632 .f32) (x3 : Vec Ideal S128x1x1024 .f32) (x4 : Vec Ideal S1x128x1024 .f32) (x5 : Vec Ideal S1x128 .f32) (x6 : Vec Ideal S1x512x1024 .f32) (x7 : Vec Ideal S1x512x1024 .f32) (x8 : Vec Ideal S1x1024x1024 .f32) (n : Fin 128) (j : Fin 1024) :
    merged x0 x1 x2 x3 x4 x5 x6 x7 x8 (ix2 n j) = mergedAt x0 x1 x2 x3 x4 x5 x6 x7 x8 n j := by
  unfold merged
  pointwise
  unfold mergedAt branches headNorm Ideal.logistic
  rfl

end Cert.Reference6Ideal.Value

end
-- ==== Proof.MergeSample.lean ====
module

public import proofs.«01_k».proof.Defs
public import proofs.«01_k».proof.Proof.Gen.Kernel6Ideal.Value
public import proofs.«01_k».proof.Proof.MergeSampleRef
public import Idealize.ShloMosaic.Lib.Pointwise
public import Idealize.ShloMosaic.Lib.Pipeline.ValueKit

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Reference3Ideal.Value (headNorm headNorm_ladder)
open Cert.Reference6Ideal.Value (mergedAt merged merged_apply branches)

/-- The blocks that point `t` reads and writes. -/
theorem idx : ∀ t : Fin cfg0.N,
    (win0_0.index t 0 = (t : ℕ) ∧ win0_0.index t 1 = 0) ∧ (win0_1.index t 0 = (t : ℕ) ∧ win0_1.index t 1 = 0)
    ∧ (win0_2.index t 0 = (t : ℕ) ∧ win0_2.index t 1 = 6) ∧ (win0_3.index t 0 = (t : ℕ) ∧ win0_3.index t 1 = 7)
    ∧ (win0_4.index t 0 = (t : ℕ) ∧ win0_4.index t 1 = 8) ∧ (win0_5.index t 0 = (t : ℕ) ∧ win0_5.index t 1 = 9)
    ∧ (win0_6.index t 0 = (t : ℕ) ∧ win0_6.index t 1 = 10) ∧ (win0_7.index t 0 = (t : ℕ) ∧ win0_7.index t 1 = 0)
    ∧ (win0_8.index t 0 = 0 ∧ win0_8.index t 1 = (t : ℕ) ∧ win0_8.index t 2 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0)
    ∧ (win0_13.index t 0 = (t : ℕ) ∧ win0_13.index t 1 = 0) :=
  (by decide +kernel : ∀ t : Fin grid0.N, _)

/-- The row of the arrays that row `y` of point `t`'s block is. -/
def row (t : Fin cfg0.N) (y : Fin 128) : Fin 128 := ⟨128 * (t : ℕ) + y, by have := t.isLt; have : cfg0.N = 1 := rfl; omega⟩

section reads
variable (c : Dev nD) (t : Fin cfg0.N) (y : Fin 128)

theorem rd0 (j : Fin 512) : iblk m c 0 t (ix2 y j) = m ((c : Thread nD τ).loc main_arg0) (ix2 (row t y) j) := by
  blk_ext [iblk, V, row, idx t]
theorem rd1 (j : Fin 512) : iblk m c 1 t (ix2 y j) = m ((c : Thread nD τ).loc main_arg1) (ix3 (row t y) 0 j) := by
  blk_ext! [iblk, V, row, idx t]
theorem rd2 (j : Fin 512) : iblk m c 2 t (ix2 y j) = m ((c : Thread nD τ).loc main_arg2) (ix2 (row t y) ⟨3072 + (j : ℕ), by omega⟩) := by
  blk_ext [iblk, V, row, idx t]
theorem rd3 (j : Fin 512) : iblk m c 3 t (ix2 y j) = m ((c : Thread nD τ).loc main_arg2) (ix2 (row t y) ⟨3584 + (j : ℕ), by omega⟩) := by
  blk_ext [iblk, V, row, idx t]
theorem rd4 (j : Fin 512) : iblk m c 4 t (ix2 y j) = m ((c : Thread nD τ).loc main_arg2) (ix2 (row t y) ⟨3584 + (512 + (j : ℕ)), by omega⟩) := by
  blk_ext [iblk, V, row, idx t]
theorem rd5 (j : Fin 512) : iblk m c 5 t (ix2 y j) = m ((c : Thread nD τ).loc main_arg2) (ix2 (row t y) ⟨4608 + (j : ℕ), by omega⟩) := by
  blk_ext [iblk, V, row, idx t]
theorem rd6 (j : Fin 512) : iblk m c 6 t (ix2 y j) = m ((c : Thread nD τ).loc main_arg2) (ix2 (row t y) ⟨4608 + (512 + (j : ℕ)), by omega⟩) := by
  blk_ext [iblk, V, row, idx t]
theorem rd7 (j : Fin 1024) : iblk m c 7 t (ix2 y j) = m ((c : Thread nD τ).loc main_arg3) (ix3 (row t y) 0 j) := by
  blk_ext! [iblk, V, row, idx t]
theorem rd8 (j : Fin 1024) : iblk m c 8 t (ix3 0 y j) = m ((c : Thread nD τ).loc main_arg4) (ix3 0 (row t y) j) := by
  blk_ext! [iblk, V, row, idx t]
theorem rd9 (j : Fin 128) : iblk m c 9 t (ix2 0 j) = m ((c : Thread nD τ).loc main_arg5) (ix2 0 j) := by
  blk_ext! [iblk, V, idx t]
theorem rd10 (i : Fin 512) (j : Fin 1024) : iblk m c 10 t (ix2 i j) = m ((c : Thread nD τ).loc main_arg6) (ix3 0 i j) := by
  blk_ext! [iblk, V, idx t]
theorem rd11 (i : Fin 512) (j : Fin 1024) : iblk m c 11 t (ix2 i j) = m ((c : Thread nD τ).loc main_arg7) (ix3 0 i j) := by
  blk_ext! [iblk, V, idx t]
theorem rd12 (i : Fin 1024) (j : Fin 1024) : iblk m c 12 t (ix2 i j) = m ((c : Thread nD τ).loc main_arg8) (ix3 0 i j) := by
  blk_ext! [iblk, V, idx t]
end reads

theorem scaled_congr {a b s s' : EReal} (h : s = s') : a + b * s = a + b * s' := by rw [h]
theorem gated_congr {a b c s s' : EReal} (h : s = s') : (a + b * s) * c = (a + b * s') * c := by rw [h]
theorem factor_congr {a b s s' : EReal} (h : s = s') : s * a * b = s' * a * b := by rw [h]

set_option maxHeartbeats 1000000 in
/-- The array that the kernel leaves is any array with the merged layer's entries. -/
theorem final13_of (c : Dev nD) (G : Vec Ideal S128x1024 .f32) (hG : ∀ (n : Fin 128) (j : Fin 1024), G (ix2 n j) = mergedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n j) :
    (dats m 0 c).arrAt 13 cfg0.N = G := by
  refine (dats m 0 c).arrAt_eq_of_covers 13 _ (by decide +kernel) fun t hf y => ?_
  blk_simp
  rw [after0_13]
  frame_out
  unfold_payloads
  idx_vars y
  pointwise
  simp only [rd0, rd1, rd2, rd3, rd4, rd5, rd6, rd7 m c t y0, rd8 m c t y0, rd9, rd10, rd11, rd12]
  have hi : ((View.whole main_v10).slice (win0_13.rect t)).emb (ix2 y0 y1) = ix2 (row t y0) y1 := by
    blk_ext [row, idx t]
  rw [hi, hG]; unfold mergedAt; rw [ Fin.sum_univ_two_halves 512 512 rfl]
  have hl := headNorm_ladder (fun z => m ((c : Thread nD τ).loc main_arg1) (ix3 (row t y0) 0 z)) (fun d => m ((c : Thread nD τ).loc main_arg5) (ix2 0 d))
  beta_reduce at hl
  unfold branches
  refine scaled_congr (congrArg₂ (· + ·) (Finset.sum_congr rfl fun k _ => ?_) (Finset.sum_congr rfl fun k _ => ?_))
  all_goals exact gated_congr (Finset.sum_congr rfl fun i _ => factor_congr (hl i))

/-- The array that the kernel leaves is the merged layer. -/
theorem final13 (c : Dev nD) : (dats m 0 c).arrAt 13 cfg0.N =
    merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  final13_of m c _ fun n j => merged_apply _ _ _ _ _ _ _ _ _ n j

end Cert.Kernel6Ideal.Value

end
-- ==== Proof.MergeSampleClaim.lean ====
module

public import proofs.«01_k».proof.Proof.MergeSample

@[expose] public section

set_option maxRecDepth 16384

noncomputable section

namespace Cert.MergeSampleClaim

open Idealize.ShloMosaic Idealize.ShloMosaic.TcCoe Idealize.SL.Sem
open Cert.Reference6Ideal.Value (merged)

/-- The kernel's merged output and the reference's are the same array. -/
theorem algebraic : Cert.algebraic_Kernel6Ideal_Reference6Ideal := by
  intro m g m' g' _ he
  refine ⟨fun c => (Cert.Kernel6Ideal.Gen.dats m 0 c).arrAt 13 Cert.Kernel6Ideal.cfg0.N, Cert.Kernel6Ideal.Value.run_blocks m g, ?_⟩
  refine (θ_run _ _ _).mono (fun r h c => ?_) (Cert.Reference6Ideal.Value.run m' g')
  obtain ⟨h0, h1, h2, h3, h4, h5, h6, h7, h8⟩ := he c
  obtain ⟨hv, hrest⟩ := h c
  refine ⟨hv.trans ?_, hrest⟩
  beta_reduce
  rw [Cert.Kernel6Ideal.Value.final13 m c, ← h0, ← h1, ← h2, ← h3, ← h4, ← h5, ← h6, ← h7, ← h8]
  rfl

end Cert.MergeSampleClaim

end
-- ==== Proof.AdaRef.lean ====
module

public import proofs.«01_k».proof.Defs
public import proofs.«01_k».proof.Proof.Gen.Kernel7Ideal.Frame
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Reference7Ideal.Value

open Cert.Reference7Ideal Cert.Reference7Ideal.Gen Idealize.ShloMosaic Idealize.ShloMosaic.TcCoe Idealize.SL.Sem Idealize.ShloMosaic.StableHlo

/-- Column `j` of the modulation of a row `f` of the condition, with weights `w` and bias `b`. -/
def modAt (f : Fin 1024 → EReal) (w : Vec Ideal S1x1024x6144 .f32) (b : Vec Ideal S1x6144 .f32) (j : Fin 6144) : EReal :=
  (∑ k : Fin 1024, f k * Ideal.logistic (f k) * w (ix3 0 k j)) + b (ix2 0 j)

/-- The reference's modulation of the prompt. -/
def modPrompt (x0 : Vec Ideal S4x1024 .f32) (x2 : Vec Ideal S1x1024x6144 .f32) (x3 : Vec Ideal S1x6144 .f32) : Vec Ideal S4x6144 .f32 :=
  addf (F := Ideal) (Host.dotGeneral (F := Ideal) (φ₁ := .f32) (φ₂ := .f32) dot_S4x1024_S1024x6144_S4x6144_1_0_0_1_n_n none (mulf (F := Ideal) x0 (Host.divf (F := Ideal) (broadcastInDim S4x1024 ![] bcast_S_S4x1024 (constant (F := Ideal) S_ .f32 0x3F800000#32)) (addf (F := Ideal) (broadcastInDim S4x1024 ![] bcast_S_S4x1024 (constant (F := Ideal) S_ .f32 0x3F800000#32)) (Host.exp (F := Ideal) (Host.negf (F := Ideal) x0))))) (shapeCast _ x2 shapeCasts_S1x1024x6144_S1024x6144)) (broadcastInDim S4x6144 ![0, 1] bcast_S1x6144_S4x6144_0_1 (broadcastInDim S1x6144 ![1] bcast_S6144_S1x6144_1 (shapeCast _ x3 shapeCasts_S1x6144_S6144)))

/-- The reference's modulation of the sample. -/
def modSample (x1 : Vec Ideal S128x1024 .f32) (x2 : Vec Ideal S1x1024x6144 .f32) (x3 : Vec Ideal S1x6144 .f32) : Vec Ideal S128x6144 .f32 :=
  addf (F := Ideal) (Host.dotGeneral (F := Ideal) (φ₁ := .f32) (φ₂ := .f32) dot_S128x1024_S1024x6144_S128x6144_1_0_0_1_n_n none (mulf (F := Ideal) x1 (Host.divf (F := Ideal) (broadcastInDim S128x1024 ![] bcast_S_S128x1024 (constant (F := Ideal) S_ .f32 0x3F800000#32)) (addf (F := Ideal) (broadcastInDim S128x1024 ![] bcast_S_S128x1024 (constant (F := Ideal) S_ .f32 0x3F800000#32)) (Host.exp (F := Ideal) (Host.negf (F := Ideal) x1))))) (shapeCast _ x2 shapeCasts_S1x1024x6144_S1024x6144)) (broadcastInDim S128x6144 ![0, 1] bcast_S1x6144_S128x6144_0_1 (broadcastInDim S1x6144 ![1] bcast_S6144_S1x6144_1 (shapeCast _ x3 shapeCasts_S1x6144_S6144)))

set_option maxHeartbeats 1000000 in
/-- The prompt's modulation at a row and a column. -/
theorem modPrompt_apply (x0 : Vec Ideal S4x1024 .f32) (x2 : Vec Ideal S1x1024x6144 .f32) (x3 : Vec Ideal S1x6144 .f32) (n : Fin 4) (j : Fin 6144) :
    modPrompt x0 x2 x3 (ix2 n j) = modAt (fun k => x0 (ix2 n k)) x2 x3 j := by
  unfold modPrompt
  pointwise
  unfold modAt
  rfl

set_option maxHeartbeats 1000000 in
/-- The sample's modulation at a row and a column. -/
theorem modSample_apply (x1 : Vec Ideal S128x1024 .f32) (x2 : Vec Ideal S1x1024x6144 .f32) (x3 : Vec Ideal S1x6144 .f32) (n : Fin 128) (j : Fin 6144) :
    modSample x1 x2 x3 (ix2 n j) = modAt (fun k => x1 (ix2 n k)) x2 x3 j := by
  unfold modSample
  pointwise
  unfold modAt
  rfl

end Cert.Reference7Ideal.Value

end
-- ==== Proof.Ada.lean ====
module

public import proofs.«01_k».proof.Defs
public import proofs.«01_k».proof.Proof.AdaRef
public import Idealize.ShloMosaic.Lib.Pipeline.Value
public import Idealize.ShloMosaic.Lib.Pointwise
public import Idealize.ShloMosaic.Lib.Pipeline.ValueKit

@[expose] public section

set_option maxRecDepth 16384

noncomputable section

namespace Cert.Kernel7Ideal.Value

open Cert.Kernel7Ideal Cert.Kernel7Ideal.Gen Idealize.ShloMosaic Idealize.ShloMosaic.TcCoe Idealize.SL.Sem Idealize.ShloMosaic.StableHlo
open Idealize.ShloMosaic.Pipeline (Dat)
open Cert.Reference7Ideal.Value (modAt modPrompt modSample modPrompt_apply modSample_apply)

variable (m : (ℓ : Loc nD τ sig) → Buf (Elt Ideal) ℓ) (ρ : Dev nD → PrngReg)

/-- The blocks that point `t` reads and writes. -/
theorem idx : ∀ t : Fin cfg0.N,
    (win0_0.index t 0 = 0 ∧ win0_0.index t 1 = 0) ∧ (win0_1.index t 0 = 0 ∧ win0_1.index t 1 = (t : ℕ))
    ∧ (win0_2.index t 0 = 0 ∧ win0_2.index t 1 = (t : ℕ)) ∧ (win0_3.index t 0 = 0 ∧ win0_3.index t 1 = (t : ℕ)) :=
  (by decide +kernel : ∀ t : Fin grid0.N, _)

/-- The column of the arrays that column `y` of point `t`'s block is. -/
def col (t : Fin cfg0.N) (y : Fin 768) : Fin 6144 := ⟨768 * (t : ℕ) + y, by have := t.isLt; have : cfg0.N = 8 := rfl; omega⟩

/-- Both batches' conditions, one above the other, padded with zeros. -/
def padded (c : Dev nD) : Vec Ideal S136x1024 .f32 := V m c main_v1

/-- The weights as the kernel finds them, -/
theorem weights (c : Dev nD) (k : Fin 1024) (j : Fin 6144) :
    V m c main_v2 (ix2 k j) = m ((c : Thread nD τ).loc main_arg2) (ix3 0 k j) := by
  simp only [V, V0, hostOps0, List.flatten_cons, List.flatten_nil, List.append_nil]
  after_results
  pointwise

/-- and the bias. -/
theorem bias (c : Dev nD) (j : Fin 6144) :
    V m c main_v4 (ix2 0 j) = m ((c : Thread nD τ).loc main_arg3) (ix2 0 j) := by
  simp only [V, V0, hostOps0, List.flatten_cons, List.flatten_nil, List.append_nil]
  after_results
  pointwise

section reads
variable (c : Dev nD) (t : Fin cfg0.N)

theorem rd0 (n : Fin 136) (k : Fin 1024) : iblk m c 0 t (ix2 n k) = padded m c (ix2 n k) := by
  unfold padded
  blk_ext [iblk, idx t]
theorem rd1 (k : Fin 1024) (y : Fin 768) : iblk m c 1 t (ix2 k y) = m ((c : Thread nD τ).loc main_arg2) (ix3 0 k (col t y)) :=
  (show iblk m c 1 t (ix2 k y) = V m c main_v2 (ix2 k (col t y)) by blk_ext [iblk, col, idx t]).trans (weights m c k _)
theorem rd2 (y : Fin 768) : iblk m c 2 t (ix2 0 y) = m ((c : Thread nD τ).loc main_arg3) (ix2 0 (col t y)) :=
  (show iblk m c 2 t (ix2 0 y) = V m c main_v4 (ix2 0 (col t y)) by blk_ext [iblk, col, idx t]).trans (bias m c _)
end reads

/-- The rows of the padded conditions that belong to the prompt. -/
theorem padded_prompt (c : Dev nD) (n : Fin 4) (k : Fin 1024) :
    padded m c (ix2 ⟨n, by omega⟩ k) = m ((c : Thread nD τ).loc main_arg0) (ix2 n k) := by
  unfold padded
  simp only [V, V0, hostOps0, List.flatten_cons, List.flatten_nil, List.append_nil]
  after_results
  pointwise
  rw [unary_result_ne, nullary_result_ne]
  all_goals decide

/-- The rows of the padded conditions that belong to the sample. -/
theorem padded_sample (c : Dev nD) (n : Fin 128) (k : Fin 1024) :
    padded m c (ix2 ⟨4 + n, by omega⟩ k) = m ((c : Thread nD τ).loc main_arg1) (ix2 n k) := by
  unfold padded
  simp only [V, V0, hostOps0, List.flatten_cons, List.flatten_nil, List.append_nil]
  after_results
  pointwise
  rw [unary_result_ne, nullary_result_ne]
  all_goals decide

/-- The modulation of every row of the padded conditions. -/
def modAll (c : Dev nD) : Vec Ideal S136x6144 .f32 :=
  fun i => modAt (fun k => padded m c (ix2 (i 0) k)) (m ((c : Thread nD τ).loc main_arg2)) (m ((c : Thread nD τ).loc main_arg3)) (i 1)

set_option maxHeartbeats 1000000 in
/-- The array that the kernel leaves. -/
theorem final3 (c : Dev nD) : (dats m 0 c).arrAt 3 cfg0.N = modAll m c := by
  refine (dats m 0 c).arrAt_eq_of_covers 3 _ (by decide +kernel) fun t hf y => ?_
  blk_simp
  rw [after0_3]
  frame_out
  unfold_payloads
  idx_vars y
  pointwise
  simp only [rd0, rd1, rd2]
  have hi : ((View.whole main_v5).slice (win0_3.rect t)).emb (ix2 y0 y1) = ix2 y0 (col t y1) := by
    blk_ext [col, idx t]
  rw [hi]
  unfold modAll modAt
  rfl

/-- What the program returns for the prompt. -/
theorem tail_prompt (c : Dev nD) :
    Pipeline.afterTail₀ cfgs (dats m) 0 (V0 m) [hostOps1] c main_v6 = modPrompt (m ((c : Thread nD τ).loc main_arg0)) (m ((c : Thread nD τ).loc main_arg2)) (m ((c : Thread nD τ).loc main_arg3)) := by
  have hw := Pipeline.withArrays_arr spec0 (by decide) c (V0 m c) (fun w => (dats m 0 c).arrAt w cfg0.N) 3
  rw [final3] at hw
  unfold Pipeline.afterTail₀
  simp only [hostOps1, List.flatten_cons, List.flatten_nil, List.append_nil]
  after_results
  refine (congrArg (fun a => extractStridedSlice S4x6144 ![0, 0] a slices_S136x6144_S4x6144_0_0) hw).trans ?_
  funext i
  idx_vars i
  rw [modPrompt_apply]
  pointwise
  unfold modAll
  exact congrArg (fun f => modAt f _ _ _) (funext fun k => padded_prompt m c i0 k)

/-- What the program returns for the sample. -/
theorem tail_sample (c : Dev nD) :
    Pipeline.afterTail₀ cfgs (dats m) 0 (V0 m) [hostOps1] c main_v7 = modSample (m ((c : Thread nD τ).loc main_arg1)) (m ((c : Thread nD τ).loc main_arg2)) (m ((c : Thread nD τ).loc main_arg3)) := by
  have hw := Pipeline.withArrays_arr spec0 (by decide) c (V0 m c) (fun w => (dats m 0 c).arrAt w cfg0.N) 3
  rw [final3] at hw
  unfold Pipeline.afterTail₀
  simp only [hostOps1, List.flatten_cons, List.flatten_nil, List.append_nil]
  after_results
  refine (congrArg (fun a => extractStridedSlice S128x6144 ![4, 0] a slices_S136x6144_S128x6144_4_0) hw).trans ?_
  funext i
  idx_vars i
  rw [modSample_apply]
  pointwise
  unfold modAll
  exact congrArg (fun f => modAt f _ _ _) (funext fun k => padded_sample m c i0 k)

end Cert.Kernel7Ideal.Value

end
-- ==== Proof.AdaClaim.lean ====
module

public import proofs.«01_k».proof.Proof.Ada

@[expose] public section

set_option maxRecDepth 16384

noncomputable section

namespace Cert.AdaClaim

open Idealize.ShloMosaic Idealize.ShloMosaic.TcCoe Idealize.SL.Sem
open Cert.Reference7Ideal.Value (modPrompt modSample)

/-- The idealized program's run, with both results named. -/
theorem run_kernel (m : (ℓ : Loc Cert.Kernel7Ideal.nD Cert.Kernel7Ideal.τ Cert.Kernel7Ideal.sig) → Buf (Elt Ideal) ℓ) (ρ : Dev Cert.Kernel7Ideal.nD → PrngReg) :
    θ_run (Cert.Kernel7Ideal.defs (F := Ideal)) (onTc (τ := Cert.Kernel7Ideal.τ) (Cert.Kernel7Ideal.main (F := Ideal))) ⟨m, fun _ => 0, ρ⟩ (fun r => ∀ c : Dev Cert.Kernel7Ideal.nD,
      r.2.mem ((c.tc : Thread Cert.Kernel7Ideal.nD Cert.Kernel7Ideal.τ).loc Cert.Kernel7Ideal.main_v6)
          = modPrompt (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))
      ∧ r.2.mem ((c.tc : Thread Cert.Kernel7Ideal.nD Cert.Kernel7Ideal.τ).loc Cert.Kernel7Ideal.main_v7)
          = modSample (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))
      ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)) := by
  refine (θ_run _ _ _).mono (fun r h c => ?_) (θ_run_and (Cert.Kernel7Ideal.Gen.run_main m ρ) (Cert.Kernel7Ideal.Gen.unchanged m ρ))
  exact ⟨((h.1 c).2 Cert.Kernel7Ideal.main_v6 (Pipeline.mem_restRefs_of Cert.Kernel7Ideal.main_v6 (by decide) (by decide))).trans (Cert.Kernel7Ideal.Value.tail_prompt m c),
    ((h.1 c).2 Cert.Kernel7Ideal.main_v7 (Pipeline.mem_restRefs_of Cert.Kernel7Ideal.main_v7 (by decide) (by decide))).trans (Cert.Kernel7Ideal.Value.tail_sample m c),
    h.2 c⟩

/-- The kernel's two modulations and the reference's are the same arrays. -/
theorem algebraic : Cert.algebraic_Kernel7Ideal_Reference7Ideal := by
  intro m g m' g' _ he
  refine ⟨_, _, run_kernel m g, ?_⟩
  refine (θ_run _ _ _).mono (fun r h c => ?_) (Cert.Reference7Ideal.Value.run m' g')
  obtain ⟨h0, h1, h2, h3⟩ := he c
  obtain ⟨hp, hs, hrest⟩ := h c
  refine ⟨hp.trans ?_, hs.trans ?_, hrest⟩
  · beta_reduce
    rw [← h0, ← h2, ← h3]
    rfl
  · beta_reduce
    rw [← h1, ← h2, ← h3]
    rfl

end Cert.AdaClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_inputs_finite
public import proofs.«01_k».proof.Proof.Gen.Pre_inputs_finite_sample
public import proofs.«01_k».proof.Proof.Gen.Pre_lower_bound_finite
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel5Ideal.Value
public import proofs.«01_k».proof.Proof.Gen.Reference5Ideal.Run
public import proofs.«01_k».proof.Proof.Gen.Kernel4Ideal.Value
public import proofs.«01_k».proof.Proof.Gen.Reference4Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.InClaim
public import proofs.«01_k».proof.Proof.MergeClaim
public import proofs.«01_k».proof.Proof.InSampleClaim
public import proofs.«01_k».proof.Proof.SampleClaim
public import proofs.«01_k».proof.Proof.Hgrn.Frame
public import proofs.«01_k».proof.Proof.HgrnIdeal.Claim
public import proofs.«01_k».proof.Proof.MergeSampleClaim
public import proofs.«01_k».proof.Proof.AdaClaim
public import Idealize.ShloMosaic.Adequacy
public import Idealize.ShloMosaic.Init

@[expose] public section

noncomputable section

namespace Cert.Proof

open Idealize.ShloMosaic Idealize.SL.Sem Cert.Kernel2

/-- The projection's reference terminates, leaves its arguments and has no counters. -/
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- The merge's reference terminates, leaves its arguments and has no counters. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- The sample's projection's reference terminates, leaves its arguments and has no counters. -/
theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- The sample's merge's reference terminates, leaves its arguments and has no counters. -/
theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The modulation's reference terminates, leaves its arguments and has no counters. -/
theorem frame_reference7 : Cert.quiescent_Reference7Ideal := fun m ρ _ =>
  (θ_run Cert.Reference7Ideal.defs _ _).mono
    (fun r h => ⟨fun c => (h c).2.2, sem_eq_zero_of_no_sems (by decide) r.2⟩) (Cert.Reference7Ideal.Value.run m ρ)

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel4.Gen.facts, Cert.Kernel4Ideal.Gen.facts, Cert.Reference4Ideal.Gen.facts, Cert.Kernel.Gen.facts, Cert.KernelIdeal.Gen.facts, Cert.ReferenceIdeal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_inputs_finite.Gen.facts, Cert.Pre_inputs_finite_sample.Gen.facts, Cert.Pre_lower_bound_finite.Gen.facts,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel4.Gen.frame m ρ,
  fun m ρ _ => Cert.Kernel4Ideal.Gen.frame m ρ,
  fun m ρ _ => Cert.Kernel4Ideal.Gen.frame m ρ,
  Cert.SampleClaim.frame,
  fun m ρ _ => Cert.SampleClaim.frame m ρ trivial,
  fun m ρ _ => Cert.Kernel.Gen.frame m ρ,
  fun m ρ _ => Cert.KernelIdeal.Gen.frame m ρ,
  Cert.HgrnClaim.frame,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  trivial,
  Cert.InClaim.algebraic,
  trivial,
  Cert.MergeClaim.algebraic,
  trivial,
  Cert.InSampleClaim.algebraic,
  trivial,
  Cert.SampleClaim.algebraic,
  trivial,
  Cert.HgrnClaim.algebraic,
  trivial,
  Cert.MergeSampleClaim.algebraic,
  trivial,
  Cert.AdaClaim.algebraic⟩

end Cert.Proof

end
